-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DtProj (m : (ℓ : Loc Cert.DtProj.nD Cert.DtProj.τ Cert.DtProj.sig) → Buf (Elt Bits) ℓ) : Prop :=
  True

def Pre_DtProjIdeal (m : (ℓ : Loc Cert.DtProjIdeal.nD Cert.DtProjIdeal.τ Cert.DtProjIdeal.sig) → Buf (Elt Ideal) ℓ) : Prop :=
  True

def Pre_DtProjRefIdeal (m : (ℓ : Loc Cert.DtProjRefIdeal.nD Cert.DtProjRefIdeal.τ Cert.DtProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_VCast (m : (ℓ : Loc Cert.VCast.nD Cert.VCast.τ Cert.VCast.sig) → Buf (Elt Bits) ℓ) : Prop :=
  True

def Pre_VCastIdeal (m : (ℓ : Loc Cert.VCastIdeal.nD Cert.VCastIdeal.τ Cert.VCastIdeal.sig) → Buf (Elt Ideal) ℓ) : Prop :=
  True

def Pre_VCastRefIdeal (m : (ℓ : Loc Cert.VCastRefIdeal.nD Cert.VCastRefIdeal.τ Cert.VCastRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_KPrep (m : (ℓ : Loc Cert.KPrep.nD Cert.KPrep.τ Cert.KPrep.sig) → Buf (Elt Bits) ℓ) : Prop :=
  True

def Pre_KPrepIdeal (m : (ℓ : Loc Cert.KPrepIdeal.nD Cert.KPrepIdeal.τ Cert.KPrepIdeal.sig) → Buf (Elt Ideal) ℓ) : Prop :=
  True

def Pre_KPrepRefIdeal (m : (ℓ : Loc Cert.KPrepRefIdeal.nD Cert.KPrepRefIdeal.τ Cert.KPrepRefIdeal.sig) → Buf (Elt Ideal) ℓ) : Prop :=
  True

def Pre_QPrep (m : (ℓ : Loc Cert.QPrep.nD Cert.QPrep.τ Cert.QPrep.sig) → Buf (Elt Bits) ℓ) : Prop :=
  True

def Pre_QPrepIdeal (m : (ℓ : Loc Cert.QPrepIdeal.nD Cert.QPrepIdeal.τ Cert.QPrepIdeal.sig) → Buf (Elt Ideal) ℓ) : Prop :=
  True

def Pre_QPrepRefIdeal (m : (ℓ : Loc Cert.QPrepRefIdeal.nD Cert.QPrepRefIdeal.τ Cert.QPrepRefIdeal.sig) → Buf (Elt Ideal) ℓ) : Prop :=
  True

def Pre_Up [hPre_up_experts_named : Cert.Pre_up_experts_named.Facts] (m : (ℓ : Loc Cert.Up.nD Cert.Up.τ Cert.Up.sig) → Buf (Elt Bits) ℓ) : Prop :=
  ∀ c : Dev Cert.Up.nD,
    (Cert.Pre_up_experts_named.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3))) = (fun _ => 1#1)

def Pre_UpIdeal [hPre_up_experts_named : Cert.Pre_up_experts_named.Facts] (m : (ℓ : Loc Cert.UpIdeal.nD Cert.UpIdeal.τ Cert.UpIdeal.sig) → Buf (Elt Ideal) ℓ) : Prop :=
  ∀ c : Dev Cert.UpIdeal.nD,
    (Cert.Pre_up_experts_named.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_experts_named [hPre_up_experts_named : Cert.Pre_up_experts_named.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_experts_named.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3))) = (fun _ => 1#1)

def Pre_Down [hPre_down_experts_named : Cert.Pre_down_experts_named.Facts] (m : (ℓ : Loc Cert.Down.nD Cert.Down.τ Cert.Down.sig) → Buf (Elt Bits) ℓ) : Prop :=
  ∀ c : Dev Cert.Down.nD,
    (Cert.Pre_down_experts_named.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_experts_named : Cert.Pre_down_experts_named.Facts] (m : (ℓ : Loc Cert.DownIdeal.nD Cert.DownIdeal.τ Cert.DownIdeal.sig) → Buf (Elt Ideal) ℓ) : Prop :=
  ∀ c : Dev Cert.DownIdeal.nD,
    (Cert.Pre_down_experts_named.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_experts_named [hPre_down_experts_named : Cert.Pre_down_experts_named.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_experts_named.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_DtProj [hDtProj : Cert.DtProj.Facts] : Prop :=
  ∀ (m : (ℓ : Loc Cert.DtProj.nD Cert.DtProj.τ Cert.DtProj.sig) → Buf (Elt Bits) ℓ) (g : Dev Cert.DtProj.nD → PrngReg), Pre_DtProj m →
    θ_run (Cert.DtProj.defs (F := Bits)) (onTc (τ := Cert.DtProj.τ) (Cert.DtProj.main (F := Bits))) ⟨m, fun _ => 0, g⟩ (fun r => (∀ c : Dev Cert.DtProj.nD,
      r.2.mem ((c.tc : Thread Cert.DtProj.nD Cert.DtProj.τ).loc Cert.DtProj.main_arg0) = m ((c.tc : Thread Cert.DtProj.nD Cert.DtProj.τ).loc Cert.DtProj.main_arg0)
      ∧ r.2.mem ((c.tc : Thread Cert.DtProj.nD Cert.DtProj.τ).loc Cert.DtProj.main_arg1) = m ((c.tc : Thread Cert.DtProj.nD Cert.DtProj.τ).loc Cert.DtProj.main_arg1))
      ∧ r.2.sem = fun _ => 0)

def quiescent_DtProjIdeal [hDtProjIdeal : Cert.DtProjIdeal.Facts] : Prop :=
  ∀ (m : (ℓ : Loc Cert.DtProjIdeal.nD Cert.DtProjIdeal.τ Cert.DtProjIdeal.sig) → Buf (Elt Ideal) ℓ) (g : Dev Cert.DtProjIdeal.nD → PrngReg), Pre_DtProjIdeal m →
    θ_run (Cert.DtProjIdeal.defs (F := Ideal)) (onTc (τ := Cert.DtProjIdeal.τ) (Cert.DtProjIdeal.main (F := Ideal))) ⟨m, fun _ => 0, g⟩ (fun r => (∀ c : Dev Cert.DtProjIdeal.nD,
      r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
      ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ r.2.sem = fun _ => 0)

def quiescent_DtProjRefIdeal [hDtProjRefIdeal : Cert.DtProjRefIdeal.Facts] : Prop :=
  ∀ (m : (ℓ : Loc Cert.DtProjRefIdeal.nD Cert.DtProjRefIdeal.τ Cert.DtProjRefIdeal.sig) → Buf (Elt Ideal) ℓ) (g : Dev Cert.DtProjRefIdeal.nD → PrngReg), Pre_DtProjRefIdeal m →
    θ_run (Cert.DtProjRefIdeal.defs (F := Ideal)) (onTc (τ := Cert.DtProjRefIdeal.τ) (Cert.DtProjRefIdeal.main (F := Ideal))) ⟨m, fun _ => 0, g⟩ (fun r => (∀ c : Dev Cert.DtProjRefIdeal.nD,
      r.2.mem ((c.tc : Thread Cert.DtProjRefIdeal.nD Cert.DtProjRefIdeal.τ).loc Cert.DtProjRefIdeal.main_arg0) = m ((c.tc : Thread Cert.DtProjRefIdeal.nD Cert.DtProjRefIdeal.τ).loc Cert.DtProjRefIdeal.main_arg0)
      ∧ r.2.mem ((c.tc : Thread Cert.DtProjRefIdeal.nD Cert.DtProjRefIdeal.τ).loc Cert.DtProjRefIdeal.main_arg1) = m ((c.tc : Thread Cert.DtProjRefIdeal.nD Cert.DtProjRefIdeal.τ).loc Cert.DtProjRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_VCast [hVCast : Cert.VCast.Facts] : Prop :=
  ∀ (m : (ℓ : Loc Cert.VCast.nD Cert.VCast.τ Cert.VCast.sig) → Buf (Elt Bits) ℓ) (g : Dev Cert.VCast.nD → PrngReg), Pre_VCast m →
    θ_run (Cert.VCast.defs (F := Bits)) (onTc (τ := Cert.VCast.τ) (Cert.VCast.main (F := Bits))) ⟨m, fun _ => 0, g⟩ (fun r => (∀ c : Dev Cert.VCast.nD,
      r.2.mem ((c.tc : Thread Cert.VCast.nD Cert.VCast.τ).loc Cert.VCast.main_arg0) = m ((c.tc : Thread Cert.VCast.nD Cert.VCast.τ).loc Cert.VCast.main_arg0))
      ∧ r.2.sem = fun _ => 0)

def quiescent_VCastIdeal [hVCastIdeal : Cert.VCastIdeal.Facts] : Prop :=
  ∀ (m : (ℓ : Loc Cert.VCastIdeal.nD Cert.VCastIdeal.τ Cert.VCastIdeal.sig) → Buf (Elt Ideal) ℓ) (g : Dev Cert.VCastIdeal.nD → PrngReg), Pre_VCastIdeal m →
    θ_run (Cert.VCastIdeal.defs (F := Ideal)) (onTc (τ := Cert.VCastIdeal.τ) (Cert.VCastIdeal.main (F := Ideal))) ⟨m, fun _ => 0, g⟩ (fun r => (∀ c : Dev Cert.VCastIdeal.nD,
      r.2.mem ((c.tc : Thread Cert.VCastIdeal.nD Cert.VCastIdeal.τ).loc Cert.VCastIdeal.main_arg0) = m ((c.tc : Thread Cert.VCastIdeal.nD Cert.VCastIdeal.τ).loc Cert.VCastIdeal.main_arg0))
      ∧ r.2.sem = fun _ => 0)

def quiescent_VCastRefIdeal [hVCastRefIdeal : Cert.VCastRefIdeal.Facts] : Prop :=
  ∀ (m : (ℓ : Loc Cert.VCastRefIdeal.nD Cert.VCastRefIdeal.τ Cert.VCastRefIdeal.sig) → Buf (Elt Ideal) ℓ) (g : Dev Cert.VCastRefIdeal.nD → PrngReg), Pre_VCastRefIdeal m →
    θ_run (Cert.VCastRefIdeal.defs (F := Ideal)) (onTc (τ := Cert.VCastRefIdeal.τ) (Cert.VCastRefIdeal.main (F := Ideal))) ⟨m, fun _ => 0, g⟩ (fun r => (∀ c : Dev Cert.VCastRefIdeal.nD,
      r.2.mem ((c.tc : Thread Cert.VCastRefIdeal.nD Cert.VCastRefIdeal.τ).loc Cert.VCastRefIdeal.main_arg0) = m ((c.tc : Thread Cert.VCastRefIdeal.nD Cert.VCastRefIdeal.τ).loc Cert.VCastRefIdeal.main_arg0))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2)
      ∧ r.2.mem ((c.tc : Thread Cert.GateNorm.nD Cert.GateNorm.τ).loc Cert.GateNorm.main_arg3) = m ((c.tc : Thread Cert.GateNorm.nD Cert.GateNorm.τ).loc Cert.GateNorm.main_arg3))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
      ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2)
      ∧ r.2.mem ((c.tc : Thread Cert.GateNormRefIdeal.nD Cert.GateNormRefIdeal.τ).loc Cert.GateNormRefIdeal.main_arg3) = m ((c.tc : Thread Cert.GateNormRefIdeal.nD Cert.GateNormRefIdeal.τ).loc Cert.GateNormRefIdeal.main_arg3))
      ∧ r.2.sem = fun _ => 0)

def quiescent_KPrep [hKPrep : Cert.KPrep.Facts] : Prop :=
  ∀ (m : (ℓ : Loc Cert.KPrep.nD Cert.KPrep.τ Cert.KPrep.sig) → Buf (Elt Bits) ℓ) (g : Dev Cert.KPrep.nD → PrngReg), Pre_KPrep m →
    θ_run (Cert.KPrep.defs (F := Bits)) (onTc (τ := Cert.KPrep.τ) (Cert.KPrep.main (F := Bits))) ⟨m, fun _ => 0, g⟩ (fun r => (∀ c : Dev Cert.KPrep.nD,
      r.2.mem ((c.tc : Thread Cert.KPrep.nD Cert.KPrep.τ).loc Cert.KPrep.main_arg0) = m ((c.tc : Thread Cert.KPrep.nD Cert.KPrep.τ).loc Cert.KPrep.main_arg0)
      ∧ r.2.mem ((c.tc : Thread Cert.KPrep.nD Cert.KPrep.τ).loc Cert.KPrep.main_arg1) = m ((c.tc : Thread Cert.KPrep.nD Cert.KPrep.τ).loc Cert.KPrep.main_arg1))
      ∧ r.2.sem = fun _ => 0)

def quiescent_KPrepIdeal [hKPrepIdeal : Cert.KPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1))
      ∧ r.2.sem = fun _ => 0)

def quiescent_KPrepRefIdeal [hKPrepRefIdeal : Cert.KPrepRefIdeal.Facts] : Prop :=
  ∀ (m : (ℓ : Loc Cert.KPrepRefIdeal.nD Cert.KPrepRefIdeal.τ Cert.KPrepRefIdeal.sig) → Buf (Elt Ideal) ℓ) (g : Dev Cert.KPrepRefIdeal.nD → PrngReg), Pre_KPrepRefIdeal m →
    θ_run (Cert.KPrepRefIdeal.defs (F := Ideal)) (onTc (τ := Cert.KPrepRefIdeal.τ) (Cert.KPrepRefIdeal.main (F := Ideal))) ⟨m, fun _ => 0, g⟩ (fun r => (∀ c : Dev Cert.KPrepRefIdeal.nD,
      r.2.mem ((c.tc : Thread Cert.KPrepRefIdeal.nD Cert.KPrepRefIdeal.τ).loc Cert.KPrepRefIdeal.main_arg0) = m ((c.tc : Thread Cert.KPrepRefIdeal.nD Cert.KPrepRefIdeal.τ).loc Cert.KPrepRefIdeal.main_arg0)
      ∧ r.2.mem ((c.tc : Thread Cert.KPrepRefIdeal.nD Cert.KPrepRefIdeal.τ).loc Cert.KPrepRefIdeal.main_arg1) = m ((c.tc : Thread Cert.KPrepRefIdeal.nD Cert.KPrepRefIdeal.τ).loc Cert.KPrepRefIdeal.main_arg1))
      ∧ r.2.sem = fun _ => 0)

def quiescent_QPrep [hQPrep : Cert.QPrep.Facts] : Prop :=
  ∀ (m : (ℓ : Loc Cert.QPrep.nD Cert.QPrep.τ Cert.QPrep.sig) → Buf (Elt Bits) ℓ) (g : Dev Cert.QPrep.nD → PrngReg), Pre_QPrep m →
    θ_run (Cert.QPrep.defs (F := Bits)) (onTc (τ := Cert.QPrep.τ) (Cert.QPrep.main (F := Bits))) ⟨m, fun _ => 0, g⟩ (fun r => (∀ c : Dev Cert.QPrep.nD,
      r.2.mem ((c.tc : Thread Cert.QPrep.nD Cert.QPrep.τ).loc Cert.QPrep.main_arg0) = m ((c.tc : Thread Cert.QPrep.nD Cert.QPrep.τ).loc Cert.QPrep.main_arg0)
      ∧ r.2.mem ((c.tc : Thread Cert.QPrep.nD Cert.QPrep.τ).loc Cert.QPrep.main_arg1) = m ((c.tc : Thread Cert.QPrep.nD Cert.QPrep.τ).loc Cert.QPrep.main_arg1))
      ∧ r.2.sem = fun _ => 0)

def quiescent_QPrepIdeal [hQPrepIdeal : Cert.QPrepIdeal.Facts] : Prop :=
  ∀ (m : (ℓ : Loc Cert.QPrepIdeal.nD Cert.QPrepIdeal.τ Cert.QPrepIdeal.sig) → Buf (Elt Ideal) ℓ) (g : Dev Cert.QPrepIdeal.nD → PrngReg), Pre_QPrepIdeal m →
    θ_run (Cert.QPrepIdeal.defs (F := Ideal)) (onTc (τ := Cert.QPrepIdeal.τ) (Cert.QPrepIdeal.main (F := Ideal))) ⟨m, fun _ => 0, g⟩ (fun r => (∀ c : Dev Cert.QPrepIdeal.nD,
      r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
      ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1))
      ∧ r.2.sem = fun _ => 0)

def quiescent_QPrepRefIdeal [hQPrepRefIdeal : Cert.QPrepRefIdeal.Facts] : Prop :=
  ∀ (m : (ℓ : Loc Cert.QPrepRefIdeal.nD Cert.QPrepRefIdeal.τ Cert.QPrepRefIdeal.sig) → Buf (Elt Ideal) ℓ) (g : Dev Cert.QPrepRefIdeal.nD → PrngReg), Pre_QPrepRefIdeal m →
    θ_run (Cert.QPrepRefIdeal.defs (F := Ideal)) (onTc (τ := Cert.QPrepRefIdeal.τ) (Cert.QPrepRefIdeal.main (F := Ideal))) ⟨m, fun _ => 0, g⟩ (fun r => (∀ c : Dev Cert.QPrepRefIdeal.nD,
      r.2.mem ((c.tc : Thread Cert.QPrepRefIdeal.nD Cert.QPrepRefIdeal.τ).loc Cert.QPrepRefIdeal.main_arg0) = m ((c.tc : Thread Cert.QPrepRefIdeal.nD Cert.QPrepRefIdeal.τ).loc Cert.QPrepRefIdeal.main_arg0)
      ∧ r.2.mem ((c.tc : Thread Cert.QPrepRefIdeal.nD Cert.QPrepRefIdeal.τ).loc Cert.QPrepRefIdeal.main_arg1) = m ((c.tc : Thread Cert.QPrepRefIdeal.nD Cert.QPrepRefIdeal.τ).loc Cert.QPrepRefIdeal.main_arg1))
      ∧ r.2.sem = fun _ => 0)

def quiescent_Up [hUp : Cert.Up.Facts] [hPre_up_experts_named : Cert.Pre_up_experts_named.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] [hPre_up_experts_named : Cert.Pre_up_experts_named.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_UpRefIdeal_pre_up_experts_named [hUpRefIdeal : Cert.UpRefIdeal.Facts] [hPre_up_experts_named : Cert.Pre_up_experts_named.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_experts_named m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] [hPre_down_experts_named : Cert.Pre_down_experts_named.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_experts_named : Cert.Pre_down_experts_named.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_down_experts_named [hDownRefIdeal : Cert.DownRefIdeal.Facts] [hPre_down_experts_named : Cert.Pre_down_experts_named.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_experts_named m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v11) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v10_0)) (v1 : (c : Dev Cert.OutProjIdeal.nD) → Buf (Elt Ideal) ((c.tc : Thread Cert.OutProjIdeal.nD Cert.OutProjIdeal.τ).loc Cert.OutProjIdeal.main_v10_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10_0) = v0 c
          ∧ r.2.mem ((c.tc : Thread Cert.OutProjIdeal.nD Cert.OutProjIdeal.τ).loc Cert.OutProjIdeal.main_v10_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v30) = v0 c
          ∧ r.2.mem ((c.tc : Thread Cert.OutProjRefIdeal.nD Cert.OutProjRefIdeal.τ).loc Cert.OutProjRefIdeal.main_v31) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_DtProj_DtProjIdeal : Prop :=
  True

def algebraic_DtProjIdeal_DtProjRefIdeal [hDtProjIdeal : Cert.DtProjIdeal.Facts] [hDtProjRefIdeal : Cert.DtProjRefIdeal.Facts] : Prop :=
  ∀ (m : (ℓ : Loc Cert.DtProjIdeal.nD Cert.DtProjIdeal.τ Cert.DtProjIdeal.sig) → Buf (Elt Ideal) ℓ) (g : Dev Cert.DtProjIdeal.nD → PrngReg)
    (m' : (ℓ : Loc Cert.DtProjRefIdeal.nD Cert.DtProjRefIdeal.τ Cert.DtProjRefIdeal.sig) → Buf (Elt Ideal) ℓ) (g' : Dev Cert.DtProjRefIdeal.nD → PrngReg), Pre_DtProjIdeal m →
    (∀ c : Dev Cert.DtProjIdeal.nD,
      m' ((c.tc : Thread Cert.DtProjRefIdeal.nD Cert.DtProjRefIdeal.τ).loc Cert.DtProjRefIdeal.main_arg0) = m ((c.tc : Thread Cert.DtProjIdeal.nD Cert.DtProjIdeal.τ).loc Cert.DtProjIdeal.main_arg0)
      ∧ m' ((c.tc : Thread Cert.DtProjRefIdeal.nD Cert.DtProjRefIdeal.τ).loc Cert.DtProjRefIdeal.main_arg1) = m ((c.tc : Thread Cert.DtProjIdeal.nD Cert.DtProjIdeal.τ).loc Cert.DtProjIdeal.main_arg1)) →
    ∃ (v0 : (c : Dev Cert.DtProjIdeal.nD) → Buf (Elt Ideal) ((c.tc : Thread Cert.DtProjIdeal.nD Cert.DtProjIdeal.τ).loc Cert.DtProjIdeal.main_v13)),
      θ_run (Cert.DtProjIdeal.defs (F := Ideal)) (onTc (τ := Cert.DtProjIdeal.τ) (Cert.DtProjIdeal.main (F := Ideal))) ⟨m, fun _ => 0, g⟩ (fun r => ∀ c : Dev Cert.DtProjIdeal.nD,
          r.2.mem ((c.tc : Thread Cert.DtProjIdeal.nD Cert.DtProjIdeal.τ).loc Cert.DtProjIdeal.main_v13) = v0 c
          ∧ r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
          ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ θ_run (Cert.DtProjRefIdeal.defs (F := Ideal)) (onTc (τ := Cert.DtProjRefIdeal.τ) (Cert.DtProjRefIdeal.main (F := Ideal))) ⟨m', fun _ => 0, g'⟩ (fun r => ∀ c : Dev Cert.DtProjRefIdeal.nD,
          r.2.mem ((c.tc : Thread Cert.DtProjRefIdeal.nD Cert.DtProjRefIdeal.τ).loc Cert.DtProjRefIdeal.main_v11) = v0 c
          ∧ r.2.mem ((c.tc : Thread Cert.DtProjRefIdeal.nD Cert.DtProjRefIdeal.τ).loc Cert.DtProjRefIdeal.main_arg0) = m' ((c.tc : Thread Cert.DtProjRefIdeal.nD Cert.DtProjRefIdeal.τ).loc Cert.DtProjRefIdeal.main_arg0)
          ∧ r.2.mem ((c.tc : Thread Cert.DtProjRefIdeal.nD Cert.DtProjRefIdeal.τ).loc Cert.DtProjRefIdeal.main_arg1) = m' ((c.tc : Thread Cert.DtProjRefIdeal.nD Cert.DtProjRefIdeal.τ).loc Cert.DtProjRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v53) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_VCast_VCastIdeal : Prop :=
  True

def algebraic_VCastIdeal_VCastRefIdeal [hVCastIdeal : Cert.VCastIdeal.Facts] [hVCastRefIdeal : Cert.VCastRefIdeal.Facts] : Prop :=
  ∀ (m : (ℓ : Loc Cert.VCastIdeal.nD Cert.VCastIdeal.τ Cert.VCastIdeal.sig) → Buf (Elt Ideal) ℓ) (g : Dev Cert.VCastIdeal.nD → PrngReg)
    (m' : (ℓ : Loc Cert.VCastRefIdeal.nD Cert.VCastRefIdeal.τ Cert.VCastRefIdeal.sig) → Buf (Elt Ideal) ℓ) (g' : Dev Cert.VCastRefIdeal.nD → PrngReg), Pre_VCastIdeal m →
    (∀ c : Dev Cert.VCastIdeal.nD,
      m' ((c.tc : Thread Cert.VCastRefIdeal.nD Cert.VCastRefIdeal.τ).loc Cert.VCastRefIdeal.main_arg0) = m ((c.tc : Thread Cert.VCastIdeal.nD Cert.VCastIdeal.τ).loc Cert.VCastIdeal.main_arg0)) →
    ∃ (v0 : (c : Dev Cert.VCastIdeal.nD) → Buf (Elt Ideal) ((c.tc : Thread Cert.VCastIdeal.nD Cert.VCastIdeal.τ).loc Cert.VCastIdeal.main_v0)),
      θ_run (Cert.VCastIdeal.defs (F := Ideal)) (onTc (τ := Cert.VCastIdeal.τ) (Cert.VCastIdeal.main (F := Ideal))) ⟨m, fun _ => 0, g⟩ (fun r => ∀ c : Dev Cert.VCastIdeal.nD,
          r.2.mem ((c.tc : Thread Cert.VCastIdeal.nD Cert.VCastIdeal.τ).loc Cert.VCastIdeal.main_v0) = v0 c
          ∧ r.2.mem ((c.tc : Thread Cert.VCastIdeal.nD Cert.VCastIdeal.τ).loc Cert.VCastIdeal.main_arg0) = m ((c.tc : Thread Cert.VCastIdeal.nD Cert.VCastIdeal.τ).loc Cert.VCastIdeal.main_arg0))
      ∧ θ_run (Cert.VCastRefIdeal.defs (F := Ideal)) (onTc (τ := Cert.VCastRefIdeal.τ) (Cert.VCastRefIdeal.main (F := Ideal))) ⟨m', fun _ => 0, g'⟩ (fun r => ∀ c : Dev Cert.VCastRefIdeal.nD,
          r.2.mem ((c.tc : Thread Cert.VCastRefIdeal.nD Cert.VCastRefIdeal.τ).loc Cert.VCastRefIdeal.main_v1) = v0 c
          ∧ r.2.mem ((c.tc : Thread Cert.VCastRefIdeal.nD Cert.VCastRefIdeal.τ).loc Cert.VCastRefIdeal.main_arg0) = m' ((c.tc : Thread Cert.VCastRefIdeal.nD Cert.VCastRefIdeal.τ).loc Cert.VCastRefIdeal.main_arg0))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)
      ∧ m' ((c.tc : Thread Cert.GateNormRefIdeal.nD Cert.GateNormRefIdeal.τ).loc Cert.GateNormRefIdeal.main_arg3) = m ((c.tc : Thread Cert.GateNormIdeal.nD Cert.GateNormIdeal.τ).loc Cert.GateNormIdeal.main_arg3)) →
    ∃ (v0 : (c : Dev Cert.GateNormIdeal.nD) → Buf (Elt Ideal) ((c.tc : Thread Cert.GateNormIdeal.nD Cert.GateNormIdeal.τ).loc Cert.GateNormIdeal.main_v1)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v1) = v0 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
          ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v28) = v0 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2)
          ∧ r.2.mem ((c.tc : Thread Cert.GateNormRefIdeal.nD Cert.GateNormRefIdeal.τ).loc Cert.GateNormRefIdeal.main_arg3) = m' ((c.tc : Thread Cert.GateNormRefIdeal.nD Cert.GateNormRefIdeal.τ).loc Cert.GateNormRefIdeal.main_arg3))

def preserves_KPrep_KPrepIdeal : Prop :=
  True

def algebraic_KPrepIdeal_KPrepRefIdeal [hKPrepIdeal : Cert.KPrepIdeal.Facts] [hKPrepRefIdeal : Cert.KPrepRefIdeal.Facts] : Prop :=
  ∀ (m : (ℓ : Loc Cert.KPrepIdeal.nD Cert.KPrepIdeal.τ Cert.KPrepIdeal.sig) → Buf (Elt Ideal) ℓ) (g : Dev Cert.KPrepIdeal.nD → PrngReg)
    (m' : (ℓ : Loc Cert.KPrepRefIdeal.nD Cert.KPrepRefIdeal.τ Cert.KPrepRefIdeal.sig) → Buf (Elt Ideal) ℓ) (g' : Dev Cert.KPrepRefIdeal.nD → PrngReg), Pre_KPrepIdeal m →
    (∀ c : Dev Cert.KPrepIdeal.nD,
      m' ((c.tc : Thread Cert.KPrepRefIdeal.nD Cert.KPrepRefIdeal.τ).loc Cert.KPrepRefIdeal.main_arg0) = m ((c.tc : Thread Cert.KPrepIdeal.nD Cert.KPrepIdeal.τ).loc Cert.KPrepIdeal.main_arg0)
      ∧ m' ((c.tc : Thread Cert.KPrepRefIdeal.nD Cert.KPrepRefIdeal.τ).loc Cert.KPrepRefIdeal.main_arg1) = m ((c.tc : Thread Cert.KPrepIdeal.nD Cert.KPrepIdeal.τ).loc Cert.KPrepIdeal.main_arg1)) →
    ∃ (v0 : (c : Dev Cert.KPrepIdeal.nD) → Buf (Elt Ideal) ((c.tc : Thread Cert.KPrepIdeal.nD Cert.KPrepIdeal.τ).loc Cert.KPrepIdeal.main_v49)),
      θ_run (Cert.KPrepIdeal.defs (F := Ideal)) (onTc (τ := Cert.KPrepIdeal.τ) (Cert.KPrepIdeal.main (F := Ideal))) ⟨m, fun _ => 0, g⟩ (fun r => ∀ c : Dev Cert.KPrepIdeal.nD,
          r.2.mem ((c.tc : Thread Cert.KPrepIdeal.nD Cert.KPrepIdeal.τ).loc Cert.KPrepIdeal.main_v49) = v0 c
          ∧ r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
          ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1))
      ∧ θ_run (Cert.KPrepRefIdeal.defs (F := Ideal)) (onTc (τ := Cert.KPrepRefIdeal.τ) (Cert.KPrepRefIdeal.main (F := Ideal))) ⟨m', fun _ => 0, g'⟩ (fun r => ∀ c : Dev Cert.KPrepRefIdeal.nD,
          r.2.mem ((c.tc : Thread Cert.KPrepRefIdeal.nD Cert.KPrepRefIdeal.τ).loc Cert.KPrepRefIdeal.main_v79) = v0 c
          ∧ r.2.mem ((c.tc : Thread Cert.KPrepRefIdeal.nD Cert.KPrepRefIdeal.τ).loc Cert.KPrepRefIdeal.main_arg0) = m' ((c.tc : Thread Cert.KPrepRefIdeal.nD Cert.KPrepRefIdeal.τ).loc Cert.KPrepRefIdeal.main_arg0)
          ∧ r.2.mem ((c.tc : Thread Cert.KPrepRefIdeal.nD Cert.KPrepRefIdeal.τ).loc Cert.KPrepRefIdeal.main_arg1) = m' ((c.tc : Thread Cert.KPrepRefIdeal.nD Cert.KPrepRefIdeal.τ).loc Cert.KPrepRefIdeal.main_arg1))

def preserves_QPrep_QPrepIdeal : Prop :=
  True

def algebraic_QPrepIdeal_QPrepRefIdeal [hQPrepIdeal : Cert.QPrepIdeal.Facts] [hQPrepRefIdeal : Cert.QPrepRefIdeal.Facts] : Prop :=
  ∀ (m : (ℓ : Loc Cert.QPrepIdeal.nD Cert.QPrepIdeal.τ Cert.QPrepIdeal.sig) → Buf (Elt Ideal) ℓ) (g : Dev Cert.QPrepIdeal.nD → PrngReg)
    (m' : (ℓ : Loc Cert.QPrepRefIdeal.nD Cert.QPrepRefIdeal.τ Cert.QPrepRefIdeal.sig) → Buf (Elt Ideal) ℓ) (g' : Dev Cert.QPrepRefIdeal.nD → PrngReg), Pre_QPrepIdeal m →
    (∀ c : Dev Cert.QPrepIdeal.nD,
      m' ((c.tc : Thread Cert.QPrepRefIdeal.nD Cert.QPrepRefIdeal.τ).loc Cert.QPrepRefIdeal.main_arg0) = m ((c.tc : Thread Cert.QPrepIdeal.nD Cert.QPrepIdeal.τ).loc Cert.QPrepIdeal.main_arg0)
      ∧ m' ((c.tc : Thread Cert.QPrepRefIdeal.nD Cert.QPrepRefIdeal.τ).loc Cert.QPrepRefIdeal.main_arg1) = m ((c.tc : Thread Cert.QPrepIdeal.nD Cert.QPrepIdeal.τ).loc Cert.QPrepIdeal.main_arg1)) →
    ∃ (v0 : (c : Dev Cert.QPrepIdeal.nD) → Buf (Elt Ideal) ((c.tc : Thread Cert.QPrepIdeal.nD Cert.QPrepIdeal.τ).loc Cert.QPrepIdeal.main_v49)),
      θ_run (Cert.QPrepIdeal.defs (F := Ideal)) (onTc (τ := Cert.QPrepIdeal.τ) (Cert.QPrepIdeal.main (F := Ideal))) ⟨m, fun _ => 0, g⟩ (fun r => ∀ c : Dev Cert.QPrepIdeal.nD,
          r.2.mem ((c.tc : Thread Cert.QPrepIdeal.nD Cert.QPrepIdeal.τ).loc Cert.QPrepIdeal.main_v49) = v0 c
          ∧ r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
          ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1))
      ∧ θ_run (Cert.QPrepRefIdeal.defs (F := Ideal)) (onTc (τ := Cert.QPrepRefIdeal.τ) (Cert.QPrepRefIdeal.main (F := Ideal))) ⟨m', fun _ => 0, g'⟩ (fun r => ∀ c : Dev Cert.QPrepRefIdeal.nD,
          r.2.mem ((c.tc : Thread Cert.QPrepRefIdeal.nD Cert.QPrepRefIdeal.τ).loc Cert.QPrepRefIdeal.main_v63) = v0 c
          ∧ r.2.mem ((c.tc : Thread Cert.QPrepRefIdeal.nD Cert.QPrepRefIdeal.τ).loc Cert.QPrepRefIdeal.main_arg0) = m' ((c.tc : Thread Cert.QPrepRefIdeal.nD Cert.QPrepRefIdeal.τ).loc Cert.QPrepRefIdeal.main_arg0)
          ∧ r.2.mem ((c.tc : Thread Cert.QPrepRefIdeal.nD Cert.QPrepRefIdeal.τ).loc Cert.QPrepRefIdeal.main_arg1) = m' ((c.tc : Thread Cert.QPrepRefIdeal.nD Cert.QPrepRefIdeal.τ).loc Cert.QPrepRefIdeal.main_arg1))

def preserves_Up_UpIdeal : Prop :=
  True

def algebraic_UpIdeal_UpRefIdeal [hUpIdeal : Cert.UpIdeal.Facts] [hUpRefIdeal : Cert.UpRefIdeal.Facts] [hPre_up_experts_named : Cert.Pre_up_experts_named.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] [hPre_down_experts_named : Cert.Pre_down_experts_named.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v20) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hDtProj : Cert.DtProj.Facts) (hDtProjIdeal : Cert.DtProjIdeal.Facts) (hDtProjRefIdeal : Cert.DtProjRefIdeal.Facts) (hNorm : Cert.Norm.Facts) (hNormIdeal : Cert.NormIdeal.Facts) (hNormRefIdeal : Cert.NormRefIdeal.Facts) (hVCast : Cert.VCast.Facts) (hVCastIdeal : Cert.VCastIdeal.Facts) (hVCastRefIdeal : Cert.VCastRefIdeal.Facts) (hGateNorm : Cert.GateNorm.Facts) (hGateNormIdeal : Cert.GateNormIdeal.Facts) (hGateNormRefIdeal : Cert.GateNormRefIdeal.Facts) (hKPrep : Cert.KPrep.Facts) (hKPrepIdeal : Cert.KPrepIdeal.Facts) (hKPrepRefIdeal : Cert.KPrepRefIdeal.Facts) (hQPrep : Cert.QPrep.Facts) (hQPrepIdeal : Cert.QPrepIdeal.Facts) (hQPrepRefIdeal : Cert.QPrepRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPre_up_experts_named : Cert.Pre_up_experts_named.Facts) (hPre_down_experts_named : Cert.Pre_down_experts_named.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DtProj (hDtProj := hDtProj)
    ∧ quiescent_DtProjIdeal (hDtProjIdeal := hDtProjIdeal)
    ∧ quiescent_DtProjRefIdeal (hDtProjRefIdeal := hDtProjRefIdeal)
    ∧ quiescent_Norm (hNorm := hNorm)
    ∧ quiescent_NormIdeal (hNormIdeal := hNormIdeal)
    ∧ quiescent_NormRefIdeal (hNormRefIdeal := hNormRefIdeal)
    ∧ quiescent_VCast (hVCast := hVCast)
    ∧ quiescent_VCastIdeal (hVCastIdeal := hVCastIdeal)
    ∧ quiescent_VCastRefIdeal (hVCastRefIdeal := hVCastRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_KPrep (hKPrep := hKPrep)
    ∧ quiescent_KPrepIdeal (hKPrepIdeal := hKPrepIdeal)
    ∧ quiescent_KPrepRefIdeal (hKPrepRefIdeal := hKPrepRefIdeal)
    ∧ quiescent_QPrep (hQPrep := hQPrep)
    ∧ quiescent_QPrepIdeal (hQPrepIdeal := hQPrepIdeal)
    ∧ quiescent_QPrepRefIdeal (hQPrepRefIdeal := hQPrepRefIdeal)
    ∧ quiescent_Up (hUp := hUp) (hPre_up_experts_named := hPre_up_experts_named)
    ∧ quiescent_UpIdeal (hUpIdeal := hUpIdeal) (hPre_up_experts_named := hPre_up_experts_named)
    ∧ quiescent_UpRefIdeal (hUpRefIdeal := hUpRefIdeal)
    ∧ quiescent_UpRefIdeal_pre_up_experts_named (hUpRefIdeal := hUpRefIdeal) (hPre_up_experts_named := hPre_up_experts_named)
    ∧ quiescent_Down (hDown := hDown) (hPre_down_experts_named := hPre_down_experts_named)
    ∧ quiescent_DownIdeal (hDownIdeal := hDownIdeal) (hPre_down_experts_named := hPre_down_experts_named)
    ∧ quiescent_DownRefIdeal (hDownRefIdeal := hDownRefIdeal)
    ∧ quiescent_DownRefIdeal_pre_down_experts_named (hDownRefIdeal := hDownRefIdeal) (hPre_down_experts_named := hPre_down_experts_named)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_DtProj_DtProjIdeal
    ∧ algebraic_DtProjIdeal_DtProjRefIdeal (hDtProjIdeal := hDtProjIdeal) (hDtProjRefIdeal := hDtProjRefIdeal)
    ∧ preserves_Norm_NormIdeal
    ∧ algebraic_NormIdeal_NormRefIdeal (hNormIdeal := hNormIdeal) (hNormRefIdeal := hNormRefIdeal)
    ∧ preserves_VCast_VCastIdeal
    ∧ algebraic_VCastIdeal_VCastRefIdeal (hVCastIdeal := hVCastIdeal) (hVCastRefIdeal := hVCastRefIdeal)
    ∧ preserves_GateNorm_GateNormIdeal
    ∧ algebraic_GateNormIdeal_GateNormRefIdeal (hGateNormIdeal := hGateNormIdeal) (hGateNormRefIdeal := hGateNormRefIdeal)
    ∧ preserves_KPrep_KPrepIdeal
    ∧ algebraic_KPrepIdeal_KPrepRefIdeal (hKPrepIdeal := hKPrepIdeal) (hKPrepRefIdeal := hKPrepRefIdeal)
    ∧ preserves_QPrep_QPrepIdeal
    ∧ algebraic_QPrepIdeal_QPrepRefIdeal (hQPrepIdeal := hQPrepIdeal) (hQPrepRefIdeal := hQPrepRefIdeal)
    ∧ preserves_Up_UpIdeal
    ∧ algebraic_UpIdeal_UpRefIdeal (hUpIdeal := hUpIdeal) (hUpRefIdeal := hUpRefIdeal) (hPre_up_experts_named := hPre_up_experts_named)
    ∧ preserves_Down_DownIdeal
    ∧ algebraic_DownIdeal_DownRefIdeal (hDownIdeal := hDownIdeal) (hDownRefIdeal := hDownRefIdeal) (hPre_down_experts_named := hPre_down_experts_named)
-- ==== Pre_down_experts_named.lean ====
abbrev S288 : Shape := ⟨1, ![288]⟩
abbrev S73728x2048 : Shape := ⟨2, ![73728, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : FVec F S73728x2048 .bf16) (main_arg2 : FVec F S32x2048x2048 .f32) (main_arg3 : FVec F S32x2048 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_up_experts_named.lean ====
abbrev S288 : Shape := ⟨1, ![288]⟩
abbrev S73728x2048 : Shape := ⟨2, ![73728, 2048]⟩
abbrev S32x2048x4096 : Shape := ⟨3, ![32, 2048, 4096]⟩
abbrev S32x4096 : Shape := ⟨2, ![32, 4096]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : FVec F S73728x2048 .bf16) (main_arg2 : FVec F S32x2048x4096 .f32) (main_arg3 : FVec F S32x4096 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Kernel.lean ====
abbrev S16384x2048 : Shape := ⟨2, ![16384, 2048]⟩
abbrev S16896x512 : Shape := ⟨2, ![16896, 512]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S128x2048 : Shape := ⟨2, ![128, 2048]⟩
abbrev S128x512 : Shape := ⟨2, ![128, 512]⟩
abbrev S256x512 : Shape := ⟨2, ![256, 512]⟩
abbrev S512x384 : Shape := ⟨2, ![512, 384]⟩
abbrev S128x128 : Shape := ⟨2, ![128, 128]⟩
abbrev S512x128 : Shape := ⟨2, ![512, 128]⟩
abbrev S384x128 : Shape := ⟨2, ![384, 128]⟩
abbrev S256x128 : Shape := ⟨2, ![256, 128]⟩
abbrev S512x256 : Shape := ⟨2, ![512, 256]⟩
abbrev S1x1 : Shape := ⟨2, ![1, 1]⟩
abbrev S128x1 : Shape := ⟨2, ![128, 1]⟩
abbrev S512x1 : Shape := ⟨2, ![512, 1]⟩
abbrev S512 : Shape := ⟨1, ![512]⟩

abbrev nBuf : Space → Nat
  | .hbm => 13
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16896x512, .bf16⟩
  | .hbm, ⟨2, _⟩ => ⟨S16896x512, .bf16⟩
  | .hbm, ⟨3, _⟩ => ⟨S16, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S1x128, .f32⟩
  | .local _ .vmem, ⟨19, _⟩ => ⟨S128x2048, .bf16⟩
  | .local _ .vmem, ⟨20, _⟩ => ⟨S128x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x2048 : Shape := ⟨2, ![16384, 2048]⟩
abbrev S16896x512 : Shape := ⟨2, ![16896, 512]⟩
abbrev S16 : Shape := ⟨1, ![16]⟩
abbrev S2x64x128x4x4x128 : Shape := ⟨6, ![2, 64, 128, 4, 4, 128]⟩
abbrev S512x512 : Shape := ⟨2, ![512, 512]⟩
abbrev S2x256x4x128 : Shape := ⟨4, ![2, 256, 4, 128]⟩
abbrev S16384x512 : Shape := ⟨2, ![16384, 512]⟩
abbrev S2x8192x4x128 : Shape := ⟨4, ![2, 8192, 4, 128]⟩
abbrev S_ : Shape := ⟨0, ![]⟩
abbrev S2x8448x4x128 : Shape := ⟨4, ![2, 8448, 4, 128]⟩
abbrev S2x66x128x4x128 : Shape := ⟨5, ![2, 66, 128, 4, 128]⟩
abbrev S2x64x128x4x128 : Shape := ⟨5, ![2, 64, 128, 4, 128]⟩
abbrev S2x64x384x4x128 : Shape := ⟨5, ![2, 64, 384, 4, 128]⟩
abbrev S2x64x4x384x128x4 : Shape := ⟨6, ![2, 64, 4, 384, 128, 4]⟩
abbrev S2x64x4x4x128x384 : Shape := ⟨6, ![2, 64, 4, 4, 128, 384]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S384 : Shape := ⟨1, ![384]⟩
abbrev S1x384 : Shape := ⟨2, ![1, 384]⟩
abbrev S64x384 : Shape := ⟨2, ![64, 384]⟩
abbrev S64x1x384 : Shape := ⟨3, ![64, 1, 384]⟩
abbrev S64x128x1 : Shape := ⟨3, ![64, 128, 1]⟩
abbrev S64x128x384 : Shape := ⟨3, ![64, 128, 384]⟩
abbrev S1x64x1x1x128x384 : Shape := ⟨6, ![1, 64, 1, 1, 128, 384]⟩
abbrev S2x4x256x64x128x4 : Shape := ⟨6, ![2, 4, 256, 64, 128, 4]⟩
abbrev S2x64x4x4x128x256 : Shape := ⟨6, ![2, 64, 4, 4, 128, 256]⟩
abbrev S4x4 : Shape := ⟨2, ![4, 4]⟩
abbrev S1x1x4x4x1x1 : Shape := ⟨6, ![1, 1, 4, 4, 1, 1]⟩
abbrev S2x64x4x4x128 : Shape := ⟨5, ![2, 64, 4, 4, 128]⟩
abbrev S2x64x4x4x128x1 : Shape := ⟨6, ![2, 64, 4, 4, 128, 1]⟩
abbrev S2x64x4x128x4x128 : Shape := ⟨6, ![2, 64, 4, 128, 4, 128]⟩
abbrev S2x4x128x64x4x128 : Shape := ⟨6, ![2, 4, 128, 64, 4, 128]⟩

abbrev nBuf : Space → Nat
  | .hbm => 123
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16896x512, .bf16⟩
  | .hbm, ⟨2, _⟩ => ⟨S16896x512, .bf16⟩
  | .hbm, ⟨3, _⟩ => ⟨S16, .f32⟩
  | .hbm, ⟨4, _⟩ => ⟨S16384x2048, .f32⟩
  | .hbm, ⟨5, _⟩ => ⟨S16896x512, .f32⟩
  | .hbm, ⟨6, _⟩ => ⟨S16896x512, .f32⟩
  | .hbm, ⟨7, _⟩ => ⟨S2x64x128x4x4x128, .f32⟩
  | .hbm, ⟨8, _⟩ => ⟨S512x512, .f32⟩
  | .hbm, ⟨9, _⟩ => ⟨S2x256x4x128, .f32⟩
  | .hbm, ⟨10, _⟩ => ⟨S512x512, .f32⟩
  | .hbm, ⟨11, _⟩ => ⟨S2x256x4x128, .f32⟩
  | .hbm, ⟨12, _⟩ => ⟨S16384x512, .f32⟩
  | .hbm, ⟨13, _⟩ => ⟨S2x8192x4x128, .f32⟩
  | .hbm, ⟨14, _⟩ => ⟨S_, .i32⟩
  | .hbm, ⟨15, _⟩ => ⟨S_, .f32⟩
  | .hbm, ⟨16, _⟩ => ⟨S2x8448x4x128, .f32⟩
  | .hbm, ⟨17, _⟩ => ⟨S2x66x128x4x128, .f32⟩
  | .hbm, ⟨18, _⟩ => ⟨S2x64x128x4x128, .f32⟩
  | .hbm, ⟨19, _⟩ => ⟨S2x64x128x4x128, .f32⟩
  | .hbm, ⟨20, _⟩ => ⟨S2x64x128x4x128, .f32⟩
  | .hbm, ⟨21, _⟩ => ⟨S2x64x384x4x128, .f32⟩
  | .hbm, ⟨22, _⟩ => ⟨S16384x512, .f32⟩
  | .hbm, ⟨23, _⟩ => ⟨S2x8192x4x128, .f32⟩
  | .hbm, ⟨24, _⟩ => ⟨S_, .i32⟩
  | .hbm, ⟨25, _⟩ => ⟨S_, .f32⟩
  | .hbm, ⟨26, _⟩ => ⟨S2x8448x4x128, .f32⟩
  | .hbm, ⟨27, _⟩ => ⟨S2x66x128x4x128, .f32⟩
  | .hbm, ⟨28, _⟩ => ⟨S2x64x128x4x128, .f32⟩
  | .hbm, ⟨29, _⟩ => ⟨S2x64x128x4x128, .f32⟩
  | .hbm, ⟨30, _⟩ => ⟨S2x64x128x4x128, .f32⟩
  | .hbm, ⟨31, _⟩ => ⟨S2x64x384x4x128, .f32⟩
  | .hbm, ⟨32, _⟩ => ⟨S2x64x4x384x128x4, .f32⟩
  | .hbm, ⟨33, _⟩ => ⟨S2x64x4x4x128x384, .f32⟩
  | .hbm, ⟨34, _⟩ => ⟨S64, .i32⟩
  | .hbm, ⟨35, _⟩ => ⟨S64x1, .i32⟩
  | .hbm, ⟨36, _⟩ => ⟨S_, .i32⟩
  | .hbm, ⟨37, _⟩ => ⟨S64x1, .i32⟩
  | .hbm, ⟨38, _⟩ => ⟨S64x1, .i32⟩
  | .hbm, ⟨39, _⟩ => ⟨S128, .i32⟩
  | .hbm, ⟨40, _⟩ => ⟨S1x128, .i32⟩
  | .hbm, ⟨41, _⟩ => ⟨S64x128, .i32⟩
  | .hbm, ⟨42, _⟩ => ⟨S64x128, .i32⟩
  | .hbm, ⟨43, _⟩ => ⟨S64x128, .i32⟩
  | .hbm, ⟨44, _⟩ => ⟨S384, .i32⟩
  | .hbm, ⟨45, _⟩ => ⟨S1x384, .i32⟩
  | .hbm, ⟨46, _⟩ => ⟨S64x384, .i32⟩
  | .hbm, ⟨47, _⟩ => ⟨S64x384, .i32⟩
  | .hbm, ⟨48, _⟩ => ⟨S64x384, .i32⟩
  | .hbm, ⟨49, _⟩ => ⟨S_, .i32⟩
  | .hbm, ⟨50, _⟩ => ⟨S64x384, .i32⟩
  | .hbm, ⟨51, _⟩ => ⟨S64x384, .i32⟩
  | .hbm, ⟨52, _⟩ => ⟨S64x1x384, .i32⟩
  | .hbm, ⟨53, _⟩ => ⟨S64x128x1, .i32⟩
  | .hbm, ⟨54, _⟩ => ⟨S64x128x384, .i32⟩
  | .hbm, ⟨55, _⟩ => ⟨S64x128x384, .i32⟩
  | .hbm, ⟨56, _⟩ => ⟨S64x128x384, .i32⟩
  | .hbm, ⟨57, _⟩ => ⟨S64x128x384, .i32⟩
  | .hbm, ⟨58, _⟩ => ⟨S_, .i32⟩
  | .hbm, ⟨59, _⟩ => ⟨S64x128x384, .i32⟩
  | .hbm, ⟨60, _⟩ => ⟨S64x128x384, .i1⟩
  | .hbm, ⟨61, _⟩ => ⟨S64x1x384, .i32⟩
  | .hbm, ⟨62, _⟩ => ⟨S_, .i32⟩
  | .hbm, ⟨63, _⟩ => ⟨S64x1x384, .i32⟩
  | .hbm, ⟨64, _⟩ => ⟨S64x1x384, .i1⟩
  | .hbm, ⟨65, _⟩ => ⟨S64x128x384, .i1⟩
  | .hbm, ⟨66, _⟩ => ⟨S64x128x384, .i1⟩
  | .hbm, ⟨67, _⟩ => ⟨S64x1x384, .i32⟩
  | .hbm, ⟨68, _⟩ => ⟨S_, .i32⟩
  | .hbm, ⟨69, _⟩ => ⟨S64x1x384, .i32⟩
  | .hbm, ⟨70, _⟩ => ⟨S64x1x384, .i1⟩
  | .hbm, ⟨71, _⟩ => ⟨S64x128x384, .i1⟩
  | .hbm, ⟨72, _⟩ => ⟨S64x128x384, .i1⟩
  | .hbm, ⟨73, _⟩ => ⟨S1x64x1x1x128x384, .i1⟩
  | .hbm, ⟨74, _⟩ => ⟨S_, .f32⟩
  | .hbm, ⟨75, _⟩ => ⟨S_, .f32⟩
  | .hbm, ⟨76, _⟩ => ⟨S2x64x4x4x128x384, .i1⟩
  | .hbm, ⟨77, _⟩ => ⟨S2x64x4x4x128x384, .f32⟩
  | .hbm, ⟨78, _⟩ => ⟨S2x64x4x4x128x384, .f32⟩
  | .hbm, ⟨79, _⟩ => ⟨S2x4x256x64x128x4, .f32⟩
  | .hbm, ⟨80, _⟩ => ⟨S2x64x4x4x128x256, .f32⟩
  | .hbm, ⟨81, _⟩ => ⟨S4x4, .f32⟩
  | .hbm, ⟨82, _⟩ => ⟨S1x1x4x4x1x1, .f32⟩
  | .hbm, ⟨83, _⟩ => ⟨S_, .f32⟩
  | .hbm, ⟨84, _⟩ => ⟨S2x64x4x4x128, .f32⟩
  | .hbm, ⟨85, _⟩ => ⟨S2x64x4x4x128x1, .f32⟩
  | .hbm, ⟨86, _⟩ => ⟨S_, .f32⟩
  | .hbm, ⟨87, _⟩ => ⟨S2x64x4x4x128, .f32⟩
  | .hbm, ⟨88, _⟩ => ⟨S2x64x4x4x128x1, .f32⟩
  | .hbm, ⟨89, _⟩ => ⟨S2x64x4x4x128x1, .f32⟩
  | .hbm, ⟨90, _⟩ => ⟨S2x64x4x4x128x1, .f32⟩
  | .hbm, ⟨91, _⟩ => ⟨S2x64x4x4x128x1, .f32⟩
  | .hbm, ⟨92, _⟩ => ⟨S2x64x4x4x128x384, .f32⟩
  | .hbm, ⟨93, _⟩ => ⟨S2x64x4x4x128x384, .f32⟩
  | .hbm, ⟨94, _⟩ => ⟨S2x64x4x4x128x384, .f32⟩
  | .hbm, ⟨95, _⟩ => ⟨S2x64x4x4x128x256, .f32⟩
  | .hbm, ⟨96, _⟩ => ⟨S2x64x4x4x128x256, .f32⟩
  | .hbm, ⟨97, _⟩ => ⟨S2x64x4x4x128x256, .f32⟩
  | .hbm, ⟨98, _⟩ => ⟨S_, .f32⟩
  | .hbm, ⟨99, _⟩ => ⟨S2x64x4x4x128, .f32⟩
  | .hbm, ⟨100, _⟩ => ⟨S2x64x4x4x128x1, .f32⟩
  | .hbm, ⟨101, _⟩ => ⟨S_, .f32⟩
  | .hbm, ⟨102, _⟩ => ⟨S2x64x4x4x128, .f32⟩
  | .hbm, ⟨103, _⟩ => ⟨S2x64x4x4x128x1, .f32⟩
  | .hbm, ⟨104, _⟩ => ⟨S2x64x4x4x128x1, .f32⟩
  | .hbm, ⟨105, _⟩ => ⟨S2x64x4x4x128x1, .f32⟩
  | .hbm, ⟨106, _⟩ => ⟨S2x64x4x4x128x1, .f32⟩
  | .hbm, ⟨107, _⟩ => ⟨S2x64x4x4x128x1, .f32⟩
  | .hbm, ⟨108, _⟩ => ⟨S2x64x4x4x128x1, .f32⟩
  | .hbm, ⟨109, _⟩ => ⟨S_, .f32⟩
  | .hbm, ⟨110, _⟩ => ⟨S2x64x4x4x128x1, .f32⟩
  | .hbm, ⟨111, _⟩ => ⟨S2x64x4x4x128x1, .f32⟩
  | .hbm, ⟨112, _⟩ => ⟨S2x64x4x4x128x384, .f32⟩
  | .hbm, ⟨113, _⟩ => ⟨S2x64x4x4x128x384, .f32⟩
  | .hbm, ⟨114, _⟩ => ⟨S2x64x4x128x4x128, .f32⟩
  | .hbm, ⟨115, _⟩ => ⟨S2x64x128x4x4x128, .f32⟩
  | .hbm, ⟨116, _⟩ => ⟨S2x64x4x4x128x256, .f32⟩
  | .hbm, ⟨117, _⟩ => ⟨S2x64x4x4x128x256, .f32⟩
  | .hbm, ⟨118, _⟩ => ⟨S2x4x128x64x4x128, .f32⟩
  | .hbm, ⟨119, _⟩ => ⟨S2x64x128x4x4x128, .f32⟩
  | .hbm, ⟨120, _⟩ => ⟨S2x64x128x4x4x128, .f32⟩
  | .hbm, ⟨121, _⟩ => ⟨S16384x2048, .f32⟩
  | .hbm, ⟨122, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_3 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c_5 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_10 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩

abbrev nD : Nat := 1
abbrev τ : Topo := Topo.v7x

variable {F : FTy → Type} [FloatOps F]
-- ==== InProj.lean ====
abbrev S16896x2048 : Shape := ⟨2, ![16896, 2048]⟩
abbrev S2048x17536 : Shape := ⟨2, ![2048, 17536]⟩
abbrev S2048x4096 : Shape := ⟨2, ![2048, 4096]⟩
abbrev S2048x6144 : Shape := ⟨2, ![2048, 6144]⟩
abbrev S2048x2048 : Shape := ⟨2, ![2048, 2048]⟩
abbrev S2048x512 : Shape := ⟨2, ![2048, 512]⟩
abbrev S2048x17408 : Shape := ⟨2, ![2048, 17408]⟩
abbrev S2048x64 : Shape := ⟨2, ![2048, 64]⟩
abbrev S2048x128 : Shape := ⟨2, ![2048, 128]⟩
abbrev S16896x17408 : Shape := ⟨2, ![16896, 17408]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 16
  | .vmem => 6
  | .smem => 0
  | _ => 0

abbrev bufTy : (tb : Table) → Fin (tcTables nBuf tb) → BufTy
  | .hbm, ⟨0, _⟩ => ⟨S16896x2048, .bf16⟩
  | .hbm, ⟨1, _⟩ => ⟨S2048x17536, .f32⟩
  | .hbm, ⟨2, _⟩ => ⟨S2048x4096, .f32⟩
  | .hbm, ⟨3, _⟩ => ⟨S2048x6144, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S2048x2048, .f32⟩
  | .hbm, ⟨8, _⟩ => ⟨S2048x2048, .f32⟩
  | .hbm, ⟨9, _⟩ => ⟨S2048x17408, .f32⟩
  | .hbm, ⟨10, _⟩ => ⟨S2048x17408, .bf16⟩
  | .hbm, ⟨11, _⟩ => ⟨S2048x64, .f32⟩
  | .hbm, ⟨12, _⟩ => ⟨S2048x64, .f32⟩
  | .hbm, ⟨13, _⟩ => ⟨S2048x128, .f32⟩
  | .hbm, ⟨14, _⟩ => ⟨S2048x128, .bf16⟩
  | .hbm, ⟨15, _⟩ => ⟨S16896x17408, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16896x2048 : Shape := ⟨2, ![16896, 2048]⟩
abbrev S2048x17536 : Shape := ⟨2, ![2048, 17536]⟩
abbrev S16896x17536 : Shape := ⟨2, ![16896, 17536]⟩
abbrev S16896x6144 : Shape := ⟨2, ![16896, 6144]⟩
abbrev S16896x4096 : Shape := ⟨2, ![16896, 4096]⟩
abbrev S16896x64 : Shape := ⟨2, ![16896, 64]⟩
abbrev S16896x512 : Shape := ⟨2, ![16896, 512]⟩
abbrev S16896x17408 : Shape := ⟨2, ![16896, 17408]⟩

abbrev nBuf : Space → Nat
  | .hbm => 14
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x17536, .f32⟩
  | .hbm, ⟨2, _⟩ => ⟨S16896x2048, .f32⟩
  | .hbm, ⟨3, _⟩ => ⟨S16896x17536, .f32⟩
  | .hbm, ⟨4, _⟩ => ⟨S16896x6144, .f32⟩
  | .hbm, ⟨5, _⟩ => ⟨S16896x4096, .f32⟩
  | .hbm, ⟨6, _⟩ => ⟨S16896x64, .f32⟩
  | .hbm, ⟨7, _⟩ => ⟨S16896x64, .f32⟩
  | .hbm, ⟨8, _⟩ => ⟨S16896x2048, .f32⟩
  | .hbm, ⟨9, _⟩ => ⟨S16896x512, .f32⟩
  | .hbm, ⟨10, _⟩ => ⟨S16896x512, .f32⟩
  | .hbm, ⟨11, _⟩ => ⟨S16896x2048, .f32⟩
  | .hbm, ⟨12, _⟩ => ⟨S16896x2048, .f32⟩
  | .hbm, ⟨13, _⟩ => ⟨S16896x17408, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S4096x2048 : Shape := ⟨2, ![4096, 2048]⟩
abbrev S2048x2048 : Shape := ⟨2, ![2048, 2048]⟩
abbrev S16896x17408 : Shape := ⟨2, ![16896, 17408]⟩
abbrev S512x4096 : Shape := ⟨2, ![512, 4096]⟩
abbrev S512x2048 : Shape := ⟨2, ![512, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4096x2048, .f32⟩
  | .hbm, ⟨3, _⟩ => ⟨S2048x2048, .f32⟩
  | .hbm, ⟨4, _⟩ => ⟨S16896x17408, .f32⟩
  | .hbm, ⟨5, _⟩ => ⟨S4096x2048, .bf16⟩
  | .hbm, ⟨6, _⟩ => ⟨S2048x2048, .bf16⟩
  | .hbm, ⟨7, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S4096x512, .bf16⟩
  | .local _ .vmem, ⟨5, _⟩ => ⟨S4096x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x4096 : Shape := ⟨2, ![16384, 4096]⟩
abbrev S16384x2048 : Shape := ⟨2, ![16384, 2048]⟩
abbrev S4096x2048 : Shape := ⟨2, ![4096, 2048]⟩
abbrev S2048x2048 : Shape := ⟨2, ![2048, 2048]⟩
abbrev S16896x17408 : Shape := ⟨2, ![16896, 17408]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4096x2048, .f32⟩
  | .hbm, ⟨3, _⟩ => ⟨S2048x2048, .f32⟩
  | .hbm, ⟨4, _⟩ => ⟨S16896x17408, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x4096, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S16896x2048 : Shape := ⟨2, ![16896, 2048]⟩
abbrev S8x8x2048 : Shape := ⟨3, ![8, 8, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S16384x128 : Shape := ⟨2, ![16384, 128]⟩
abbrev S256x2048 : Shape := ⟨2, ![256, 2048]⟩
abbrev S1x8x2048 : Shape := ⟨3, ![1, 8, 2048]⟩
abbrev S256x128 : Shape := ⟨2, ![256, 128]⟩
abbrev S1x1x2048 : Shape := ⟨3, ![1, 1, 2048]⟩
abbrev S256 : Shape := ⟨1, ![256]⟩
abbrev S256x1 : Shape := ⟨2, ![256, 1]⟩

abbrev nBuf : Space → Nat
  | .hbm => 25
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16896x2048, .f32⟩
  | .hbm, ⟨3, _⟩ => ⟨S8x8x2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S2048x2048, .bf16⟩
  | .hbm, ⟨8, _⟩ => ⟨S_, .f32⟩
  | .hbm, ⟨9, _⟩ => ⟨S2048x128, .f32⟩
  | .hbm, ⟨10, _⟩ => ⟨S_, .i32⟩
  | .hbm, ⟨11, _⟩ => ⟨S1, .i32⟩
  | .hbm, ⟨12, _⟩ => ⟨S2048x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x2048, .f32⟩
  | .local _ .vmem, ⟨8, _⟩ => ⟨S2048x128, .f32⟩
  | .local _ .vmem, ⟨9, _⟩ => ⟨S1x128, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x128, .f32⟩
  | .local _ .vmem, ⟨15, _⟩ => ⟨S256x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16384x2048 : Shape := ⟨2, ![16384, 2048]⟩
abbrev S2048x2048 : Shape := ⟨2, ![2048, 2048]⟩
abbrev S16896x2048 : Shape := ⟨2, ![16896, 2048]⟩
abbrev S8x8x2048 : Shape := ⟨3, ![8, 8, 2048]⟩
abbrev S2048 : Shape := ⟨1, ![2048]⟩
abbrev S2048x32 : Shape := ⟨2, ![2048, 32]⟩
abbrev S32 : Shape := ⟨1, ![32]⟩
abbrev S2x1x2048 : Shape := ⟨3, ![2, 1, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16896x2048, .f32⟩
  | .hbm, ⟨3, _⟩ => ⟨S8x8x2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S16384x2048, .f32⟩
  | .hbm, ⟨11, _⟩ => ⟨S2x8192x2048, .f32⟩
  | .hbm, ⟨12, _⟩ => ⟨S16384x2048, .f32⟩
  | .hbm, ⟨13, _⟩ => ⟨S16384x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x2048, .f32⟩
  | .hbm, ⟨30, _⟩ => ⟨S2x8192x2048, .f32⟩
  | .hbm, ⟨31, _⟩ => ⟨S1x1x2048, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S16384x2048, .f32⟩
  | .hbm, ⟨42, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== DtProj.lean ====
abbrev S16896x2048 : Shape := ⟨2, ![16896, 2048]⟩
abbrev S2048x17536 : Shape := ⟨2, ![2048, 17536]⟩
abbrev S2048x4096 : Shape := ⟨2, ![2048, 4096]⟩
abbrev S2048x6144 : Shape := ⟨2, ![2048, 6144]⟩
abbrev S2048x2048 : Shape := ⟨2, ![2048, 2048]⟩
abbrev S2048x512 : Shape := ⟨2, ![2048, 512]⟩
abbrev S2048x17408 : Shape := ⟨2, ![2048, 17408]⟩
abbrev S2048x64 : Shape := ⟨2, ![2048, 64]⟩
abbrev S2048x128 : Shape := ⟨2, ![2048, 128]⟩
abbrev S16896x128 : Shape := ⟨2, ![16896, 128]⟩
abbrev S512x2048 : Shape := ⟨2, ![512, 2048]⟩
abbrev S512x128 : Shape := ⟨2, ![512, 128]⟩

abbrev nBuf : Space → Nat
  | .hbm => 16
  | .vmem => 5
  | .smem => 0
  | _ => 0

abbrev bufTy : (tb : Table) → Fin (tcTables nBuf tb) → BufTy
  | .hbm, ⟨0, _⟩ => ⟨S16896x2048, .bf16⟩
  | .hbm, ⟨1, _⟩ => ⟨S2048x17536, .f32⟩
  | .hbm, ⟨2, _⟩ => ⟨S2048x4096, .f32⟩
  | .hbm, ⟨3, _⟩ => ⟨S2048x6144, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S2048x2048, .f32⟩
  | .hbm, ⟨8, _⟩ => ⟨S2048x2048, .f32⟩
  | .hbm, ⟨9, _⟩ => ⟨S2048x17408, .f32⟩
  | .hbm, ⟨10, _⟩ => ⟨S2048x17408, .bf16⟩
  | .hbm, ⟨11, _⟩ => ⟨S2048x64, .f32⟩
  | .hbm, ⟨12, _⟩ => ⟨S2048x64, .f32⟩
  | .hbm, ⟨13, _⟩ => ⟨S2048x128, .f32⟩
  | .hbm, ⟨14, _⟩ => ⟨S2048x128, .bf16⟩
  | .hbm, ⟨15, _⟩ => ⟨S16896x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtProjRefIdeal.lean ====
abbrev S16896x2048 : Shape := ⟨2, ![16896, 2048]⟩
abbrev S2048x17536 : Shape := ⟨2, ![2048, 17536]⟩
abbrev S16896x17536 : Shape := ⟨2, ![16896, 17536]⟩
abbrev S16896x6144 : Shape := ⟨2, ![16896, 6144]⟩
abbrev S16896x4096 : Shape := ⟨2, ![16896, 4096]⟩
abbrev S16896x64 : Shape := ⟨2, ![16896, 64]⟩
abbrev S16896x512 : Shape := ⟨2, ![16896, 512]⟩
abbrev S16896x128 : Shape := ⟨2, ![16896, 128]⟩

abbrev nBuf : Space → Nat
  | .hbm => 14
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x17536, .f32⟩
  | .hbm, ⟨2, _⟩ => ⟨S16896x2048, .f32⟩
  | .hbm, ⟨3, _⟩ => ⟨S16896x17536, .f32⟩
  | .hbm, ⟨4, _⟩ => ⟨S16896x6144, .f32⟩
  | .hbm, ⟨5, _⟩ => ⟨S16896x4096, .f32⟩
  | .hbm, ⟨6, _⟩ => ⟨S16896x64, .f32⟩
  | .hbm, ⟨7, _⟩ => ⟨S16896x64, .f32⟩
  | .hbm, ⟨8, _⟩ => ⟨S16896x2048, .f32⟩
  | .hbm, ⟨9, _⟩ => ⟨S16896x512, .f32⟩
  | .hbm, ⟨10, _⟩ => ⟨S16896x512, .f32⟩
  | .hbm, ⟨11, _⟩ => ⟨S16896x2048, .f32⟩
  | .hbm, ⟨12, _⟩ => ⟨S16896x2048, .f32⟩
  | .hbm, ⟨13, _⟩ => ⟨S16896x128, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Norm.lean ====
abbrev S16896x2048 : Shape := ⟨2, ![16896, 2048]⟩
abbrev S2048 : Shape := ⟨1, ![2048]⟩
abbrev S8x8x2048 : Shape := ⟨3, ![8, 8, 2048]⟩
abbrev S1x2048 : Shape := ⟨2, ![1, 2048]⟩
abbrev S256x2048 : Shape := ⟨2, ![256, 2048]⟩
abbrev S1x8x2048 : Shape := ⟨3, ![1, 8, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S8x8x2048, .f32⟩
  | .hbm, ⟨3, _⟩ => ⟨S1x2048, .f32⟩
  | .hbm, ⟨4, _⟩ => ⟨S16896x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x8x2048, .f32⟩
  | .local _ .vmem, ⟨4, _⟩ => ⟨S1x8x2048, .f32⟩
  | .local _ .vmem, ⟨5, _⟩ => ⟨S256x2048, .bf16⟩
  | .local _ .vmem, ⟨6, _⟩ => ⟨S256x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S16896x2048 : Shape := ⟨2, ![16896, 2048]⟩
abbrev S2048 : Shape := ⟨1, ![2048]⟩
abbrev S8x8x2048 : Shape := ⟨3, ![8, 8, 2048]⟩
abbrev S16384x2048 : Shape := ⟨2, ![16384, 2048]⟩
abbrev S2x8192x2048 : Shape := ⟨3, ![2, 8192, 2048]⟩
abbrev S512x2048 : Shape := ⟨2, ![512, 2048]⟩
abbrev S2x256x2048 : Shape := ⟨3, ![2, 256, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x256 : Shape := ⟨2, ![2, 256]⟩
abbrev S2x256x1 : Shape := ⟨3, ![2, 256, 1]⟩
abbrev S1x2048 : Shape := ⟨2, ![1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S8x8x2048, .f32⟩
  | .hbm, ⟨3, _⟩ => ⟨S16384x2048, .f32⟩
  | .hbm, ⟨4, _⟩ => ⟨S2x8192x2048, .f32⟩
  | .hbm, ⟨5, _⟩ => ⟨S512x2048, .f32⟩
  | .hbm, ⟨6, _⟩ => ⟨S2x256x2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2x1x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S2x256x2048, .f32⟩
  | .hbm, ⟨33, _⟩ => ⟨S_, .f32⟩
  | .hbm, ⟨34, _⟩ => ⟨S2x256, .f32⟩
  | .hbm, ⟨35, _⟩ => ⟨S2x256x1, .f32⟩
  | .hbm, ⟨36, _⟩ => ⟨S_, .f32⟩
  | .hbm, ⟨37, _⟩ => ⟨S2x256x1, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S2x256x1, .f32⟩
  | .hbm, ⟨43, _⟩ => ⟨S2x256x2048, .f32⟩
  | .hbm, ⟨44, _⟩ => ⟨S2x256x2048, .f32⟩
  | .hbm, ⟨45, _⟩ => ⟨S1x1x2048, .f32⟩
  | .hbm, ⟨46, _⟩ => ⟨S2x256x2048, .f32⟩
  | .hbm, ⟨47, _⟩ => ⟨S2x256x2048, .f32⟩
  | .hbm, ⟨48, _⟩ => ⟨S1x1x2048, .f32⟩
  | .hbm, ⟨49, _⟩ => ⟨S1x2048, .f32⟩
  | .hbm, ⟨50, _⟩ => ⟨S1x1x2048, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S1x1x2048, .f32⟩
  | .hbm, ⟨59, _⟩ => ⟨S2x256x2048, .f32⟩
  | .hbm, ⟨60, _⟩ => ⟨S2x256x2048, .f32⟩
  | .hbm, ⟨61, _⟩ => ⟨S16384x2048, .f32⟩
  | .hbm, ⟨62, _⟩ => ⟨S512x2048, .f32⟩
  | .hbm, ⟨63, _⟩ => ⟨S16896x2048, .f32⟩
  | .hbm, ⟨64, _⟩ => ⟨S16896x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== VCast.lean ====
abbrev S16896x17408 : Shape := ⟨2, ![16896, 17408]⟩
abbrev S16896x512 : Shape := ⟨2, ![16896, 512]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S16896x17408, .f32⟩
  | .hbm, ⟨1, _⟩ => ⟨S16896x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | _, _ => ⟨S16896x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== VCastRefIdeal.lean ====
abbrev S16896x17408 : Shape := ⟨2, ![16896, 17408]⟩
abbrev S16896x512 : Shape := ⟨2, ![16896, 512]⟩

abbrev nBuf : Space → Nat
  | .hbm => 3
  | .vmem => 0
  | .smem => 0
  | _ => 0

abbrev bufTy : (tb : Table) → Fin (tcTables nBuf tb) → BufTy
  | .hbm, ⟨0, _⟩ => ⟨S16896x17408, .f32⟩
  | .hbm, ⟨1, _⟩ => ⟨S16896x512, .f32⟩
  | .hbm, ⟨2, _⟩ => ⟨S16896x512, .bf16⟩
  | _, _ => ⟨S16896x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== GateNorm.lean ====
abbrev S16896x4096 : Shape := ⟨2, ![16896, 4096]⟩
abbrev S16896x17408 : Shape := ⟨2, ![16896, 17408]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S16896x17408, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .bf16⟩
  | .local _ .vmem, ⟨8, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateNormRefIdeal.lean ====
abbrev S16896x4096 : Shape := ⟨2, ![16896, 4096]⟩
abbrev S16896x17408 : Shape := ⟨2, ![16896, 17408]⟩
abbrev S4096 : Shape := ⟨1, ![4096]⟩
abbrev S16384x4096 : Shape := ⟨2, ![16384, 4096]⟩
abbrev S_ : Shape := ⟨0, ![]⟩
abbrev S16384x8x512 : Shape := ⟨3, ![16384, 8, 512]⟩
abbrev S8x512 : Shape := ⟨2, ![8, 512]⟩
abbrev S16384x8 : Shape := ⟨2, ![16384, 8]⟩
abbrev S16384x8x1 : Shape := ⟨3, ![16384, 8, 1]⟩
abbrev S1x8x512 : Shape := ⟨3, ![1, 8, 512]⟩

abbrev nBuf : Space → Nat
  | .hbm => 38
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S16896x17408, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x8x512, .f32⟩
  | .hbm, ⟨19, _⟩ => ⟨S8x512, .f32⟩
  | .hbm, ⟨20, _⟩ => ⟨S16384x8x512, .f32⟩
  | .hbm, ⟨21, _⟩ => ⟨S_, .f32⟩
  | .hbm, ⟨22, _⟩ => ⟨S16384x8, .f32⟩
  | .hbm, ⟨23, _⟩ => ⟨S16384x8x1, .f32⟩
  | .hbm, ⟨24, _⟩ => ⟨S_, .f32⟩
  | .hbm, ⟨25, _⟩ => ⟨S16384x8x1, .f32⟩
  | .hbm, ⟨26, _⟩ => ⟨S16384x8x1, .f32⟩
  | .hbm, ⟨27, _⟩ => ⟨S_, .f32⟩
  | .hbm, ⟨28, _⟩ => ⟨S16384x8x1, .f32⟩
  | .hbm, ⟨29, _⟩ => ⟨S16384x8x1, .f32⟩
  | .hbm, ⟨30, _⟩ => ⟨S16384x8x1, .f32⟩
  | .hbm, ⟨31, _⟩ => ⟨S16384x8x512, .f32⟩
  | .hbm, ⟨32, _⟩ => ⟨S16384x8x512, .f32⟩
  | .hbm, ⟨33, _⟩ => ⟨S1x8x512, .f32⟩
  | .hbm, ⟨34, _⟩ => ⟨S16384x8x512, .f32⟩
  | .hbm, ⟨35, _⟩ => ⟨S16384x8x512, .f32⟩
  | .hbm, ⟨36, _⟩ => ⟨S16384x4096, .f32⟩
  | .hbm, ⟨37, _⟩ => ⟨S16384x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== KPrep.lean ====
abbrev S16896x17408 : Shape := ⟨2, ![16896, 17408]⟩
abbrev S128 : Shape := ⟨1, ![128]⟩
abbrev S32 : Shape := ⟨1, ![32]⟩
abbrev S_ : Shape := ⟨0, ![]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S512x128 : Shape := ⟨2, ![512, 128]⟩
abbrev S16896x128 : Shape := ⟨2, ![16896, 128]⟩
abbrev S1x128 : Shape := ⟨2, ![1, 128]⟩
abbrev S16896x512 : Shape := ⟨2, ![16896, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 87
  | .vmem => 11
  | .smem => 0
  | _ => 0

abbrev bufTy : (tb : Table) → Fin (tcTables nBuf tb) → BufTy
  | .hbm, ⟨0, _⟩ => ⟨S16896x17408, .f32⟩
  | .hbm, ⟨1, _⟩ => ⟨S128, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S128, .f32⟩
  | .hbm, ⟨11, _⟩ => ⟨S128x64, .f32⟩
  | .hbm, ⟨12, _⟩ => ⟨S8192, .f32⟩
  | .hbm, ⟨13, _⟩ => ⟨S64, .f32⟩
  | .hbm, ⟨14, _⟩ => ⟨S1x64, .f32⟩
  | .hbm, ⟨15, _⟩ => ⟨S128x64, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S128, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S_, .i1⟩
  | .hbm, ⟨47, _⟩ => ⟨S128, .i1⟩
  | .hbm, ⟨48, _⟩ => ⟨S128, .i1⟩
  | .hbm, ⟨49, _⟩ => ⟨S128, .i1⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S8192x128, .f32⟩
  | .hbm, ⟨57, _⟩ => ⟨S_, .f32⟩
  | .hbm, ⟨58, _⟩ => ⟨S_, .f32⟩
  | .hbm, ⟨59, _⟩ => ⟨S8192x128, .i1⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S_, .f32⟩
  | .hbm, ⟨64, _⟩ => ⟨S8192x128, .i1⟩
  | .hbm, ⟨65, _⟩ => ⟨S8192x128, .f32⟩
  | .hbm, ⟨66, _⟩ => ⟨S8192x128, .f32⟩
  | .hbm, ⟨67, _⟩ => ⟨S1x8192x1x128, .f32⟩
  | .hbm, ⟨68, _⟩ => ⟨S2x8192x1x128, .f32⟩
  | .hbm, ⟨69, _⟩ => ⟨S16384x128, .f32⟩
  | .hbm, ⟨70, _⟩ => ⟨S_, .f32⟩
  | .hbm, ⟨71, _⟩ => ⟨S512x128, .f32⟩
  | .hbm, ⟨72, _⟩ => ⟨S16896x128, .f32⟩
  | .hbm, ⟨73, _⟩ => ⟨S1x8192x1x128, .f32⟩
  | .hbm, ⟨74, _⟩ => ⟨S2x8192x1x128, .f32⟩
  | .hbm, ⟨75, _⟩ => ⟨S16384x128, .f32⟩
  | .hbm, ⟨76, _⟩ => ⟨S_, .f32⟩
  | .hbm, ⟨77, _⟩ => ⟨S512x128, .f32⟩
  | .hbm, ⟨78, _⟩ => ⟨S16896x128, .f32⟩
  | .hbm, ⟨79, _⟩ => ⟨S1x8192x1x128, .f32⟩
  | .hbm, ⟨80, _⟩ => ⟨S2x8192x1x128, .f32⟩
  | .hbm, ⟨81, _⟩ => ⟨S16384x128, .f32⟩
  | .hbm, ⟨82, _⟩ => ⟨S_, .f32⟩
  | .hbm, ⟨83, _⟩ => ⟨S512x128, .f32⟩
  | .hbm, ⟨84, _⟩ => ⟨S16896x128, .f32⟩
  | .hbm, ⟨85, _⟩ => ⟨S1x128, .f32⟩
  | .hbm, ⟨86, _⟩ => ⟨S16896x512, .bf16⟩
  | .local _ .vmem, ⟨0, _⟩ => ⟨S256x512, .f32⟩
  | .local _ .vmem, ⟨1, _⟩ => ⟨S256x512, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x512, .bf16⟩
  | .local _ .vmem, ⟨10, _⟩ => ⟨S256x512, .bf16⟩
  | _, _ => ⟨S16896x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v27 : Ref sig .tc := ⟨.hbm, 52, rfl⟩
abbrev main_c_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v31 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_4 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_6 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KPrepRefIdeal.lean ====
abbrev S16896x17408 : Shape := ⟨2, ![16896, 17408]⟩
abbrev S128 : Shape := ⟨1, ![128]⟩
abbrev S32 : Shape := ⟨1, ![32]⟩
abbrev S_ : Shape := ⟨0, ![]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16896x512 : Shape := ⟨2, ![16896, 512]⟩
abbrev S16384x512 : Shape := ⟨2, ![16384, 512]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S512x512 : Shape := ⟨2, ![512, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x8192x4x2x2x32 : Shape := ⟨6, ![2, 8192, 4, 2, 2, 32]⟩
abbrev S2x8192x4x2x1x32 : Shape := ⟨6, ![2, 8192, 4, 2, 1, 32]⟩
abbrev S2x8192x4x2x32 : Shape := ⟨5, ![2, 8192, 4, 2, 32]⟩
abbrev S8192x1x128 : Shape := ⟨3, ![8192, 1, 128]⟩
abbrev S1x8192x1x128 : Shape := ⟨4, ![1, 8192, 1, 128]⟩

abbrev nBuf : Space → Nat
  | .hbm => 90
  | .vmem => 0
  | .smem => 0
  | _ => 0

abbrev bufTy : (tb : Table) → Fin (tcTables nBuf tb) → BufTy
  | .hbm, ⟨0, _⟩ => ⟨S16896x17408, .f32⟩
  | .hbm, ⟨1, _⟩ => ⟨S128, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S128, .f32⟩
  | .hbm, ⟨11, _⟩ => ⟨S128x64, .f32⟩
  | .hbm, ⟨12, _⟩ => ⟨S8192, .f32⟩
  | .hbm, ⟨13, _⟩ => ⟨S64, .f32⟩
  | .hbm, ⟨14, _⟩ => ⟨S1x64, .f32⟩
  | .hbm, ⟨15, _⟩ => ⟨S128x64, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S16896x512, .f32⟩
  | .hbm, ⟨31, _⟩ => ⟨S16384x512, .f32⟩
  | .hbm, ⟨32, _⟩ => ⟨S2x8192x4x128, .f32⟩
  | .hbm, ⟨33, _⟩ => ⟨S2x8192x4x128, .f32⟩
  | .hbm, ⟨34, _⟩ => ⟨S_, .f32⟩
  | .hbm, ⟨35, _⟩ => ⟨S2x8192x4, .f32⟩
  | .hbm, ⟨36, _⟩ => ⟨S2x8192x4x1, .f32⟩
  | .hbm, ⟨37, _⟩ => ⟨S_, .f32⟩
  | .hbm, ⟨38, _⟩ => ⟨S2x8192x4x1, .f32⟩
  | .hbm, ⟨39, _⟩ => ⟨S2x8192x4x1, .f32⟩
  | .hbm, ⟨40, _⟩ => ⟨S_, .f32⟩
  | .hbm, ⟨41, _⟩ => ⟨S2x8192x4x1, .f32⟩
  | .hbm, ⟨42, _⟩ => ⟨S2x8192x4x1, .f32⟩
  | .hbm, ⟨43, _⟩ => ⟨S2x8192x4x1, .f32⟩
  | .hbm, ⟨44, _⟩ => ⟨S2x8192x4x128, .f32⟩
  | .hbm, ⟨45, _⟩ => ⟨S2x8192x4x128, .f32⟩
  | .hbm, ⟨46, _⟩ => ⟨S1x1x1x128, .f32⟩
  | .hbm, ⟨47, _⟩ => ⟨S2x8192x4x128, .f32⟩
  | .hbm, ⟨48, _⟩ => ⟨S2x8192x4x128, .f32⟩
  | .hbm, ⟨49, _⟩ => ⟨S512x512, .f32⟩
  | .hbm, ⟨50, _⟩ => ⟨S2x256x4x128, .f32⟩
  | .hbm, ⟨51, _⟩ => ⟨S2x256x4x128, .f32⟩
  | .hbm, ⟨52, _⟩ => ⟨S_, .f32⟩
  | .hbm, ⟨53, _⟩ => ⟨S2x256x4, .f32⟩
  | .hbm, ⟨54, _⟩ => ⟨S2x256x4x1, .f32⟩
  | .hbm, ⟨55, _⟩ => ⟨S_, .f32⟩
  | .hbm, ⟨56, _⟩ => ⟨S2x256x4x1, .f32⟩
  | .hbm, ⟨57, _⟩ => ⟨S2x256x4x1, .f32⟩
  | .hbm, ⟨58, _⟩ => ⟨S_, .f32⟩
  | .hbm, ⟨59, _⟩ => ⟨S2x256x4x1, .f32⟩
  | .hbm, ⟨60, _⟩ => ⟨S2x256x4x1, .f32⟩
  | .hbm, ⟨61, _⟩ => ⟨S2x256x4x1, .f32⟩
  | .hbm, ⟨62, _⟩ => ⟨S2x256x4x128, .f32⟩
  | .hbm, ⟨63, _⟩ => ⟨S2x256x4x128, .f32⟩
  | .hbm, ⟨64, _⟩ => ⟨S1x1x1x128, .f32⟩
  | .hbm, ⟨65, _⟩ => ⟨S2x256x4x128, .f32⟩
  | .hbm, ⟨66, _⟩ => ⟨S2x256x4x128, .f32⟩
  | .hbm, ⟨67, _⟩ => ⟨S2x8192x4x2x2x32, .f32⟩
  | .hbm, ⟨68, _⟩ => ⟨S2x8192x4x2x1x32, .f32⟩
  | .hbm, ⟨69, _⟩ => ⟨S2x8192x4x2x32, .f32⟩
  | .hbm, ⟨70, _⟩ => ⟨S2x8192x4x2x32, .f32⟩
  | .hbm, ⟨71, _⟩ => ⟨S2x8192x4x2x1x32, .f32⟩
  | .hbm, ⟨72, _⟩ => ⟨S2x8192x4x2x32, .f32⟩
  | .hbm, ⟨73, _⟩ => ⟨S2x8192x4x2x1x32, .f32⟩
  | .hbm, ⟨74, _⟩ => ⟨S2x8192x4x2x1x32, .f32⟩
  | .hbm, ⟨75, _⟩ => ⟨S2x8192x4x2x2x32, .f32⟩
  | .hbm, ⟨76, _⟩ => ⟨S2x8192x4x128, .f32⟩
  | .hbm, ⟨77, _⟩ => ⟨S8192x1x128, .f32⟩
  | .hbm, ⟨78, _⟩ => ⟨S1x8192x1x128, .f32⟩
  | .hbm, ⟨79, _⟩ => ⟨S2x8192x4x128, .f32⟩
  | .hbm, ⟨80, _⟩ => ⟨S2x8192x4x128, .f32⟩
  | .hbm, ⟨81, _⟩ => ⟨S8192x1x128, .f32⟩
  | .hbm, ⟨82, _⟩ => ⟨S1x8192x1x128, .f32⟩
  | .hbm, ⟨83, _⟩ => ⟨S2x8192x4x128, .f32⟩
  | .hbm, ⟨84, _⟩ => ⟨S2x8192x4x128, .f32⟩
  | .hbm, ⟨85, _⟩ => ⟨S2x8192x4x128, .f32⟩
  | .hbm, ⟨86, _⟩ => ⟨S16384x512, .f32⟩
  | .hbm, ⟨87, _⟩ => ⟨S512x512, .f32⟩
  | .hbm, ⟨88, _⟩ => ⟨S16896x512, .f32⟩
  | .hbm, ⟨89, _⟩ => ⟨S16896x512, .bf16⟩
  | _, _ => ⟨S16896x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_cst_5 : Ref sig .tc := ⟨.hbm, 55, rfl⟩
abbrev main_v47 : Ref sig .tc := ⟨.hbm, 56, rfl⟩
abbrev main_v48 : Ref sig .tc := ⟨.hbm, 57, rfl⟩
abbrev main_cst_6 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩

abbrev nD : Nat := 1
abbrev τ : Topo := Topo.v7x

variable {F : FTy → Type} [FloatOps F]
-- ==== QPrep.lean ====
abbrev S16896x17408 : Shape := ⟨2, ![16896, 17408]⟩
abbrev S128 : Shape := ⟨1, ![128]⟩
abbrev S32 : Shape := ⟨1, ![32]⟩
abbrev S_ : Shape := ⟨0, ![]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S512x128 : Shape := ⟨2, ![512, 128]⟩
abbrev S16896x128 : Shape := ⟨2, ![16896, 128]⟩
abbrev S1x128 : Shape := ⟨2, ![1, 128]⟩
abbrev S16384x2048 : Shape := ⟨2, ![16384, 2048]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 87
  | .vmem => 11
  | .smem => 0
  | _ => 0

abbrev bufTy : (tb : Table) → Fin (tcTables nBuf tb) → BufTy
  | .hbm, ⟨0, _⟩ => ⟨S16896x17408, .f32⟩
  | .hbm, ⟨1, _⟩ => ⟨S128, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S128, .f32⟩
  | .hbm, ⟨11, _⟩ => ⟨S128x64, .f32⟩
  | .hbm, ⟨12, _⟩ => ⟨S8192, .f32⟩
  | .hbm, ⟨13, _⟩ => ⟨S64, .f32⟩
  | .hbm, ⟨14, _⟩ => ⟨S1x64, .f32⟩
  | .hbm, ⟨15, _⟩ => ⟨S128x64, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S128, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S_, .i1⟩
  | .hbm, ⟨47, _⟩ => ⟨S128, .i1⟩
  | .hbm, ⟨48, _⟩ => ⟨S128, .i1⟩
  | .hbm, ⟨49, _⟩ => ⟨S128, .i1⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S8192x128, .f32⟩
  | .hbm, ⟨57, _⟩ => ⟨S_, .f32⟩
  | .hbm, ⟨58, _⟩ => ⟨S_, .f32⟩
  | .hbm, ⟨59, _⟩ => ⟨S8192x128, .i1⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S_, .f32⟩
  | .hbm, ⟨64, _⟩ => ⟨S8192x128, .i1⟩
  | .hbm, ⟨65, _⟩ => ⟨S8192x128, .f32⟩
  | .hbm, ⟨66, _⟩ => ⟨S8192x128, .f32⟩
  | .hbm, ⟨67, _⟩ => ⟨S1x8192x1x128, .f32⟩
  | .hbm, ⟨68, _⟩ => ⟨S2x8192x1x128, .f32⟩
  | .hbm, ⟨69, _⟩ => ⟨S16384x128, .f32⟩
  | .hbm, ⟨70, _⟩ => ⟨S_, .f32⟩
  | .hbm, ⟨71, _⟩ => ⟨S512x128, .f32⟩
  | .hbm, ⟨72, _⟩ => ⟨S16896x128, .f32⟩
  | .hbm, ⟨73, _⟩ => ⟨S1x8192x1x128, .f32⟩
  | .hbm, ⟨74, _⟩ => ⟨S2x8192x1x128, .f32⟩
  | .hbm, ⟨75, _⟩ => ⟨S16384x128, .f32⟩
  | .hbm, ⟨76, _⟩ => ⟨S_, .f32⟩
  | .hbm, ⟨77, _⟩ => ⟨S512x128, .f32⟩
  | .hbm, ⟨78, _⟩ => ⟨S16896x128, .f32⟩
  | .hbm, ⟨79, _⟩ => ⟨S1x8192x1x128, .f32⟩
  | .hbm, ⟨80, _⟩ => ⟨S2x8192x1x128, .f32⟩
  | .hbm, ⟨81, _⟩ => ⟨S16384x128, .f32⟩
  | .hbm, ⟨82, _⟩ => ⟨S_, .f32⟩
  | .hbm, ⟨83, _⟩ => ⟨S512x128, .f32⟩
  | .hbm, ⟨84, _⟩ => ⟨S16896x128, .f32⟩
  | .hbm, ⟨85, _⟩ => ⟨S1x128, .f32⟩
  | .hbm, ⟨86, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x2048, .bf16⟩
  | .local _ .vmem, ⟨10, _⟩ => ⟨S256x2048, .bf16⟩
  | _, _ => ⟨S16896x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v27 : Ref sig .tc := ⟨.hbm, 52, rfl⟩
abbrev main_c_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v31 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_4 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_6 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QPrepRefIdeal.lean ====
abbrev S16896x17408 : Shape := ⟨2, ![16896, 17408]⟩
abbrev S128 : Shape := ⟨1, ![128]⟩
abbrev S32 : Shape := ⟨1, ![32]⟩
abbrev S_ : Shape := ⟨0, ![]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x2048 : Shape := ⟨2, ![16384, 2048]⟩
abbrev S2x8192x4x4x128 : Shape := ⟨5, ![2, 8192, 4, 4, 128]⟩
abbrev S2x8192x4x4 : Shape := ⟨4, ![2, 8192, 4, 4]⟩
abbrev S2x8192x4x4x1 : Shape := ⟨5, ![2, 8192, 4, 4, 1]⟩
abbrev S1x1x1x1x128 : Shape := ⟨5, ![1, 1, 1, 1, 128]⟩
abbrev S2x8192x4x4x2x2x32 : Shape := ⟨7, ![2, 8192, 4, 4, 2, 2, 32]⟩
abbrev S2x8192x4x4x2x1x32 : Shape := ⟨7, ![2, 8192, 4, 4, 2, 1, 32]⟩
abbrev S2x8192x4x4x2x32 : Shape := ⟨6, ![2, 8192, 4, 4, 2, 32]⟩
abbrev S8192x1x1x128 : Shape := ⟨4, ![8192, 1, 1, 128]⟩
abbrev S1x8192x1x1x128 : Shape := ⟨5, ![1, 8192, 1, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S16896x17408, .f32⟩
  | .hbm, ⟨1, _⟩ => ⟨S128, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S128, .f32⟩
  | .hbm, ⟨11, _⟩ => ⟨S128x64, .f32⟩
  | .hbm, ⟨12, _⟩ => ⟨S8192, .f32⟩
  | .hbm, ⟨13, _⟩ => ⟨S64, .f32⟩
  | .hbm, ⟨14, _⟩ => ⟨S1x64, .f32⟩
  | .hbm, ⟨15, _⟩ => ⟨S128x64, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S16384x2048, .f32⟩
  | .hbm, ⟨31, _⟩ => ⟨S2x8192x4x4x128, .f32⟩
  | .hbm, ⟨32, _⟩ => ⟨S2x8192x4x4x128, .f32⟩
  | .hbm, ⟨33, _⟩ => ⟨S_, .f32⟩
  | .hbm, ⟨34, _⟩ => ⟨S2x8192x4x4, .f32⟩
  | .hbm, ⟨35, _⟩ => ⟨S2x8192x4x4x1, .f32⟩
  | .hbm, ⟨36, _⟩ => ⟨S_, .f32⟩
  | .hbm, ⟨37, _⟩ => ⟨S2x8192x4x4x1, .f32⟩
  | .hbm, ⟨38, _⟩ => ⟨S2x8192x4x4x1, .f32⟩
  | .hbm, ⟨39, _⟩ => ⟨S_, .f32⟩
  | .hbm, ⟨40, _⟩ => ⟨S2x8192x4x4x1, .f32⟩
  | .hbm, ⟨41, _⟩ => ⟨S2x8192x4x4x1, .f32⟩
  | .hbm, ⟨42, _⟩ => ⟨S2x8192x4x4x1, .f32⟩
  | .hbm, ⟨43, _⟩ => ⟨S2x8192x4x4x128, .f32⟩
  | .hbm, ⟨44, _⟩ => ⟨S2x8192x4x4x128, .f32⟩
  | .hbm, ⟨45, _⟩ => ⟨S1x1x1x1x128, .f32⟩
  | .hbm, ⟨46, _⟩ => ⟨S2x8192x4x4x128, .f32⟩
  | .hbm, ⟨47, _⟩ => ⟨S2x8192x4x4x128, .f32⟩
  | .hbm, ⟨48, _⟩ => ⟨S2x8192x4x4x2x2x32, .f32⟩
  | .hbm, ⟨49, _⟩ => ⟨S2x8192x4x4x2x1x32, .f32⟩
  | .hbm, ⟨50, _⟩ => ⟨S2x8192x4x4x2x32, .f32⟩
  | .hbm, ⟨51, _⟩ => ⟨S2x8192x4x4x2x32, .f32⟩
  | .hbm, ⟨52, _⟩ => ⟨S2x8192x4x4x2x1x32, .f32⟩
  | .hbm, ⟨53, _⟩ => ⟨S2x8192x4x4x2x32, .f32⟩
  | .hbm, ⟨54, _⟩ => ⟨S2x8192x4x4x2x1x32, .f32⟩
  | .hbm, ⟨55, _⟩ => ⟨S2x8192x4x4x2x1x32, .f32⟩
  | .hbm, ⟨56, _⟩ => ⟨S2x8192x4x4x2x2x32, .f32⟩
  | .hbm, ⟨57, _⟩ => ⟨S2x8192x4x4x128, .f32⟩
  | .hbm, ⟨58, _⟩ => ⟨S8192x1x1x128, .f32⟩
  | .hbm, ⟨59, _⟩ => ⟨S1x8192x1x1x128, .f32⟩
  | .hbm, ⟨60, _⟩ => ⟨S2x8192x4x4x128, .f32⟩
  | .hbm, ⟨61, _⟩ => ⟨S2x8192x4x4x128, .f32⟩
  | .hbm, ⟨62, _⟩ => ⟨S8192x1x1x128, .f32⟩
  | .hbm, ⟨63, _⟩ => ⟨S1x8192x1x1x128, .f32⟩
  | .hbm, ⟨64, _⟩ => ⟨S2x8192x4x4x128, .f32⟩
  | .hbm, ⟨65, _⟩ => ⟨S2x8192x4x4x128, .f32⟩
  | .hbm, ⟨66, _⟩ => ⟨S2x8192x4x4x128, .f32⟩
  | .hbm, ⟨67, _⟩ => ⟨S_, .f32⟩
  | .hbm, ⟨68, _⟩ => ⟨S2x8192x4x4x128, .f32⟩
  | .hbm, ⟨69, _⟩ => ⟨S2x8192x4x4x128, .f32⟩
  | .hbm, ⟨70, _⟩ => ⟨S16384x2048, .f32⟩
  | .hbm, ⟨71, _⟩ => ⟨S16384x2048, .bf16⟩
  | _, _ => ⟨S16896x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_4 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩

abbrev nD : Nat := 1
abbrev τ : Topo := Topo.v7x

variable {F : FTy → Type} [FloatOps F]
-- ==== Up.lean ====
abbrev S288 : Shape := ⟨1, ![288]⟩
abbrev S73728x2048 : Shape := ⟨2, ![73728, 2048]⟩
abbrev S32x2048x4096 : Shape := ⟨3, ![32, 2048, 4096]⟩
abbrev S32x4096 : Shape := ⟨2, ![32, 4096]⟩
abbrev S32x1x4096 : Shape := ⟨3, ![32, 1, 4096]⟩
abbrev S256x2048 : Shape := ⟨2, ![256, 2048]⟩
abbrev S1x2048x1024 : Shape := ⟨3, ![1, 2048, 1024]⟩
abbrev S1 : Shape := ⟨1, ![1]⟩
abbrev S1x1x1024 : Shape := ⟨3, ![1, 1, 1024]⟩
abbrev S256x1024 : Shape := ⟨2, ![256, 1024]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 6
  | .vmem => 12
  | .smem => 1
  | _ => 0

abbrev bufTy : (tb : Table) → Fin (tcTables nBuf tb) → BufTy
  | .hbm, ⟨0, _⟩ => ⟨S73728x2048, .bf16⟩
  | .hbm, ⟨1, _⟩ => ⟨S32x2048x4096, .f32⟩
  | .hbm, ⟨2, _⟩ => ⟨S32x4096, .f32⟩
  | .hbm, ⟨3, _⟩ => ⟨S32x2048x4096, .bf16⟩
  | .hbm, ⟨4, _⟩ => ⟨S32x1x4096, .f32⟩
  | .hbm, ⟨5, _⟩ => ⟨S73728x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .smem, ⟨0, _⟩ => ⟨S288, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 288], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S288 : Shape := ⟨1, ![288]⟩
abbrev S73728x2048 : Shape := ⟨2, ![73728, 2048]⟩
abbrev S32x2048x4096 : Shape := ⟨3, ![32, 2048, 4096]⟩
abbrev S32x4096 : Shape := ⟨2, ![32, 4096]⟩
abbrev S288x256x2048 : Shape := ⟨3, ![288, 256, 2048]⟩
abbrev S_ : Shape := ⟨0, ![]⟩
abbrev S288x1 : Shape := ⟨2, ![288, 1]⟩
abbrev S288x2048x4096 : Shape := ⟨3, ![288, 2048, 4096]⟩
abbrev S288x256x4096 : Shape := ⟨3, ![288, 256, 4096]⟩
abbrev S288x4096 : Shape := ⟨2, ![288, 4096]⟩
abbrev S288x1x4096 : Shape := ⟨3, ![288, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S288, .i32⟩
  | .hbm, ⟨1, _⟩ => ⟨S73728x2048, .bf16⟩
  | .hbm, ⟨2, _⟩ => ⟨S32x2048x4096, .f32⟩
  | .hbm, ⟨3, _⟩ => ⟨S32x4096, .f32⟩
  | .hbm, ⟨4, _⟩ => ⟨S73728x2048, .f32⟩
  | .hbm, ⟨5, _⟩ => ⟨S288x256x2048, .f32⟩
  | .hbm, ⟨6, _⟩ => ⟨S_, .i32⟩
  | .hbm, ⟨7, _⟩ => ⟨S288, .i32⟩
  | .hbm, ⟨8, _⟩ => ⟨S288, .i1⟩
  | .hbm, ⟨9, _⟩ => ⟨S_, .i32⟩
  | .hbm, ⟨10, _⟩ => ⟨S288, .i32⟩
  | .hbm, ⟨11, _⟩ => ⟨S288, .i32⟩
  | .hbm, ⟨12, _⟩ => ⟨S288, .i32⟩
  | .hbm, ⟨13, _⟩ => ⟨S288x1, .i32⟩
  | .hbm, ⟨14, _⟩ => ⟨S288x2048x4096, .f32⟩
  | .hbm, ⟨15, _⟩ => ⟨S288x256x4096, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x4096, .f32⟩
  | .hbm, ⟨25, _⟩ => ⟨S288x1x4096, .f32⟩
  | .hbm, ⟨26, _⟩ => ⟨S288x256x4096, .f32⟩
  | .hbm, ⟨27, _⟩ => ⟨S288x256x4096, .f32⟩
  | .hbm, ⟨28, _⟩ => ⟨S288x256x2048, .f32⟩
  | .hbm, ⟨29, _⟩ => ⟨S288x256x2048, .f32⟩
  | .hbm, ⟨30, _⟩ => ⟨S_, .f32⟩
  | .hbm, ⟨31, _⟩ => ⟨S288x256x2048, .f32⟩
  | .hbm, ⟨32, _⟩ => ⟨S288x256x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S288x256x2048, .f32⟩
  | .hbm, ⟨37, _⟩ => ⟨S288x256x2048, .f32⟩
  | .hbm, ⟨38, _⟩ => ⟨S_, .f32⟩
  | .hbm, ⟨39, _⟩ => ⟨S288x256x2048, .f32⟩
  | .hbm, ⟨40, _⟩ => ⟨S288x256x2048, .f32⟩
  | .hbm, ⟨41, _⟩ => ⟨S_, .f32⟩
  | .hbm, ⟨42, _⟩ => ⟨S288x256x2048, .f32⟩
  | .hbm, ⟨43, _⟩ => ⟨S288x256x2048, .f32⟩
  | .hbm, ⟨44, _⟩ => ⟨S288x256x2048, .f32⟩
  | .hbm, ⟨45, _⟩ => ⟨S288x256x2048, .f32⟩
  | .hbm, ⟨46, _⟩ => ⟨S_, .f32⟩
  | .hbm, ⟨47, _⟩ => ⟨S288x256x2048, .f32⟩
  | .hbm, ⟨48, _⟩ => ⟨S288x256x2048, .f32⟩
  | .hbm, ⟨49, _⟩ => ⟨S_, .f32⟩
  | .hbm, ⟨50, _⟩ => ⟨S288x256x2048, .f32⟩
  | .hbm, ⟨51, _⟩ => ⟨S288x256x2048, .f32⟩
  | .hbm, ⟨52, _⟩ => ⟨S288x256x2048, .f32⟩
  | .hbm, ⟨53, _⟩ => ⟨S_, .f32⟩
  | .hbm, ⟨54, _⟩ => ⟨S288x256x2048, .f32⟩
  | .hbm, ⟨55, _⟩ => ⟨S288x256x2048, .f32⟩
  | .hbm, ⟨56, _⟩ => ⟨S288x256x2048, .f32⟩
  | .hbm, ⟨57, _⟩ => ⟨S73728x2048, .f32⟩
  | .hbm, ⟨58, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Down.lean ====
abbrev S288 : Shape := ⟨1, ![288]⟩
abbrev S73728x2048 : Shape := ⟨2, ![73728, 2048]⟩
abbrev S32x2048x2048 : Shape := ⟨3, ![32, 2048, 2048]⟩
abbrev S32x2048 : Shape := ⟨2, ![32, 2048]⟩
abbrev S32x1x2048 : Shape := ⟨3, ![32, 1, 2048]⟩
abbrev S256x2048 : Shape := ⟨2, ![256, 2048]⟩
abbrev S1x2048x1024 : Shape := ⟨3, ![1, 2048, 1024]⟩
abbrev S1 : Shape := ⟨1, ![1]⟩
abbrev S1x1x1024 : Shape := ⟨3, ![1, 1, 1024]⟩
abbrev S256x1024 : Shape := ⟨2, ![256, 1024]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 6
  | .vmem => 8
  | .smem => 1
  | _ => 0

abbrev bufTy : (tb : Table) → Fin (tcTables nBuf tb) → BufTy
  | .hbm, ⟨0, _⟩ => ⟨S73728x2048, .bf16⟩
  | .hbm, ⟨1, _⟩ => ⟨S32x2048x2048, .f32⟩
  | .hbm, ⟨2, _⟩ => ⟨S32x2048, .f32⟩
  | .hbm, ⟨3, _⟩ => ⟨S32x2048x2048, .bf16⟩
  | .hbm, ⟨4, _⟩ => ⟨S32x1x2048, .f32⟩
  | .hbm, ⟨5, _⟩ => ⟨S73728x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .smem, ⟨0, _⟩ => ⟨S288, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 288], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S288 : Shape := ⟨1, ![288]⟩
abbrev S73728x2048 : Shape := ⟨2, ![73728, 2048]⟩
abbrev S32x2048x2048 : Shape := ⟨3, ![32, 2048, 2048]⟩
abbrev S32x2048 : Shape := ⟨2, ![32, 2048]⟩
abbrev S288x256x2048 : Shape := ⟨3, ![288, 256, 2048]⟩
abbrev S_ : Shape := ⟨0, ![]⟩
abbrev S288x1 : Shape := ⟨2, ![288, 1]⟩
abbrev S288x2048x2048 : Shape := ⟨3, ![288, 2048, 2048]⟩
abbrev S288x2048 : Shape := ⟨2, ![288, 2048]⟩
abbrev S288x1x2048 : Shape := ⟨3, ![288, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S288, .i32⟩
  | .hbm, ⟨1, _⟩ => ⟨S73728x2048, .bf16⟩
  | .hbm, ⟨2, _⟩ => ⟨S32x2048x2048, .f32⟩
  | .hbm, ⟨3, _⟩ => ⟨S32x2048, .f32⟩
  | .hbm, ⟨4, _⟩ => ⟨S73728x2048, .f32⟩
  | .hbm, ⟨5, _⟩ => ⟨S288x256x2048, .f32⟩
  | .hbm, ⟨6, _⟩ => ⟨S_, .i32⟩
  | .hbm, ⟨7, _⟩ => ⟨S288, .i32⟩
  | .hbm, ⟨8, _⟩ => ⟨S288, .i1⟩
  | .hbm, ⟨9, _⟩ => ⟨S_, .i32⟩
  | .hbm, ⟨10, _⟩ => ⟨S288, .i32⟩
  | .hbm, ⟨11, _⟩ => ⟨S288, .i32⟩
  | .hbm, ⟨12, _⟩ => ⟨S288, .i32⟩
  | .hbm, ⟨13, _⟩ => ⟨S288x1, .i32⟩
  | .hbm, ⟨14, _⟩ => ⟨S288x2048x2048, .f32⟩
  | .hbm, ⟨15, _⟩ => ⟨S288x256x2048, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x2048, .f32⟩
  | .hbm, ⟨25, _⟩ => ⟨S288x1x2048, .f32⟩
  | .hbm, ⟨26, _⟩ => ⟨S288x256x2048, .f32⟩
  | .hbm, ⟨27, _⟩ => ⟨S288x256x2048, .f32⟩
  | .hbm, ⟨28, _⟩ => ⟨S73728x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.InProjValue.lean ====
/-
  The input projection. Every grid point multiplies one 512-row block of the hidden states with one 1024-column block of
  the re-ordered projection matrix. This file shows that the whole result array is the reference's: the product with the
  matrix as given, its column ranges put in the kernel's order.
-/
module

public import proofs.«01_k».proof.Proof.Gen.InProjIdeal.Value
public import proofs.«01_k».proof.Proof.Gen.InProjRefIdeal.Run
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Tile

open Cert.InProjIdeal Cert.InProjIdeal.Gen

variable (m : (ℓ : Loc nD τ sig) → Buf (Elt Ideal) ℓ)

/-- The reference's result as a function of the two arguments: the product, its column ranges concatenated in the order
    gate, convolution input, queries, keys, values, the two merge gates. -/
def REF (X : FVec Ideal S16896x2048 .bf16) (W : FVec Ideal S2048x17536 .f32) : FVec Ideal S16896x17408 .f32 :=
  (concatenate Cert.InProjRefIdeal.S16896x17408 1 [⟨Cert.InProjRefIdeal.S16896x4096, ((extractStridedSlice Cert.InProjRefIdeal.S16896x4096 ![0, 6144] (Host.dotGeneral Cert.InProjRefIdeal.dot_S16896x2048_S2048x17536_S16896x17536_1_0_0_1_n_n none (extf .f32 X Cert.InProjRefIdeal.Gen.bitsLt_bf16_f32) W) Cert.InProjRefIdeal.Gen.slices_S16896x17536_S16896x4096_0_6144) : (⟨Cert.InProjRefIdeal.S16896x4096, .f32⟩ : BufTy).Contents (Elt Ideal))⟩, ⟨Cert.InProjRefIdeal.S16896x6144, ((extractStridedSlice Cert.InProjRefIdeal.S16896x6144 ![0, 0] (Host.dotGeneral Cert.InProjRefIdeal.dot_S16896x2048_S2048x17536_S16896x17536_1_0_0_1_n_n none (extf .f32 X Cert.InProjRefIdeal.Gen.bitsLt_bf16_f32) W) Cert.InProjRefIdeal.Gen.slices_S16896x17536_S16896x6144_0_0) : (⟨Cert.InProjRefIdeal.S16896x6144, .f32⟩ : BufTy).Contents (Elt Ideal))⟩, ⟨Cert.InProjRefIdeal.S16896x2048, ((extractStridedSlice Cert.InProjRefIdeal.S16896x2048 ![0, 10368] (Host.dotGeneral Cert.InProjRefIdeal.dot_S16896x2048_S2048x17536_S16896x17536_1_0_0_1_n_n none (extf .f32 X Cert.InProjRefIdeal.Gen.bitsLt_bf16_f32) W) Cert.InProjRefIdeal.Gen.slices_S16896x17536_S16896x2048_0_10368) : (⟨Cert.InProjRefIdeal.S16896x2048, .f32⟩ : BufTy).Contents (Elt Ideal))⟩, ⟨Cert.InProjRefIdeal.S16896x512, ((extractStridedSlice Cert.InProjRefIdeal.S16896x512 ![0, 12416] (Host.dotGeneral Cert.InProjRefIdeal.dot_S16896x2048_S2048x17536_S16896x17536_1_0_0_1_n_n none (extf .f32 X Cert.InProjRefIdeal.Gen.bitsLt_bf16_f32) W) Cert.InProjRefIdeal.Gen.slices_S16896x17536_S16896x512_0_12416) : (⟨Cert.InProjRefIdeal.S16896x512, .f32⟩ : BufTy).Contents (Elt Ideal))⟩, ⟨Cert.InProjRefIdeal.S16896x512, ((extractStridedSlice Cert.InProjRefIdeal.S16896x512 ![0, 12928] (Host.dotGeneral Cert.InProjRefIdeal.dot_S16896x2048_S2048x17536_S16896x17536_1_0_0_1_n_n none (extf .f32 X Cert.InProjRefIdeal.Gen.bitsLt_bf16_f32) W) Cert.InProjRefIdeal.Gen.slices_S16896x17536_S16896x512_0_12928) : (⟨Cert.InProjRefIdeal.S16896x512, .f32⟩ : BufTy).Contents (Elt Ideal))⟩, ⟨Cert.InProjRefIdeal.S16896x2048, ((extractStridedSlice Cert.InProjRefIdeal.S16896x2048 ![0, 13440] (Host.dotGeneral Cert.InProjRefIdeal.dot_S16896x2048_S2048x17536_S16896x17536_1_0_0_1_n_n none (extf .f32 X Cert.InProjRefIdeal.Gen.bitsLt_bf16_f32) W) Cert.InProjRefIdeal.Gen.slices_S16896x17536_S16896x2048_0_13440) : (⟨Cert.InProjRefIdeal.S16896x2048, .f32⟩ : BufTy).Contents (Elt Ideal))⟩, ⟨Cert.InProjRefIdeal.S16896x2048, ((extractStridedSlice Cert.InProjRefIdeal.S16896x2048 ![0, 15488] (Host.dotGeneral Cert.InProjRefIdeal.dot_S16896x2048_S2048x17536_S16896x17536_1_0_0_1_n_n none (extf .f32 X Cert.InProjRefIdeal.Gen.bitsLt_bf16_f32) W) Cert.InProjRefIdeal.Gen.slices_S16896x17536_S16896x2048_0_15488) : (⟨Cert.InProjRefIdeal.S16896x2048, .f32⟩ : BufTy).Contents (Elt Ideal))⟩] Cert.InProjRefIdeal.Gen.concatenates_S16896x4096_S16896x6144_S16896x2048_S16896x512_S16896x512_S16896x2048_S16896x2048_S16896x17408_d1 : (⟨Cert.InProjRefIdeal.S16896x17408, .f32⟩ : BufTy).Contents (Elt Ideal))

/-- The re-ordered matrix: its column ranges in the order of the result. -/
def WCAT (W : FVec Ideal S2048x17536 .f32) : FVec Ideal S2048x17408 .bf16 :=
  truncf .bf16 (concatenate S2048x17408 1 [⟨S2048x4096, (extractStridedSlice S2048x4096 ![0, 6144] W slices_S2048x17536_S2048x4096_0_6144 : FVec Ideal S2048x4096 .f32)⟩, ⟨S2048x6144, (extractStridedSlice S2048x6144 ![0, 0] W slices_S2048x17536_S2048x6144_0_0 : FVec Ideal S2048x6144 .f32)⟩, ⟨S2048x2048, (extractStridedSlice S2048x2048 ![0, 10368] W slices_S2048x17536_S2048x2048_0_10368 : FVec Ideal S2048x2048 .f32)⟩, ⟨S2048x512, (extractStridedSlice S2048x512 ![0, 12416] W slices_S2048x17536_S2048x512_0_12416 : FVec Ideal S2048x512 .f32)⟩, ⟨S2048x512, (extractStridedSlice S2048x512 ![0, 12928] W slices_S2048x17536_S2048x512_0_12928 : FVec Ideal S2048x512 .f32)⟩, ⟨S2048x2048, (extractStridedSlice S2048x2048 ![0, 13440] W slices_S2048x17536_S2048x2048_0_13440 : FVec Ideal S2048x2048 .f32)⟩, ⟨S2048x2048, (extractStridedSlice S2048x2048 ![0, 15488] W slices_S2048x17536_S2048x2048_0_15488 : FVec Ideal S2048x2048 .f32)⟩] concatenates_S2048x4096_S2048x6144_S2048x2048_S2048x512_S2048x512_S2048x2048_S2048x2048_S2048x17408_d1 : FVec Ideal S2048x17408 .f32) bitsLt_bf16_f32

/-- The column of the projection matrix that ends up in column `j` of the re-ordered one. -/
def col (j : Fin 17408) : Fin 17536 :=
  ⟨if (j : ℕ) < 4096 then j + 6144 else if (j : ℕ) < 10240 then j - 4096 else j + 128, by split_ifs <;> omega⟩

/-- Two reads of a matrix in one row agree when the columns are the same number. -/
theorem read_col (W : FVec Ideal S2048x17536 .f32) (k : Fin 2048) (a b : Fin 17536) (h : (a : ℕ) = b) :
    W (ix2 k a) = W (ix2 k b) := by
  rw [Fin.ext h]

/-- The reference's result at row `i`, column `j`: the dot product of row `i` with the matrix column that belongs there. -/
theorem ref_at (X : FVec Ideal S16896x2048 .bf16) (W : FVec Ideal S2048x17536 .f32) (i : Fin 16896) (j : Fin 17408) :
    REF X W (ix2 i j) = ∑ k : Fin 2048, X (ix2 i k) * W (ix2 k (col j)) := by
  pointwise [REF]
  split_ifs <;> (refine Finset.sum_congr rfl fun k _ => congrArg (X (ix2 i k) * ·) (read_col W k _ _ ?_)) <;>
    simp only [col] <;> split_ifs <;> omega

set_option maxHeartbeats 1600000 in
/-- The matrix the kernel multiplies with: column ranges of the given one, concatenated. -/
theorem weight_eq (c : Dev nD) : V m c main_v8 = WCAT (m ((c : Thread nD τ).loc main_arg1)) := by
  unfold V WCAT
  after_results <;> rfl

/-- The re-ordered matrix the kernel multiplies with, at row `k`, column `j`. -/
theorem weight_at (W : FVec Ideal S2048x17536 .f32) (k : Fin 2048) (j : Fin 17408) : WCAT W (ix2 k j) = W (ix2 k (col j)) := by
  pointwise [WCAT]
  split_ifs <;> (refine read_col W k _ _ ?_) <;> simp only [col] <;> split_ifs <;> omega

/-- Which block of its array each window holds at point `t`: `t / 33` is the column block, `t % 33` the row block. -/
theorem idx : ∀ t : Fin cfg0.N, win0_0.index t = ![t.val % 33, 0] ∧ win0_1.index t = ![0, t.val / 33]
    ∧ win0_2.index t = ![t.val % 33, t.val / 33] :=
  (by decide +kernel : ∀ t : Fin grid0.N, _)

/-- What the body stores at position `y` of its tile is the reference's term at the array position `y` sits at. -/
theorem point (c : Dev nD) (t : Fin cfg0.N) (y : S512x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  rw [show (((cfg0.win 2).blk t).view.emb y : S16896x17408.Idx) = ix2 (((cfg0.win 2).blk t).view.emb y 0) (((cfg0.win 2).blk t).view.emb y 1) from eq_ix2 _]
  refine Eq.trans ?_ (ref_at _ _ _ _).symm
  pointwise [k0_pay1]
  refine Finset.sum_congr rfl fun k _ => Ideal.mul_congr ?_ ?_
  · blk_ext [iblk, V_main_arg0, idx t]
  · refine Eq.trans ?_ ((congrFun (weight_eq m c) _).trans (weight_at _ k _))
    blk_ext [iblk, idx t]

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProjIdeal.Tile

end
-- ==== Proof.MergeValue.lean ====
/-
  The merge of the two branches. Every grid point writes one 512×512 tile of the result; this file shows that the tile
  is the reference's term read at the tile's place, and so that the whole result array is the reference's term.
-/
module

public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Tile

open Cert.MergeIdeal Cert.MergeIdeal.Gen

variable (m : (ℓ : Loc nD τ sig) → Buf (Elt Ideal) ℓ)

/-- The reference's result as a function of the five arguments: the two gates (the logistic function of two column
    ranges of the projection array), each times one projected branch, added. -/
def REF (Yg : FVec Ideal S16384x4096 .bf16) (Ya : FVec Ideal S16384x2048 .bf16) (Ws : FVec Ideal S4096x2048 .f32)
    (Wa : FVec Ideal S2048x2048 .f32) (Pr : FVec Ideal S16896x17408 .f32) : FVec Ideal S16384x2048 .bf16 :=
  truncf .bf16 (addf (mulf (Host.divf (broadcastInDim S16384x2048 ![] Cert.MergeRefIdeal.Gen.bcast_S_S16384x2048 (constant Cert.MergeRefIdeal.S_ .f32 0x3F800000#32)) (addf (broadcastInDim S16384x2048 ![] Cert.MergeRefIdeal.Gen.bcast_S_S16384x2048 (constant Cert.MergeRefIdeal.S_ .f32 0x3F800000#32)) (Host.exp (Host.negf (extractStridedSlice S16384x2048 ![0, 13312] Pr Cert.MergeRefIdeal.Gen.slices_S16896x17408_S16384x2048_0_13312))))) (Host.dotGeneral Cert.MergeRefIdeal.dot_S16384x4096_S4096x2048_S16384x2048_1_0_0_1_n_n none (extf .f32 Yg Cert.MergeRefIdeal.Gen.bitsLt_bf16_f32) Ws)) (mulf (Host.divf (broadcastInDim S16384x2048 ![] Cert.MergeRefIdeal.Gen.bcast_S_S16384x2048 (constant Cert.MergeRefIdeal.S_ .f32 0x3F800000#32)) (addf (broadcastInDim S16384x2048 ![] Cert.MergeRefIdeal.Gen.bcast_S_S16384x2048 (constant Cert.MergeRefIdeal.S_ .f32 0x3F800000#32)) (Host.exp (Host.negf (extractStridedSlice S16384x2048 ![0, 15360] Pr Cert.MergeRefIdeal.Gen.slices_S16896x17408_S16384x2048_0_15360))))) (Host.dotGeneral Cert.MergeRefIdeal.dot_S16384x2048_S2048x2048_S16384x2048_1_0_0_1_n_n none (extf .f32 Ya Cert.MergeRefIdeal.Gen.bitsLt_bf16_f32) Wa))) Cert.MergeRefIdeal.Gen.bitsLt_bf16_f32

/-- Which block of its array each window holds at point `t`: `t / 32` is the column tile, `t % 32` the row tile. -/
theorem idx : ∀ t : Fin cfg0.N, win0_0.index t = ![t.val % 32, 0] ∧ win0_1.index t = ![t.val % 32, 0]
    ∧ win0_2.index t = ![0, t.val / 32] ∧ win0_3.index t = ![0, t.val / 32]
    ∧ win0_4.index t = ![t.val % 32, 26 + t.val / 32] ∧ win0_5.index t = ![t.val % 32, 30 + t.val / 32]
    ∧ win0_6.index t = ![t.val % 32, t.val / 32] :=
  (by decide +kernel : ∀ t : Fin grid0.N, _)

/-- What the body stores at position `y` of its tile is the reference's term at the array position `y` sits at. -/
theorem point (c : Dev nD) (t : Fin cfg0.N) (y : S512x512.Idx) :
    k0_pay1 (F := Ideal) (iblk m c 4 t) (iblk m c 0 t) (iblk m c 2 t) (iblk m c 5 t) (iblk m c 1 t) (iblk m c 3 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay1, REF]
  simp only [zero_sub]
  blk_point [iblk, V, idx t]

/-- The result array after the run is the reference's term of the arguments. -/
theorem final (c : Dev nD) : (dats m 0 c).arrAt 6 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.MergeIdeal.Tile

end
-- ==== Proof.OutProjValue.lean ====
/-
  The output projection and the norm that follows it. Every grid point multiplies one 256-row block of the merged
  branches with the projection matrix, scales the product by the block's batch's gate, adds the residual rows (the first
  result), and takes the root-mean-square norm of each row, scaled and shifted (the second result). This file shows that
  both result arrays are the reference's.
-/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Tile

open Cert.OutProjIdeal Cert.OutProjIdeal.Gen

variable (m : (ℓ : Loc nD τ sig) → Buf (Elt Ideal) ℓ)

/-- A row of the normed array at one column: the entry times the reciprocal root of the row's mean square plus the
    constant, times the norm's weight, times one plus the scale, plus the shift. -/
def normed (row : Fin 2048 → EReal) (w sc sh : EReal) (j : Fin 2048) : EReal :=
  row j * Ideal.rsqrt (Ideal.div (∑ k : Fin 2048, row k * row k) (FloatOps.ofBits (F := Ideal) .f32 0x45000000#32)
    + FloatOps.ofBits (F := Ideal) .f32 0x358637BD#32) * w * (FloatOps.ofBits (F := Ideal) .f32 0x3F800000#32 + sc) + sh

/-- Equal rows, weights, scales and shifts have equal norms. -/
theorem normed_congr {r r' : Fin 2048 → EReal} {w w' sc sc' sh sh' : EReal} (hr : ∀ k, r k = r' k) (hw : w = w')
    (hc : sc = sc') (hh : sh = sh') (j : Fin 2048) : normed r w sc sh j = normed r' w' sc' sh' j := by
  rw [funext hr, hw, hc, hh]

/-- The first stored value at row `p`, column `j`: the residual plus the gate times the dot product. -/
theorem pay3_at (v0 : Vec Ideal S256x2048 .f32) (v1 : Vec Ideal S1x1x2048 .f32) (v3 : Vec Ideal S256x2048 .bf16)
    (v4 : Vec Ideal S2048x2048 .bf16) (p : Fin 256) (j : Fin 2048) :
    k0_pay3 (F := Ideal) v0 v1 v3 v4 (ix2 p j)
      = v0 (ix2 p j) + v1 (ix3 0 0 j) * ∑ k : Fin 2048, v3 (ix2 p k) * v4 (ix2 k j) := by
  pointwise [k0_pay3]

/-- The second stored value at row `p`, column `j`: the norm of the first stored value's row. -/
theorem pay1_at (v0 : Vec Ideal S256x2048 .f32) (v1 : Vec Ideal S1x1x2048 .f32) (v3 : Vec Ideal S256x2048 .bf16)
    (v4 : Vec Ideal S2048x2048 .bf16) (v21 : Vec Ideal S1x2048 .f32) (v25 v31 : Vec Ideal S1x1x2048 .f32)
    (p : Fin 256) (j : Fin 2048) :
    k0_pay1 (F := Ideal) (k0_pay4 v0 v1 v3 v4 v21 v25) (k0_pay5 v31) (ix2 p j)
      = normed (fun k => k0_pay3 (F := Ideal) v0 v1 v3 v4 (ix2 p k)) (v21 (ix2 0 j)) (v25 (ix3 0 0 j)) (v31 (ix3 0 0 j)) j := by
  unfold k0_pay1 k0_pay4 k0_pay5 normed
  generalize k0_pay3 (F := Ideal) v0 v1 v3 v4 = x
  pointwise

/-- The reference's first result at batch `b`, position `s`, column `j`. -/
theorem ref10_at (X : FVec Ideal S16384x2048 .bf16) (W : FVec Ideal S2048x2048 .f32) (A : FVec Ideal S16896x2048 .f32)
    (M : FVec Ideal S8x8x2048 .f32) (b : Fin 2) (s : Fin 8192) (j : Fin 2048) :
    Cert.OutProjRefIdeal.Read.val_main_v10 (F := Ideal) X W A M (ix3 b s j)
      = A (ix2 ⟨b * 8192 + s, by omega⟩ j) + M (ix3 ⟨b, by omega⟩ 2 j)
          * ∑ k : Fin 2048, X (ix2 ⟨b * 8192 + s, by omega⟩ k) * W (ix2 k j) := by
  pointwise [Cert.OutProjRefIdeal.Read.val_main_v10, Cert.OutProjRefIdeal.Read.val_main_v9, Cert.OutProjRefIdeal.Read.val_main_v8, Cert.OutProjRefIdeal.Read.val_main_v7, Cert.OutProjRefIdeal.Read.val_main_v6, Cert.OutProjRefIdeal.Read.val_main_v5, Cert.OutProjRefIdeal.Read.val_main_v4, Cert.OutProjRefIdeal.Read.val_main_v3, Cert.OutProjRefIdeal.Read.val_main_v0]

/-- The reference's second result at batch `b`, position `s`, column `j`: the norm of the first result's row. -/
theorem ref29_at (X : FVec Ideal S16384x2048 .bf16) (W : FVec Ideal S2048x2048 .f32) (A : FVec Ideal S16896x2048 .f32)
    (M : FVec Ideal S8x8x2048 .f32) (N : FVec Ideal S2048 .f32) (b : Fin 2) (s : Fin 8192) (j : Fin 2048) :
    Cert.OutProjRefIdeal.Read.val_main_v29 (F := Ideal) X W A M N (ix3 b s j)
      = normed (fun k => Cert.OutProjRefIdeal.Read.val_main_v10 (F := Ideal) X W A M (ix3 b s k)) (N (ix1 j))
          (M (ix3 ⟨b, by omega⟩ 4 j)) (M (ix3 ⟨b, by omega⟩ 3 j)) j := by
  unfold normed
  simp only [Cert.OutProjRefIdeal.Read.val_main_v29, Cert.OutProjRefIdeal.Read.val_main_v28, Cert.OutProjRefIdeal.Read.val_main_v27, Cert.OutProjRefIdeal.Read.val_main_v26, Cert.OutProjRefIdeal.Read.val_main_v25, Cert.OutProjRefIdeal.Read.val_main_v24, Cert.OutProjRefIdeal.Read.val_main_cst_2, Cert.OutProjRefIdeal.Read.val_main_v23, Cert.OutProjRefIdeal.Read.val_main_v22, Cert.OutProjRefIdeal.Read.val_main_v21, Cert.OutProjRefIdeal.Read.val_main_v20, Cert.OutProjRefIdeal.Read.val_main_v19, Cert.OutProjRefIdeal.Read.val_main_v18, Cert.OutProjRefIdeal.Read.val_main_v17, Cert.OutProjRefIdeal.Read.val_main_v16, Cert.OutProjRefIdeal.Read.val_main_cst_1, Cert.OutProjRefIdeal.Read.val_main_v15, Cert.OutProjRefIdeal.Read.val_main_v14, Cert.OutProjRefIdeal.Read.val_main_cst_0, Cert.OutProjRefIdeal.Read.val_main_v13, Cert.OutProjRefIdeal.Read.val_main_v12, Cert.OutProjRefIdeal.Read.val_main_cst, Cert.OutProjRefIdeal.Read.val_main_v11, Cert.OutProjRefIdeal.Read.val_main_v2, Cert.OutProjRefIdeal.Read.val_main_v1]
  generalize Cert.OutProjRefIdeal.Read.val_main_v10 (F := Ideal) X W A M = x
  pointwise

/-- Which block of its array each window holds at point `t`: row block `t`, of batch `t / 32`. -/
theorem idx : ∀ t : Fin cfg0.N, win0_0.index t = ![t.val, 0] ∧ win0_1.index t = ![0, 0]
    ∧ win0_2.index t = ![t.val, 0] ∧ win0_3.index t = ![t.val / 32, 0, 0] ∧ win0_4.index t = ![0, 0]
    ∧ win0_7.index t = ![t.val, 0] ∧ win0_8.index t = ![t.val, 0] :=
  (by decide +kernel : ∀ t : Fin grid0.N, _)

/-- The grid has 64 points. -/
theorem lt_N (t : Fin cfg0.N) : (t : ℕ) < 64 := lt_of_lt_of_eq t.isLt (by decide)

/-- The matrix the kernel multiplies with is the given one. -/
theorem weight_eq (c : Dev nD) : V m c main_v0 = (truncf .bf16 (m ((c : Thread nD τ).loc main_arg1) : FVec Ideal S2048x2048 .f32) bitsLt_bf16_f32 : FVec Ideal S2048x2048 .bf16) := by
  unfold V
  after_results <;> rfl

/-- The norm's weight as the kernel reads it is the given vector as one row. -/
theorem norm_eq (c : Dev nD) : V m c main_v9 = (shapeCast S1x2048 (m ((c : Thread nD τ).loc main_arg4) : FVec Ideal S2048 .f32) shapeCasts_S2048_S1x2048 : FVec Ideal S1x2048 .f32) := by
  unfold V
  after_results <;> rfl

/-- The reference's first result as an array over the rows. -/
def REF1 (c : Dev nD) : FVec Ideal S16384x2048 .f32 :=
  Cert.OutProjRefIdeal.Read.val_main_v30 (F := Ideal) (m ((c : Thread nD τ).loc main_arg0)) (m ((c : Thread nD τ).loc main_arg1))
    (m ((c : Thread nD τ).loc main_arg2)) (m ((c : Thread nD τ).loc main_arg3))

/-- The reference's second result as an array over the rows. -/
def REF2 (c : Dev nD) : FVec Ideal S16384x2048 .f32 :=
  Cert.OutProjRefIdeal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The batch of row `p` of row block `t`. -/
def bat (t : Fin cfg0.N) : Fin 2 := ⟨t / 32, by have := lt_N t; omega⟩

/-- The position of row `p` of row block `t` within its batch. -/
def pos (t : Fin cfg0.N) (p : Fin 256) : Fin 8192 := ⟨t % 32 * 256 + p, by have := p.isLt; omega⟩

/-- The row of the arrays that row `p` of row block `t` is. -/
def row (t : Fin cfg0.N) (p : Fin 256) : Fin 16384 := ⟨t * 256 + p, by have := lt_N t; have := p.isLt; omega⟩

/-- The first result's array at that row is the batched first result. -/
theorem ref30_at (X : FVec Ideal S16384x2048 .bf16) (W : FVec Ideal S2048x2048 .f32) (A : FVec Ideal S16896x2048 .f32)
    (M : FVec Ideal S8x8x2048 .f32) (t : Fin cfg0.N) (p : Fin 256) (j : Fin 2048) :
    Cert.OutProjRefIdeal.Read.val_main_v30 (F := Ideal) X W A M (ix2 (row t p) j)
      = Cert.OutProjRefIdeal.Read.val_main_v10 (F := Ideal) X W A M (ix3 (bat t) (pos t p) j) := by
  rw [Cert.OutProjRefIdeal.Read.val_main_v30_apply]
  refine congrArg _ (funext fun a => Fin.ext ?_)
  have := lt_N t; have := p.isLt; have := j.isLt
  match a with
  | ⟨0, _⟩ => show ((t * 256 + p : ℕ) * 2048 + j) / 16777216 = t / 32; omega
  | ⟨1, _⟩ => show ((t * 256 + p : ℕ) * 2048 + j) / 2048 % 8192 = t % 32 * 256 + p; omega
  | ⟨2, _⟩ => show ((t * 256 + p : ℕ) * 2048 + j) % 2048 = j; omega

/-- The second result's array at that row is the batched second result. -/
theorem ref31_at (X : FVec Ideal S16384x2048 .bf16) (W : FVec Ideal S2048x2048 .f32) (A : FVec Ideal S16896x2048 .f32)
    (M : FVec Ideal S8x8x2048 .f32) (N : FVec Ideal S2048 .f32) (t : Fin cfg0.N) (p : Fin 256) (j : Fin 2048) :
    Cert.OutProjRefIdeal.Read.val_main_v31 (F := Ideal) X W A M N (ix2 (row t p) j)
      = Cert.OutProjRefIdeal.Read.val_main_v29 (F := Ideal) X W A M N (ix3 (bat t) (pos t p) j) := by
  rw [Cert.OutProjRefIdeal.Read.val_main_v31_apply]
  refine congrArg _ (funext fun a => Fin.ext ?_)
  have := lt_N t; have := p.isLt; have := j.isLt
  match a with
  | ⟨0, _⟩ => show ((t * 256 + p : ℕ) * 2048 + j) / 16777216 = t / 32; omega
  | ⟨1, _⟩ => show ((t * 256 + p : ℕ) * 2048 + j) / 2048 % 8192 = t % 32 * 256 + p; omega
  | ⟨2, _⟩ => show ((t * 256 + p : ℕ) * 2048 + j) % 2048 = j; omega

/-- Where position `y` of the first result's block `t` sits in the array. -/
theorem emb7 (t : Fin cfg0.N) (y : S256x2048.Idx) : (((cfg0.win 7).blk t).view.emb y : S16384x2048.Idx) = ix2 (row t (y 0)) (y 1) := by
  blk_ext [idx t, row]

/-- Where position `y` of the second result's block `t` sits in the array. -/
theorem emb8 (t : Fin cfg0.N) (y : S256x2048.Idx) : (((cfg0.win 8).blk t).view.emb y : S16384x2048.Idx) = ix2 (row t (y 0)) (y 1) := by
  blk_ext [idx t, row]

/-- A load of a whole row block is the block. -/
theorem ldx {e : EltTy} (x : Vec Ideal S256x2048 e) : View.ld x r0_0 = x := by
  funext y; pointwise

/-- A load of the whole matrix is the matrix. -/
theorem ldw (x : Vec Ideal S2048x2048 .bf16) : View.ld x r0_2 = x := by
  funext y; pointwise

/-- A load of the norm's whole weight row. -/
theorem ldn (x : Vec Ideal S1x2048 .f32) (j : Fin 2048) : View.ld x r0_3 (ix2 0 j) = x (ix2 0 j) := by
  pointwise

/-- A load of row 2 of the batch's modulation rows. -/
theorem ld2 (x : Vec Ideal S1x8x2048 .f32) (j : Fin 2048) : View.ld x r0_1 (ix3 0 0 j) = x (ix3 0 2 j) := by
  pointwise

/-- A load of row 4 of the batch's modulation rows. -/
theorem ld4 (x : Vec Ideal S1x8x2048 .f32) (j : Fin 2048) : View.ld x r0_4 (ix3 0 0 j) = x (ix3 0 4 j) := by
  pointwise

/-- A load of row 3 of the batch's modulation rows. -/
theorem ld3 (x : Vec Ideal S1x8x2048 .f32) (j : Fin 2048) : View.ld x r0_5 (ix3 0 0 j) = x (ix3 0 3 j) := by
  pointwise

/-- Row `p` of block `t`, as the reference numbers it, lies within the merged branches' rows. -/
theorem row_lt (t : Fin cfg0.N) (p : Fin 256) : (bat t : ℕ) * 8192 + (pos t p : ℕ) < 16384 := by
  have := (bat t).isLt; have := (pos t p).isLt; omega

/-- The merged branches' block `t` at row `p`, column `k`. -/
theorem blkX (c : Dev nD) (t : Fin cfg0.N) (p : Fin 256) (k : Fin 2048) :
    (iblk m c 0 t : Vec Ideal S256x2048 .bf16) (ix2 p k)
      = (m ((c : Thread nD τ).loc main_arg0) : FVec Ideal S16384x2048 .bf16) (ix2 ⟨(bat t : ℕ) * 8192 + (pos t p : ℕ), row_lt t p⟩ k) := by
  have ht := lt_N t
  blk_ext [iblk, V_main_arg0, idx t, bat, pos]

/-- The matrix's block, which is the whole matrix, at row `k`, column `j`. -/
theorem blkW (c : Dev nD) (t : Fin cfg0.N) (k j : Fin 2048) :
    (iblk m c 1 t : Vec Ideal S2048x2048 .bf16) (ix2 k j) = (m ((c : Thread nD τ).loc main_arg1) : FVec Ideal S2048x2048 .f32) (ix2 k j) := by
  refine Eq.trans ?_ (congrFun (weight_eq m c) (ix2 k j))
  blk_ext [iblk, idx t]

/-- The residual rows' block `t` at row `p`, column `j`. -/
theorem blkA (c : Dev nD) (t : Fin cfg0.N) (p : Fin 256) (j : Fin 2048) :
    (iblk m c 2 t : Vec Ideal S256x2048 .f32) (ix2 p j)
      = (m ((c : Thread nD τ).loc main_arg2) : FVec Ideal S16896x2048 .f32) (ix2 ⟨(bat t : ℕ) * 8192 + (pos t p : ℕ), lt_trans (row_lt t p) (by decide)⟩ j) := by
  have ht := lt_N t
  blk_ext [iblk, V_main_arg2, idx t, bat, pos]

/-- The modulation rows' block `t`, row `r`, at column `j`: the batch's row. -/
theorem blkM (c : Dev nD) (t : Fin cfg0.N) (r : Fin 8) (j : Fin 2048) :
    (iblk m c 3 t : Vec Ideal S1x8x2048 .f32) (ix3 0 r j)
      = (m ((c : Thread nD τ).loc main_arg3) : FVec Ideal S8x8x2048 .f32) (ix3 ⟨(bat t : ℕ), lt_trans (bat t).isLt (by decide)⟩ r j) := by
  have ht := lt_N t
  blk_ext [iblk, V_main_arg3, idx t, bat]

/-- The norm's weight block at column `j`. -/
theorem blkN (c : Dev nD) (t : Fin cfg0.N) (j : Fin 2048) :
    (iblk m c 4 t : Vec Ideal S1x2048 .f32) (ix2 0 j) = (m ((c : Thread nD τ).loc main_arg4) : FVec Ideal S2048 .f32) (ix1 j) := by
  refine Eq.trans (b := V m c main_v9 (ix2 0 j)) ?_ ((congrFun (norm_eq m c) (ix2 0 j)).trans ?_)
  · blk_ext [iblk, idx t]
  · generalize (m ((c : Thread nD τ).loc main_arg4) : FVec Ideal S2048 .f32) = x
    pointwise

/-- The first stored value at row `p` of block `t` is the reference's first result there. -/
theorem first (c : Dev nD) (t : Fin cfg0.N) (p : Fin 256) (j : Fin 2048) :
    k0_pay3 (F := Ideal) (iblk m c 2 t) (View.ld (iblk m c 3 t) r0_1) (iblk m c 0 t) (iblk m c 1 t) (ix2 p j)
      = Cert.OutProjRefIdeal.Read.val_main_v10 (F := Ideal) (m ((c : Thread nD τ).loc main_arg0)) (m ((c : Thread nD τ).loc main_arg1))
          (m ((c : Thread nD τ).loc main_arg2)) (m ((c : Thread nD τ).loc main_arg3)) (ix3 (bat t) (pos t p) j) := by
  refine (pay3_at _ _ _ _ p j).trans (Eq.trans ?_ (ref10_at _ _ _ _ (bat t) (pos t p) j).symm)
  refine Ideal.add_congr (blkA m c t p j) (Ideal.mul_congr ((ld2 _ j).trans (blkM m c t 2 j))
    (Finset.sum_congr rfl fun k _ => Ideal.mul_congr (blkX m c t p k) (blkW m c t k j)))

/-- The second stored value at row `p` of block `t` is the reference's second result there. -/
theorem second (c : Dev nD) (t : Fin cfg0.N) (p : Fin 256) (j : Fin 2048) :
    k0_pay1 (F := Ideal) (k0_pay6 (iblk m c 0 t) (iblk m c 1 t) (iblk m c 2 t) (iblk m c 3 t) (iblk m c 4 t) (iblk m c 5 t) (iblk m c 6 t))
        (k0_pay7 (iblk m c 0 t) (iblk m c 1 t) (iblk m c 2 t) (iblk m c 3 t) (iblk m c 4 t) (iblk m c 5 t) (iblk m c 6 t)) (ix2 p j)
      = Cert.OutProjRefIdeal.Read.val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix3 (bat t) (pos t p) j) := by
  unfold k0_pay6 k0_pay7
  rw [ldx, ldx, ldw]
  refine (pay1_at _ _ _ _ _ _ _ p j).trans (Eq.trans ?_ (ref29_at _ _ _ _ _ (bat t) (pos t p) j).symm)
  exact normed_congr (fun k => first m c t p k) ((ldn _ j).trans (blkN m c t j)) ((ld4 _ j).trans (blkM m c t 4 j))
    ((ld3 _ j).trans (blkM m c t 3 j)) j

/-- The first result array after the run is the reference's. -/
theorem final7 (c : Dev nD) : (dats m 0 c).arrAt 7 (cfgs 0).N = REF1 m c := by
  refine (dats m 0 c).arrAt_eq_of_covers 7 _ (by decide +kernel) fun t _ y => ?_
  blk_simp
  rw [after0_7]; frame_out
  refine Eq.trans ?_ ((ref30_at _ _ _ _ t (y 0) (y 1)).symm.trans (congrArg (REF1 m c) (emb7 t y).symm))
  refine Eq.trans (congrArg _ (eq_ix2 (n0 := 256) (n1 := 2048) y)) (first m c t (y 0) (y 1))

/-- The second result array after the run is the reference's. -/
theorem final8 (c : Dev nD) : (dats m 0 c).arrAt 8 (cfgs 0).N = REF2 m c := by
  refine (dats m 0 c).arrAt_eq_of_covers 8 _ (by decide +kernel) fun t _ y => ?_
  blk_simp
  rw [after0_8]; frame_out
  refine Eq.trans ?_ ((ref31_at _ _ _ _ _ t (y 0) (y 1)).symm.trans (congrArg (REF2 m c) (emb8 t y).symm))
  refine Eq.trans (congrArg _ (eq_ix2 (n0 := 256) (n1 := 2048) y)) (second m c t (y 0) (y 1))

end Cert.OutProjIdeal.Tile

end
-- ==== Proof.DtProjValue.lean ====
/-
  The step sizes' projection. Every grid point multiplies one 512-row block of the hidden states with the 128 columns of
  the projection matrix that make the step sizes of the two directions. This file shows that the whole result array is the
  reference's: those columns of the product with the whole matrix.
-/
module

public import proofs.«01_k».proof.Proof.Gen.DtProjIdeal.Value
public import proofs.«01_k».proof.Proof.Gen.DtProjRefIdeal.Run
public import proofs.«01_k».proof.Proof.Gen.DtProjRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DtProjIdeal.Tile

open Cert.DtProjIdeal Cert.DtProjIdeal.Gen

variable (m : (ℓ : Loc nD τ sig) → Buf (Elt Ideal) ℓ)

/-- The reference's result as a function of the two arguments: the product's two ranges of 64 step-size columns side by side. -/
def REF (X : FVec Ideal S16896x2048 .bf16) (W : FVec Ideal S2048x17536 .f32) : FVec Ideal S16896x128 .f32 :=
  Cert.DtProjRefIdeal.Read.val_main_v11 (F := Ideal) X W

/-- The matrix the kernel multiplies with: the two ranges of 64 step-size columns of the given matrix side by side. -/
def WDT (W : FVec Ideal S2048x17536 .f32) : FVec Ideal S2048x128 .bf16 :=
  truncf .bf16 (concatenate S2048x128 1 [⟨S2048x64, (extractStridedSlice S2048x64 ![0, 10240] W slices_S2048x17536_S2048x64_0_10240 : FVec Ideal S2048x64 .f32)⟩, ⟨S2048x64, (extractStridedSlice S2048x64 ![0, 10304] W slices_S2048x17536_S2048x64_0_10304 : FVec Ideal S2048x64 .f32)⟩] concatenates_S2048x64_S2048x64_S2048x128_d1 : FVec Ideal S2048x128 .f32) bitsLt_bf16_f32

/-- The column of the projection matrix that is step-size column `j`. -/
def col (j : Fin 128) : Fin 17536 := ⟨j + 10240, by omega⟩

/-- Two reads of a matrix in one row agree when the columns are the same number. -/
theorem read_col (W : FVec Ideal S2048x17536 .f32) (k : Fin 2048) (a b : Fin 17536) (h : (a : ℕ) = b) :
    W (ix2 k a) = W (ix2 k b) := by
  rw [Fin.ext h]

/-- The reference's result at row `i`, column `j`: the dot product of row `i` with that column of the matrix. -/
theorem ref_at (X : FVec Ideal S16896x2048 .bf16) (W : FVec Ideal S2048x17536 .f32) (i : Fin 16896) (j : Fin 128) :
    REF X W (ix2 i j) = ∑ k : Fin 2048, X (ix2 i k) * W (ix2 k (col j)) := by
  pointwise [REF, Cert.DtProjRefIdeal.Read.val_main_v11, Cert.DtProjRefIdeal.Read.val_main_v4, Cert.DtProjRefIdeal.Read.val_main_v5, Cert.DtProjRefIdeal.Read.val_main_v1, Cert.DtProjRefIdeal.Read.val_main_v0]
  split_ifs <;> (refine Finset.sum_congr rfl fun k _ => congrArg (X (ix2 i k) * ·) (read_col W k _ _ ?_)) <;>
    simp only [col] <;> omega

/-- The kernel's matrix at row `k`, column `j`. -/
theorem weight_at (W : FVec Ideal S2048x17536 .f32) (k : Fin 2048) (j : Fin 128) : WDT W (ix2 k j) = W (ix2 k (col j)) := by
  pointwise [WDT]
  split_ifs <;> (refine read_col W k _ _ ?_) <;> simp only [col] <;> omega

set_option maxHeartbeats 1600000 in
/-- The matrix the kernel multiplies with, read where the kernel finds it. -/
theorem weight_eq (c : Dev nD) : V m c main_v12 = WDT (m ((c : Thread nD τ).loc main_arg1)) := by
  unfold V WDT
  after_results <;> rfl

/-- Which block of its array each window holds at point `t`: row block `t`; the matrix is one block. -/
theorem idx : ∀ t : Fin cfg0.N, win0_0.index t = ![t.val, 0] ∧ win0_1.index t = ![0, 0] ∧ win0_2.index t = ![t.val, 0] :=
  (by decide +kernel : ∀ t : Fin grid0.N, _)

/-- What the body stores at position `y` of its block is the reference's term at the array position `y` sits at. -/
theorem point (c : Dev nD) (t : Fin cfg0.N) (y : S512x128.Idx) :
    k0_pay1 (F := Ideal) (iblk m c 0 t) (iblk m c 1 t) y
      = REF (m ((c : Thread nD τ).loc main_arg0)) (m ((c : Thread nD τ).loc main_arg1)) (((cfg0.win 2).blk t).view.emb y) := by
  rw [show (((cfg0.win 2).blk t).view.emb y : S16896x128.Idx) = ix2 (((cfg0.win 2).blk t).view.emb y 0) (((cfg0.win 2).blk t).view.emb y 1) from eq_ix2 _]
  refine Eq.trans ?_ (ref_at _ _ _ _).symm
  pointwise [k0_pay1]
  refine Finset.sum_congr rfl fun k _ => Ideal.mul_congr ?_ ?_
  · blk_ext [iblk, V_main_arg0, idx t]
  · refine Eq.trans ?_ ((congrFun (weight_eq m c) _).trans (weight_at _ k _))
    blk_ext [iblk, idx t]

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DtProjIdeal.Tile

end
-- ==== Proof.NormValue.lean ====
/-
  The first norm. Every grid point takes the root-mean-square norm of each row of one 256-row block of the residual array
  and scales and shifts it by the modulation rows that belong to the block: its batch's for the latents' rows, the third
  ones for the context's rows. This file shows that the whole result array is the reference's.
-/
module

public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Tile

open Cert.NormIdeal Cert.NormIdeal.Gen

variable (m : (ℓ : Loc nD τ sig) → Buf (Elt Ideal) ℓ)

/-- A row of the normed array at one column: the entry times the reciprocal root of the row's mean square plus the
    constant, times the norm's weight, times one plus the scale, plus the shift. -/
def normed (row : Fin 2048 → EReal) (w sc sh : EReal) (j : Fin 2048) : EReal :=
  row j * Ideal.rsqrt (Ideal.div (∑ k : Fin 2048, row k * row k) (FloatOps.ofBits (F := Ideal) .f32 0x45000000#32)
    + FloatOps.ofBits (F := Ideal) .f32 0x358637BD#32) * w * (FloatOps.ofBits (F := Ideal) .f32 0x3F800000#32 + sc) + sh

/-- Equal rows, weights, scales and shifts have equal norms. -/
theorem normed_congr {r r' : Fin 2048 → EReal} {w w' sc sc' sh sh' : EReal} (hr : ∀ k, r k = r' k) (hw : w = w')
    (hc : sc = sc') (hh : sh = sh') (j : Fin 2048) : normed r w sc sh j = normed r' w' sc' sh' j := by
  rw [funext hr, hw, hc, hh]

/-- The stored value at row `p`, column `j`: the norm of the loaded block's row. -/
theorem pay_at (v0 : Vec Ideal S256x2048 .f32) (v11 : Vec Ideal S1x2048 .f32) (v15 v21 : Vec Ideal S1x1x2048 .f32)
    (p : Fin 256) (j : Fin 2048) :
    k0_pay1 (F := Ideal) v0 v11 v15 v21 (ix2 p j)
      = normed (fun k => v0 (ix2 p k)) (v11 (ix2 0 j)) (v15 (ix3 0 0 j)) (v21 (ix3 0 0 j)) j := by
  unfold k0_pay1 normed
  pointwise

/-- The latents' rows by batch and position. -/
theorem ref1_at (X : FVec Ideal S16896x2048 .f32) (b : Fin 2) (s : Fin 8192) (j : Fin 2048) :
    Cert.NormRefIdeal.Read.val_main_v1 (F := Ideal) X (ix3 b s j) = X (ix2 ⟨b * 8192 + s, by omega⟩ j) := by
  pointwise [Cert.NormRefIdeal.Read.val_main_v1, Cert.NormRefIdeal.Read.val_main_v0]

/-- The context's rows by batch and position. -/
theorem ref3_at (X : FVec Ideal S16896x2048 .f32) (b : Fin 2) (s : Fin 256) (j : Fin 2048) :
    Cert.NormRefIdeal.Read.val_main_v3 (F := Ideal) X (ix3 b s j) = X (ix2 ⟨16384 + (b * 256 + s), by omega⟩ j) := by
  pointwise [Cert.NormRefIdeal.Read.val_main_v3, Cert.NormRefIdeal.Read.val_main_v2]

/-- The reference's latents' rows at batch `b`, position `s`, column `j`. -/
theorem ref24_at (X : FVec Ideal S16896x2048 .f32) (N : FVec Ideal S2048 .f32) (M : FVec Ideal S8x8x2048 .f32) (b : Fin 2) (s : Fin 8192) (j : Fin 2048) :
    Cert.NormRefIdeal.Read.val_main_v24 (F := Ideal) X N M (ix3 b s j)
      = normed (fun k => Cert.NormRefIdeal.Read.val_main_v1 (F := Ideal) X (ix3 b s k)) (N (ix1 j)) (M (ix3 ⟨b, by omega⟩ 1 j)) (M (ix3 ⟨b, by omega⟩ 0 j)) j := by
  unfold normed
  simp only [Cert.NormRefIdeal.Read.val_main_v24, Cert.NormRefIdeal.Read.val_main_v23, Cert.NormRefIdeal.Read.val_main_v22, Cert.NormRefIdeal.Read.val_main_v21, Cert.NormRefIdeal.Read.val_main_v20, Cert.NormRefIdeal.Read.val_main_v19, Cert.NormRefIdeal.Read.val_main_cst_2, Cert.NormRefIdeal.Read.val_main_v18, Cert.NormRefIdeal.Read.val_main_v17, Cert.NormRefIdeal.Read.val_main_v16, Cert.NormRefIdeal.Read.val_main_v15, Cert.NormRefIdeal.Read.val_main_v14, Cert.NormRefIdeal.Read.val_main_v13, Cert.NormRefIdeal.Read.val_main_v12, Cert.NormRefIdeal.Read.val_main_v11, Cert.NormRefIdeal.Read.val_main_v10, Cert.NormRefIdeal.Read.val_main_v9, Cert.NormRefIdeal.Read.val_main_cst_1, Cert.NormRefIdeal.Read.val_main_v8, Cert.NormRefIdeal.Read.val_main_v7, Cert.NormRefIdeal.Read.val_main_cst_0, Cert.NormRefIdeal.Read.val_main_v6, Cert.NormRefIdeal.Read.val_main_v5, Cert.NormRefIdeal.Read.val_main_cst, Cert.NormRefIdeal.Read.val_main_v4]
  generalize Cert.NormRefIdeal.Read.val_main_v1 (F := Ideal) X = x
  pointwise

/-- The reference's context's rows at batch `b`, position `s`, column `j`. -/
theorem ref49_at (X : FVec Ideal S16896x2048 .f32) (N : FVec Ideal S2048 .f32) (M : FVec Ideal S8x8x2048 .f32) (b : Fin 2) (s : Fin 256) (j : Fin 2048) :
    Cert.NormRefIdeal.Read.val_main_v49 (F := Ideal) X N M (ix3 b s j)
      = normed (fun k => Cert.NormRefIdeal.Read.val_main_v3 (F := Ideal) X (ix3 b s k)) (N (ix1 j)) (M (ix3 2 1 j)) (M (ix3 2 0 j)) j := by
  unfold normed
  simp only [Cert.NormRefIdeal.Read.val_main_v49, Cert.NormRefIdeal.Read.val_main_v48, Cert.NormRefIdeal.Read.val_main_v47, Cert.NormRefIdeal.Read.val_main_v46, Cert.NormRefIdeal.Read.val_main_v45, Cert.NormRefIdeal.Read.val_main_v44, Cert.NormRefIdeal.Read.val_main_v43, Cert.NormRefIdeal.Read.val_main_v42, Cert.NormRefIdeal.Read.val_main_cst_6, Cert.NormRefIdeal.Read.val_main_v41, Cert.NormRefIdeal.Read.val_main_v40, Cert.NormRefIdeal.Read.val_main_v39, Cert.NormRefIdeal.Read.val_main_v38, Cert.NormRefIdeal.Read.val_main_v37, Cert.NormRefIdeal.Read.val_main_v36, Cert.NormRefIdeal.Read.val_main_v35, Cert.NormRefIdeal.Read.val_main_v34, Cert.NormRefIdeal.Read.val_main_v33, Cert.NormRefIdeal.Read.val_main_v32, Cert.NormRefIdeal.Read.val_main_v31, Cert.NormRefIdeal.Read.val_main_v30, Cert.NormRefIdeal.Read.val_main_cst_5, Cert.NormRefIdeal.Read.val_main_v29, Cert.NormRefIdeal.Read.val_main_v28, Cert.NormRefIdeal.Read.val_main_cst_4, Cert.NormRefIdeal.Read.val_main_v27, Cert.NormRefIdeal.Read.val_main_v26, Cert.NormRefIdeal.Read.val_main_cst_3, Cert.NormRefIdeal.Read.val_main_v25]
  generalize Cert.NormRefIdeal.Read.val_main_v3 (F := Ideal) X = x
  pointwise

/-- The modulation row that belongs to row `i`: its batch's for the latents' rows, the third for the context's. -/
def mrow (i : Fin 16896) : Fin 8 := ⟨if (i : ℕ) < 16384 then i / 8192 else 2, by split_ifs <;> omega⟩

/-- Two reads of an array over the rows agree when the rows are the same number. -/
theorem read_row (X : FVec Ideal S16896x2048 .f32) (a b : Fin 16896) (h : (a : ℕ) = b) (j : Fin 2048) : X (ix2 a j) = X (ix2 b j) := by
  rw [Fin.ext h]

/-- Two reads of the modulation rows agree when the first indices are the same number. -/
theorem read_mod (M : FVec Ideal S8x8x2048 .f32) (a b : Fin 8) (h : (a : ℕ) = b) (r : Fin 8) (j : Fin 2048) :
    M (ix3 a r j) = M (ix3 b r j) := by
  rw [Fin.ext h]

/-- The latents' rows as an array over the rows. -/
theorem ref50_at (X : FVec Ideal S16896x2048 .f32) (N : FVec Ideal S2048 .f32) (M : FVec Ideal S8x8x2048 .f32) (i : Fin 16384) (j : Fin 2048) :
    Cert.NormRefIdeal.Read.val_main_v50 (F := Ideal) X N M (ix2 i j)
      = Cert.NormRefIdeal.Read.val_main_v24 (F := Ideal) X N M (ix3 ⟨i / 8192, by omega⟩ ⟨i % 8192, by omega⟩ j) := by
  rw [Cert.NormRefIdeal.Read.val_main_v50_apply]
  refine congrArg _ (funext fun a => Fin.ext ?_)
  have := i.isLt; have := j.isLt
  match a with
  | ⟨0, _⟩ => show ((i : ℕ) * 2048 + j) / 16777216 = i / 8192; omega
  | ⟨1, _⟩ => show ((i : ℕ) * 2048 + j) / 2048 % 8192 = i % 8192; omega
  | ⟨2, _⟩ => show ((i : ℕ) * 2048 + j) % 2048 = j; omega

/-- The context's rows as an array over the rows. -/
theorem ref51_at (X : FVec Ideal S16896x2048 .f32) (N : FVec Ideal S2048 .f32) (M : FVec Ideal S8x8x2048 .f32) (i : Fin 512) (j : Fin 2048) :
    Cert.NormRefIdeal.Read.val_main_v51 (F := Ideal) X N M (ix2 i j)
      = Cert.NormRefIdeal.Read.val_main_v49 (F := Ideal) X N M (ix3 ⟨i / 256, by omega⟩ ⟨i % 256, by omega⟩ j) := by
  rw [Cert.NormRefIdeal.Read.val_main_v51_apply]
  refine congrArg _ (funext fun a => Fin.ext ?_)
  have := i.isLt; have := j.isLt
  match a with
  | ⟨0, _⟩ => show ((i : ℕ) * 2048 + j) / 524288 = i / 256; omega
  | ⟨1, _⟩ => show ((i : ℕ) * 2048 + j) / 2048 % 256 = i % 256; omega
  | ⟨2, _⟩ => show ((i : ℕ) * 2048 + j) % 2048 = j; omega

/-- The reference's result at row `i`, column `j`, in terms of its two parts. -/
theorem ref53_split (X : FVec Ideal S16896x2048 .f32) (N : FVec Ideal S2048 .f32) (M : FVec Ideal S8x8x2048 .f32) (i : Fin 16896) (j : Fin 2048) :
    Cert.NormRefIdeal.Read.val_main_v53 (F := Ideal) X N M (ix2 i j)
      = if h : (i : ℕ) < 16384 then Cert.NormRefIdeal.Read.val_main_v50 (F := Ideal) X N M (ix2 ⟨i, h⟩ j)
        else Cert.NormRefIdeal.Read.val_main_v51 (F := Ideal) X N M (ix2 ⟨i - 16384, by omega⟩ j) := by
  simp only [Cert.NormRefIdeal.Read.val_main_v53, Cert.NormRefIdeal.Read.val_main_v52]
  generalize Cert.NormRefIdeal.Read.val_main_v50 (F := Ideal) X N M = x
  generalize Cert.NormRefIdeal.Read.val_main_v51 (F := Ideal) X N M = y
  pointwise

/-- The reference's result at row `i`, column `j`: the norm of the row, with the modulation rows that belong to it. -/
theorem ref_at (X : FVec Ideal S16896x2048 .f32) (N : FVec Ideal S2048 .f32) (M : FVec Ideal S8x8x2048 .f32) (i : Fin 16896) (j : Fin 2048) :
    Cert.NormRefIdeal.Read.val_main_v53 (F := Ideal) X N M (ix2 i j)
      = normed (fun k => X (ix2 i k)) (N (ix1 j)) (M (ix3 (mrow i) 1 j)) (M (ix3 (mrow i) 0 j)) j := by
  rw [ref53_split]
  split_ifs with h
  · refine (ref50_at X N M _ j).trans ((ref24_at X N M _ _ j).trans (normed_congr (fun k => (ref1_at X _ _ k).trans (read_row X _ _ ?_ k)) rfl
      (read_mod M _ _ ?_ 1 j) (read_mod M _ _ ?_ 0 j) j))
    · show (i : ℕ) / 8192 * 8192 + (i : ℕ) % 8192 = i; omega
    · simp only [mrow]; rw [if_pos h]
    · simp only [mrow]; rw [if_pos h]
  · refine (ref51_at X N M _ j).trans ((ref49_at X N M _ _ j).trans (normed_congr (fun k => (ref3_at X _ _ k).trans (read_row X _ _ ?_ k)) rfl
      (read_mod M _ _ ?_ 1 j) (read_mod M _ _ ?_ 0 j) j))
    · show 16384 + (((i : ℕ) - 16384) / 256 * 256 + ((i : ℕ) - 16384) % 256) = i; omega
    · simp only [mrow]; rw [if_neg h]; rfl
    · simp only [mrow]; rw [if_neg h]; rfl

/-- Which block of its array each window holds at point `t`: row block `t`, the batch's modulation rows for the first 64
    blocks and the third ones after them. -/
theorem idx : ∀ t : Fin cfg0.N, win0_0.index t = ![t.val, 0] ∧ win0_1.index t = ![0, 0]
    ∧ win0_2.index t = ![if t.val < 64 then t.val / 32 else 2, 0, 0] ∧ win0_3.index t = ![t.val, 0] :=
  (by decide +kernel : ∀ t : Fin grid0.N, _)

/-- The grid has 66 points. -/
theorem lt_N (t : Fin cfg0.N) : (t : ℕ) < 66 := lt_of_lt_of_eq t.isLt (by decide)

/-- The row of the arrays that row `p` of row block `t` is. -/
def row (t : Fin cfg0.N) (p : Fin 256) : Fin 16896 := ⟨t * 256 + p, by have := lt_N t; have := p.isLt; omega⟩

/-- The modulation row that belongs to the rows of block `t` is the block's. -/
theorem mrow_row (t : Fin cfg0.N) (p : Fin 256) : ((mrow (row t p) : Fin 8) : ℕ) = if t.val < 64 then t.val / 32 else 2 := by
  have := lt_N t; have := p.isLt
  show (if (t * 256 + p : ℕ) < 16384 then (t * 256 + p : ℕ) / 8192 else 2) = _
  by_cases h : (t : ℕ) < 64
  · rw [if_pos h, if_pos (by omega)]; omega
  · rw [if_neg h, if_neg (by omega)]

/-- The norm's weight as the kernel reads it is the given vector as one row. -/
theorem norm_eq (c : Dev nD) : V m c main_v0 = (shapeCast S1x2048 (m ((c : Thread nD τ).loc main_arg1) : FVec Ideal S2048 .f32) shapeCasts_S2048_S1x2048 : FVec Ideal S1x2048 .f32) := by
  unfold V
  after_results <;> rfl

/-- Where position `y` of the result's block `t` sits in the array. -/
theorem emb3 (t : Fin cfg0.N) (y : S256x2048.Idx) : (((cfg0.win 3).blk t).view.emb y : S16896x2048.Idx) = ix2 (row t (y 0)) (y 1) := by
  blk_ext [idx t, row]

/-- A load of the norm's whole weight row. -/
theorem ldn (x : Vec Ideal S1x2048 .f32) (j : Fin 2048) : View.ld x r0_1 (ix2 0 j) = x (ix2 0 j) := by
  pointwise

/-- A load of row 1 of the modulation rows. -/
theorem ld1 (x : Vec Ideal S1x8x2048 .f32) (j : Fin 2048) : View.ld x r0_2 (ix3 0 0 j) = x (ix3 0 1 j) := by
  pointwise

/-- A load of row 0 of the modulation rows. -/
theorem ld0 (x : Vec Ideal S1x8x2048 .f32) (j : Fin 2048) : View.ld x r0_3 (ix3 0 0 j) = x (ix3 0 0 j) := by
  pointwise

/-- The residual array's block `t` at row `p`, column `k`. -/
theorem blkX (c : Dev nD) (t : Fin cfg0.N) (p : Fin 256) (k : Fin 2048) :
    (iblk m c 0 t : Vec Ideal S256x2048 .f32) (ix2 p k)
      = (m ((c : Thread nD τ).loc main_arg0) : FVec Ideal S16896x2048 .f32) (ix2 (row t p) k) := by
  have ht := lt_N t
  blk_ext [iblk, V_main_arg0, idx t, row]

/-- The norm's weight block at column `j`. -/
theorem blkN (c : Dev nD) (t : Fin cfg0.N) (j : Fin 2048) :
    (iblk m c 1 t : Vec Ideal S1x2048 .f32) (ix2 0 j) = (m ((c : Thread nD τ).loc main_arg1) : FVec Ideal S2048 .f32) (ix1 j) := by
  refine Eq.trans (b := V m c main_v0 (ix2 0 j)) ?_ ((congrFun (norm_eq m c) (ix2 0 j)).trans ?_)
  · blk_ext [iblk, idx t]
  · generalize (m ((c : Thread nD τ).loc main_arg1) : FVec Ideal S2048 .f32) = x
    pointwise

/-- The modulation rows' block `t`, row `r`, at column `j`. -/
theorem blkM (c : Dev nD) (t : Fin cfg0.N) (p : Fin 256) (r : Fin 8) (j : Fin 2048) :
    (iblk m c 2 t : Vec Ideal S1x8x2048 .f32) (ix3 0 r j)
      = (m ((c : Thread nD τ).loc main_arg2) : FVec Ideal S8x8x2048 .f32) (ix3 (mrow (row t p)) r j) := by
  have ht := lt_N t
  have hm := mrow_row t p
  blk_ext [iblk, V_main_arg2, idx t]

/-- The stored value at row `p` of block `t` is the reference's result there. -/
theorem point (c : Dev nD) (t : Fin cfg0.N) (p : Fin 256) (j : Fin 2048) :
    k0_pay1 (F := Ideal) (iblk m c 0 t) (iblk m c 1 t) (View.ld (iblk m c 2 t) r0_2) (View.ld (iblk m c 2 t) r0_3) (ix2 p j)
      = Cert.NormRefIdeal.Read.val_main_v53 (F := Ideal) (m ((c : Thread nD τ).loc main_arg0)) (m ((c : Thread nD τ).loc main_arg1))
          (m ((c : Thread nD τ).loc main_arg2)) (ix2 (row t p) j) := by
  refine (pay_at _ _ _ _ p j).trans (Eq.trans ?_ (ref_at _ _ _ (row t p) j).symm)
  exact normed_congr (fun k => blkX m c t p k) (blkN m c t j) ((ld1 _ j).trans (blkM m c t p 1 j)) ((ld0 _ j).trans (blkM m c t p 0 j)) j

/-- The reference's result as a function of the three arguments. -/
def REF (c : Dev nD) : FVec Ideal S16896x2048 .bf16 :=
  Cert.NormRefIdeal.Read.val_main_v53 (F := Ideal) (m ((c : Thread nD τ).loc main_arg0)) (m ((c : Thread nD τ).loc main_arg1)) (m ((c : Thread nD τ).loc main_arg2))

/-- The result array after the run is the reference's. -/
theorem final (c : Dev nD) : (dats m 0 c).arrAt 3 (cfgs 0).N = REF m c := by
  refine (dats m 0 c).arrAt_eq_of_covers 3 _ (by decide +kernel) fun t _ y => ?_
  blk_simp
  rw [after0_3]; frame_out
  refine Eq.trans ?_ (congrArg (REF m c) (emb3 t y).symm)
  refine Eq.trans (congrArg _ (eq_ix2 (n0 := 256) (n1 := 2048) y)) (point m c t (y 0) (y 1))

end Cert.NormIdeal.Tile

end
-- ==== Proof.VCastValue.lean ====
/-
  The values' cast. Every grid point reads one 256-row block of the values' 512 columns of the projection array and writes
  it in the narrower type. This file shows that the whole result array is the reference's: those columns, narrowed.
-/
module

public import proofs.«01_k».proof.Proof.Gen.VCastIdeal.Value
public import proofs.«01_k».proof.Proof.Gen.VCastRefIdeal.Run
public import proofs.«01_k».proof.Proof.Gen.VCastRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.VCastIdeal.Tile

open Cert.VCastIdeal Cert.VCastIdeal.Gen

variable (m : (ℓ : Loc nD τ sig) → Buf (Elt Ideal) ℓ)

/-- The reference's result as a function of the argument: columns 12800 to 13311 of the projection array, narrowed. -/
def REF (X : FVec Ideal S16896x17408 .f32) : FVec Ideal S16896x512 .bf16 :=
  Cert.VCastRefIdeal.Read.val_main_v1 (F := Ideal) X

/-- Which block of its array each window holds at point `t`: row block `t`, the values' columns being column block 25. -/
theorem idx : ∀ t : Fin cfg0.N, win0_0.index t = ![t.val, 25] ∧ win0_1.index t = ![t.val, 0] :=
  (by decide +kernel : ∀ t : Fin grid0.N, _)

/-- What the body stores at position `y` of its block is the reference's term at the array position `y` sits at. -/
theorem point (c : Dev nD) (t : Fin cfg0.N) (y : S256x512.Idx) :
    k0_pay1 (F := Ideal) (iblk m c 0 t) y = REF (m ((c : Thread nD τ).loc main_arg0)) (((cfg0.win 1).blk t).view.emb y) := by
  pointwise [k0_pay1, REF, Cert.VCastRefIdeal.Read.val_main_v1, Cert.VCastRefIdeal.Read.val_main_v0]
  blk_point [iblk, V, idx t]

/-- The result array after the run is the reference's term of the argument. -/
theorem final (c : Dev nD) : (dats m 0 c).arrAt 1 (cfgs 0).N = REF (m ((c : Thread nD τ).loc main_arg0)) := by
  refine (dats m 0 c).arrAt_eq_of_covers 1 _ (by decide +kernel) fun t _ y => ?_
  blk_simp
  rw [after0_1]; frame_out
  exact point m c t y

end Cert.VCastIdeal.Tile

end
-- ==== Proof.GateNormValue.lean ====
/-
  The gated norm. Every grid point adds the two scan directions' results of one 256-row block, multiplies them by the gate
  times its logistic function, and takes the root-mean-square norm of every group of 512 columns, scaled by the weight. This
  file shows that the whole result array is the reference's.
-/
module

public import proofs.«01_k».proof.Proof.Gen.GateNormIdeal.Value
public import proofs.«01_k».proof.Proof.Gen.GateNormRefIdeal.Run
public import proofs.«01_k».proof.Proof.Gen.GateNormRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateNormIdeal.Tile

open Cert.GateNormIdeal Cert.GateNormIdeal.Gen

variable (m : (ℓ : Loc nD τ sig) → Buf (Elt Ideal) ℓ)

/-- One entry of the gated array: the two directions' sum times the gate times the gate's logistic function. -/
def gated (a b z : EReal) : EReal :=
  (a + b) * (z * Ideal.div (FloatOps.ofBits (F := Ideal) .f32 0x3F800000#32) (FloatOps.ofBits (F := Ideal) .f32 0x3F800000#32 + Ideal.exp (-z)))

/-- One entry of a normed group of 512: the entry times the reciprocal root of the group's mean square plus the constant,
    times the weight. -/
def normed (row : Fin 512 → EReal) (w : EReal) (q : Fin 512) : EReal :=
  row q * Ideal.rsqrt (Ideal.div (∑ k : Fin 512, row k * row k) (FloatOps.ofBits (F := Ideal) .f32 0x44000000#32)
    + FloatOps.ofBits (F := Ideal) .f32 0x358637BD#32) * w

/-- Equal groups and weights have equal norms. -/
theorem normed_congr {r r' : Fin 512 → EReal} {w w' : EReal} (hr : ∀ k, r k = r' k) (hw : w = w') (q : Fin 512) :
    normed r w q = normed r' w' q := by
  rw [funext hr, hw]

/-- Equal entries have equal gated values. -/
theorem gated_congr {a a' b b' z z' : EReal} (ha : a = a') (hb : b = b') (hz : z = z') : gated a b z = gated a' b' z' := by
  rw [ha, hb, hz]

/-- Column `q` of group `K`. -/
def col (K : Fin 8) (q : Fin 512) : Fin 4096 := ⟨K * 512 + q, by omega⟩

/-- The value stored for a group at row `p`, column `q`. -/
theorem pay_at (z a b : Vec Ideal S256x512 .f32) (w : Vec Ideal S1x512 .f32) (p : Fin 256) (q : Fin 512) :
    k0_pay2 (F := Ideal) z a b w (ix2 p q)
      = normed (fun k => gated (a (ix2 p k)) (b (ix2 p k)) (z (ix2 p k))) (w (ix2 0 q)) q := by
  unfold k0_pay2 normed gated
  pointwise
  simp only [zero_sub]

/-- The value stored for the group whose columns begin at `o`, from the blocks. -/
def tile (x0 x1 x2 : Vec Ideal S256x4096 .f32) (x3 : Vec Ideal S1x4096 .f32) (o : ℕ) (inb : ∀ a, (![0, o] : Fin 2 → ℕ) a + S256x512.size a ≤ S256x4096.size a)
    (inbw : ∀ a, (![0, o] : Fin 2 → ℕ) a + S1x512.size a ≤ S1x4096.size a) : FVec Ideal S256x512 .bf16 :=
  k0_pay2 (View.ld x2 (Rect.unit (s := S256x4096) ![0, o] S256x512.size inb)) (View.ld x0 (Rect.unit (s := S256x4096) ![0, o] S256x512.size inb))
    (View.ld x1 (Rect.unit (s := S256x4096) ![0, o] S256x512.size inb)) (View.ld x3 (Rect.unit (s := S1x4096) ![0, o] S1x512.size inbw))

/-- What the body leaves in the output block: its eight stores' values, last first. -/
theorem out_raw (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (x0 x1 x2 : Vec Ideal S256x4096 .f32) (x3 : Vec Ideal S1x4096 .f32) :
    (kernelRun0_A (F := Ideal) c i arg1 harg1 arg2 harg2 arg3 harg3 arg4 harg4 arg5 harg5 x0 x1 x2 x3).1 = [
      ⟨(Rect.unit (s := S256x4096) ![0, 3584] S256x512.size inb_S256x4096_S256x512_0_3584), k0_pay2 (View.readAt (Elt Ideal) arg3.view (Rect.unit (s := S256x4096) ![0, 3584] S256x512.size inb_S256x4096_S256x512_0_3584).toLoadRect (harg3.unread x2)) (View.readAt (Elt Ideal) arg1.view (Rect.unit (s := S256x4096) ![0, 3584] S256x512.size inb_S256x4096_S256x512_0_3584).toLoadRect (harg1.unread x0)) (View.readAt (Elt Ideal) arg2.view (Rect.unit (s := S256x4096) ![0, 3584] S256x512.size inb_S256x4096_S256x512_0_3584).toLoadRect (harg2.unread x1)) (View.readAt (Elt Ideal) arg4.view (Rect.unit (s := S1x4096) ![0, 3584] S1x512.size inb_S1x4096_S1x512_0_3584).toLoadRect (harg4.unread x3))⟩,
      ⟨(Rect.unit (s := S256x4096) ![0, 3072] S256x512.size inb_S256x4096_S256x512_0_3072), k0_pay2 (View.readAt (Elt Ideal) arg3.view (Rect.unit (s := S256x4096) ![0, 3072] S256x512.size inb_S256x4096_S256x512_0_3072).toLoadRect (harg3.unread x2)) (View.readAt (Elt Ideal) arg1.view (Rect.unit (s := S256x4096) ![0, 3072] S256x512.size inb_S256x4096_S256x512_0_3072).toLoadRect (harg1.unread x0)) (View.readAt (Elt Ideal) arg2.view (Rect.unit (s := S256x4096) ![0, 3072] S256x512.size inb_S256x4096_S256x512_0_3072).toLoadRect (harg2.unread x1)) (View.readAt (Elt Ideal) arg4.view (Rect.unit (s := S1x4096) ![0, 3072] S1x512.size inb_S1x4096_S1x512_0_3072).toLoadRect (harg4.unread x3))⟩,
      ⟨(Rect.unit (s := S256x4096) ![0, 2560] S256x512.size inb_S256x4096_S256x512_0_2560), k0_pay2 (View.readAt (Elt Ideal) arg3.view (Rect.unit (s := S256x4096) ![0, 2560] S256x512.size inb_S256x4096_S256x512_0_2560).toLoadRect (harg3.unread x2)) (View.readAt (Elt Ideal) arg1.view (Rect.unit (s := S256x4096) ![0, 2560] S256x512.size inb_S256x4096_S256x512_0_2560).toLoadRect (harg1.unread x0)) (View.readAt (Elt Ideal) arg2.view (Rect.unit (s := S256x4096) ![0, 2560] S256x512.size inb_S256x4096_S256x512_0_2560).toLoadRect (harg2.unread x1)) (View.readAt (Elt Ideal) arg4.view (Rect.unit (s := S1x4096) ![0, 2560] S1x512.size inb_S1x4096_S1x512_0_2560).toLoadRect (harg4.unread x3))⟩,
      ⟨(Rect.unit (s := S256x4096) ![0, 2048] S256x512.size inb_S256x4096_S256x512_0_2048), k0_pay2 (View.readAt (Elt Ideal) arg3.view (Rect.unit (s := S256x4096) ![0, 2048] S256x512.size inb_S256x4096_S256x512_0_2048).toLoadRect (harg3.unread x2)) (View.readAt (Elt Ideal) arg1.view (Rect.unit (s := S256x4096) ![0, 2048] S256x512.size inb_S256x4096_S256x512_0_2048).toLoadRect (harg1.unread x0)) (View.readAt (Elt Ideal) arg2.view (Rect.unit (s := S256x4096) ![0, 2048] S256x512.size inb_S256x4096_S256x512_0_2048).toLoadRect (harg2.unread x1)) (View.readAt (Elt Ideal) arg4.view (Rect.unit (s := S1x4096) ![0, 2048] S1x512.size inb_S1x4096_S1x512_0_2048).toLoadRect (harg4.unread x3))⟩,
      ⟨(Rect.unit (s := S256x4096) ![0, 1536] S256x512.size inb_S256x4096_S256x512_0_1536), k0_pay2 (View.readAt (Elt Ideal) arg3.view (Rect.unit (s := S256x4096) ![0, 1536] S256x512.size inb_S256x4096_S256x512_0_1536).toLoadRect (harg3.unread x2)) (View.readAt (Elt Ideal) arg1.view (Rect.unit (s := S256x4096) ![0, 1536] S256x512.size inb_S256x4096_S256x512_0_1536).toLoadRect (harg1.unread x0)) (View.readAt (Elt Ideal) arg2.view (Rect.unit (s := S256x4096) ![0, 1536] S256x512.size inb_S256x4096_S256x512_0_1536).toLoadRect (harg2.unread x1)) (View.readAt (Elt Ideal) arg4.view (Rect.unit (s := S1x4096) ![0, 1536] S1x512.size inb_S1x4096_S1x512_0_1536).toLoadRect (harg4.unread x3))⟩,
      ⟨(Rect.unit (s := S256x4096) ![0, 1024] S256x512.size inb_S256x4096_S256x512_0_1024), k0_pay2 (View.readAt (Elt Ideal) arg3.view (Rect.unit (s := S256x4096) ![0, 1024] S256x512.size inb_S256x4096_S256x512_0_1024).toLoadRect (harg3.unread x2)) (View.readAt (Elt Ideal) arg1.view (Rect.unit (s := S256x4096) ![0, 1024] S256x512.size inb_S256x4096_S256x512_0_1024).toLoadRect (harg1.unread x0)) (View.readAt (Elt Ideal) arg2.view (Rect.unit (s := S256x4096) ![0, 1024] S256x512.size inb_S256x4096_S256x512_0_1024).toLoadRect (harg2.unread x1)) (View.readAt (Elt Ideal) arg4.view (Rect.unit (s := S1x4096) ![0, 1024] S1x512.size inb_S1x4096_S1x512_0_1024).toLoadRect (harg4.unread x3))⟩,
      ⟨(Rect.unit (s := S256x4096) ![0, 512] S256x512.size inb_S256x4096_S256x512_0_512), k0_pay2 (View.readAt (Elt Ideal) arg3.view (Rect.unit (s := S256x4096) ![0, 512] S256x512.size inb_S256x4096_S256x512_0_512).toLoadRect (harg3.unread x2)) (View.readAt (Elt Ideal) arg1.view (Rect.unit (s := S256x4096) ![0, 512] S256x512.size inb_S256x4096_S256x512_0_512).toLoadRect (harg1.unread x0)) (View.readAt (Elt Ideal) arg2.view (Rect.unit (s := S256x4096) ![0, 512] S256x512.size inb_S256x4096_S256x512_0_512).toLoadRect (harg2.unread x1)) (View.readAt (Elt Ideal) arg4.view (Rect.unit (s := S1x4096) ![0, 512] S1x512.size inb_S1x4096_S1x512_0_512).toLoadRect (harg4.unread x3))⟩,
      ⟨(Rect.unit (s := S256x4096) ![0, 0] S256x512.size inb_S256x4096_S256x512_0_0), k0_pay2 (View.readAt (Elt Ideal) arg3.view (Rect.unit (s := S256x4096) ![0, 0] S256x512.size inb_S256x4096_S256x512_0_0).toLoadRect (harg3.unread x2)) (View.readAt (Elt Ideal) arg1.view (Rect.unit (s := S256x4096) ![0, 0] S256x512.size inb_S256x4096_S256x512_0_0).toLoadRect (harg1.unread x0)) (View.readAt (Elt Ideal) arg2.view (Rect.unit (s := S256x4096) ![0, 0] S256x512.size inb_S256x4096_S256x512_0_0).toLoadRect (harg2.unread x1)) (View.readAt (Elt Ideal) arg4.view (Rect.unit (s := S1x4096) ![0, 0] S1x512.size inb_S1x4096_S1x512_0_0).toLoadRect (harg4.unread x3))⟩] := rfl

/-- The output block is eight tiles, one from each group. -/
theorem out_pieces (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (x0 x1 x2 : Vec Ideal S256x4096 .f32) (x3 : Vec Ideal S1x4096 .f32) :
    out0_A_4 (F := Ideal) c i arg1 harg1 arg2 harg2 arg3 harg3 arg4 harg4 arg5 harg5 x0 x1 x2 x3 = View.canon [
      ⟨(Rect.unit (s := S256x4096) ![0, 3584] S256x512.size inb_S256x4096_S256x512_0_3584), tile x0 x1 x2 x3 3584 inb_S256x4096_S256x512_0_3584 inb_S1x4096_S1x512_0_3584⟩,
      ⟨(Rect.unit (s := S256x4096) ![0, 3072] S256x512.size inb_S256x4096_S256x512_0_3072), tile x0 x1 x2 x3 3072 inb_S256x4096_S256x512_0_3072 inb_S1x4096_S1x512_0_3072⟩,
      ⟨(Rect.unit (s := S256x4096) ![0, 2560] S256x512.size inb_S256x4096_S256x512_0_2560), tile x0 x1 x2 x3 2560 inb_S256x4096_S256x512_0_2560 inb_S1x4096_S1x512_0_2560⟩,
      ⟨(Rect.unit (s := S256x4096) ![0, 2048] S256x512.size inb_S256x4096_S256x512_0_2048), tile x0 x1 x2 x3 2048 inb_S256x4096_S256x512_0_2048 inb_S1x4096_S1x512_0_2048⟩,
      ⟨(Rect.unit (s := S256x4096) ![0, 1536] S256x512.size inb_S256x4096_S256x512_0_1536), tile x0 x1 x2 x3 1536 inb_S256x4096_S256x512_0_1536 inb_S1x4096_S1x512_0_1536⟩,
      ⟨(Rect.unit (s := S256x4096) ![0, 1024] S256x512.size inb_S256x4096_S256x512_0_1024), tile x0 x1 x2 x3 1024 inb_S256x4096_S256x512_0_1024 inb_S1x4096_S1x512_0_1024⟩,
      ⟨(Rect.unit (s := S256x4096) ![0, 512] S256x512.size inb_S256x4096_S256x512_0_512), tile x0 x1 x2 x3 512 inb_S256x4096_S256x512_0_512 inb_S1x4096_S1x512_0_512⟩,
      ⟨(Rect.unit (s := S256x4096) ![0, 0] S256x512.size inb_S256x4096_S256x512_0_0), tile x0 x1 x2 x3 0 inb_S256x4096_S256x512_0_0 inb_S1x4096_S1x512_0_0⟩] := by
  unfold out0_A_4
  rw [View.read_writes_junk_eq_canon, out_raw]
  simp only [View.readAt_eq_ld, harg1.read_unread, harg2.read_unread, harg3.read_unread, harg4.read_unread]
  rfl

/-- A load of one group's columns of a block. -/
theorem ldt (x : Vec Ideal S256x4096 .f32) (K : Fin 8) (inb : ∀ a, (![0, K.val * 512] : Fin 2 → ℕ) a + S256x512.size a ≤ S256x4096.size a)
    (p : Fin 256) (q : Fin 512) : View.ld x (Rect.unit (s := S256x4096) ![0, K.val * 512] S256x512.size inb) (ix2 p q) = x (ix2 p (col K q)) := by
  pointwise [col]

/-- A load of one group's columns of the weight row. -/
theorem ldw (x : Vec Ideal S1x4096 .f32) (K : Fin 8) (inb : ∀ a, (![0, K.val * 512] : Fin 2 → ℕ) a + S1x512.size a ≤ S1x4096.size a)
    (q : Fin 512) : View.ld x (Rect.unit (s := S1x4096) ![0, K.val * 512] S1x512.size inb) (ix2 0 q) = x (ix2 0 (col K q)) := by
  pointwise [col]

/-- Group `K`'s tile at row `p`, column `q`. -/
theorem tile_at (x0 x1 x2 : Vec Ideal S256x4096 .f32) (x3 : Vec Ideal S1x4096 .f32) (K : Fin 8) (inb : ∀ a, (![0, K.val * 512] : Fin 2 → ℕ) a + S256x512.size a ≤ S256x4096.size a)
    (inbw : ∀ a, (![0, K.val * 512] : Fin 2 → ℕ) a + S1x512.size a ≤ S1x4096.size a) (p : Fin 256) (q : Fin 512) :
    tile x0 x1 x2 x3 (K.val * 512) inb inbw (ix2 p q)
      = normed (fun k => gated (x0 (ix2 p (col K k))) (x1 (ix2 p (col K k))) (x2 (ix2 p (col K k)))) (x3 (ix2 0 (col K q))) q :=
  (pay_at _ _ _ _ p q).trans (normed_congr (fun k => gated_congr (ldt _ K inb p k) (ldt _ K inb p k) (ldt _ K inb p k)) (ldw _ K inbw q) q)

/-- A tile of the output at a position of the block: the norm of its own group. -/
theorem piece_at (x0 x1 x2 : Vec Ideal S256x4096 .f32) (x3 : Vec Ideal S1x4096 .f32) (o : ℕ) (inb : ∀ a, (![0, o] : Fin 2 → ℕ) a + S256x512.size a ≤ S256x4096.size a)
    (inbw : ∀ a, (![0, o] : Fin 2 → ℕ) a + S1x512.size a ≤ S1x4096.size a) (y : S256x4096.Idx) (x : S256x512.Idx) (K : Fin 8) (p : Fin 256) (q : Fin 512)
    (h0 : (y 0).val = p.val) (h1 : (y 1).val = K.val * 512 + q.val) (hx0 : (y 0).val = (x 0).val) (hx1 : (y 1).val = o + (x 1).val)
    (lt : (x 1).val < 512) (ho : o % 512 = 0) :
    tile x0 x1 x2 x3 o inb inbw x
      = normed (fun k => gated (x0 (ix2 p (col K k))) (x1 (ix2 p (col K k))) (x2 (ix2 p (col K k)))) (x3 (ix2 0 (col K q))) q := by
  obtain rfl : o = K.val * 512 := by omega
  have e : x = ix2 p q := (eq_ix2 x).trans ((ix2_inj ..).2 ⟨Fin.ext (by omega), Fin.ext (by omega)⟩)
  exact (congrArg _ e).trans (tile_at x0 x1 x2 x3 K inb inbw p q)

set_option maxHeartbeats 8000000 in
/-- The output block at one position: the norm of its own group. -/
theorem out_eq (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (x0 x1 x2 : Vec Ideal S256x4096 .f32) (x3 : Vec Ideal S1x4096 .f32) (y : S256x4096.Idx) (K : Fin 8) (p : Fin 256) (q : Fin 512)
    (h0 : (y 0).val = p.val) (h1 : (y 1).val = K.val * 512 + q.val) :
    out0_A_4 (F := Ideal) c i arg1 harg1 arg2 harg2 arg3 harg3 arg4 harg4 arg5 harg5 x0 x1 x2 x3 y
      = normed (fun k => gated (x0 (ix2 p (col K k))) (x1 (ix2 p (col K k))) (x2 (ix2 p (col K k)))) (x3 (ix2 0 (col K q))) q := by
  rw [out_pieces]
  canon_tiles y yy
  all_goals exact piece_at x0 x1 x2 x3 _ _ _ _ _ K p q h0 h1 yy0 (by omega) y1_lt (by decide)

/-- The reference's gated array at row `i`, column `j`. -/
theorem ref11_at (Yf Yb : FVec Ideal S16896x4096 .f32) (Z : FVec Ideal S16896x17408 .f32) (i : Fin 16384) (j : Fin 4096) :
    Cert.GateNormRefIdeal.Read.val_main_v11 (F := Ideal) Yf Yb Z (ix2 i j)
      = gated (Yf (ix2 ⟨i, by omega⟩ j)) (Yb (ix2 ⟨i, by omega⟩ j)) (Z (ix2 ⟨i, by omega⟩ ⟨j, by omega⟩)) := by
  unfold gated
  pointwise [Cert.GateNormRefIdeal.Read.val_main_v11, Cert.GateNormRefIdeal.Read.val_main_v10, Cert.GateNormRefIdeal.Read.val_main_v9, Cert.GateNormRefIdeal.Read.val_main_v8, Cert.GateNormRefIdeal.Read.val_main_cst_0, Cert.GateNormRefIdeal.Read.val_main_v7, Cert.GateNormRefIdeal.Read.val_main_v6, Cert.GateNormRefIdeal.Read.val_main_cst, Cert.GateNormRefIdeal.Read.val_main_v5, Cert.GateNormRefIdeal.Read.val_main_v4, Cert.GateNormRefIdeal.Read.val_main_v3, Cert.GateNormRefIdeal.Read.val_main_v2, Cert.GateNormRefIdeal.Read.val_main_v1, Cert.GateNormRefIdeal.Read.val_main_v0]

/-- The gated array by groups. -/
theorem ref12_at (Yf Yb : FVec Ideal S16896x4096 .f32) (Z : FVec Ideal S16896x17408 .f32) (i : Fin 16384) (K : Fin 8) (q : Fin 512) :
    Cert.GateNormRefIdeal.Read.val_main_v12 (F := Ideal) Yf Yb Z (ix3 i K q) = Cert.GateNormRefIdeal.Read.val_main_v11 (F := Ideal) Yf Yb Z (ix2 i (col K q)) := by
  simp only [Cert.GateNormRefIdeal.Read.val_main_v12]
  generalize Cert.GateNormRefIdeal.Read.val_main_v11 (F := Ideal) Yf Yb Z = x
  pointwise [col]

/-- The weight by groups. -/
theorem ref13_at (W : FVec Ideal S4096 .f32) (K : Fin 8) (q : Fin 512) : Cert.GateNormRefIdeal.Read.val_main_v13 (F := Ideal) W (ix2 K q) = W (ix1 (col K q)) := by
  pointwise [Cert.GateNormRefIdeal.Read.val_main_v13, col]

/-- The reference's normed array by groups. -/
theorem ref26_at (Yf Yb : FVec Ideal S16896x4096 .f32) (Z : FVec Ideal S16896x17408 .f32) (W : FVec Ideal S4096 .f32) (i : Fin 16384) (K : Fin 8) (q : Fin 512) :
    Cert.GateNormRefIdeal.Read.val_main_v26 (F := Ideal) Yf Yb Z W (ix3 i K q)
      = normed (fun k => Cert.GateNormRefIdeal.Read.val_main_v12 (F := Ideal) Yf Yb Z (ix3 i K k)) (Cert.GateNormRefIdeal.Read.val_main_v13 (F := Ideal) W (ix2 K q)) q := by
  unfold normed
  simp only [Cert.GateNormRefIdeal.Read.val_main_v26, Cert.GateNormRefIdeal.Read.val_main_v25, Cert.GateNormRefIdeal.Read.val_main_v24, Cert.GateNormRefIdeal.Read.val_main_v23, Cert.GateNormRefIdeal.Read.val_main_v22, Cert.GateNormRefIdeal.Read.val_main_v21, Cert.GateNormRefIdeal.Read.val_main_v20, Cert.GateNormRefIdeal.Read.val_main_v19, Cert.GateNormRefIdeal.Read.val_main_cst_3, Cert.GateNormRefIdeal.Read.val_main_v18, Cert.GateNormRefIdeal.Read.val_main_v17, Cert.GateNormRefIdeal.Read.val_main_cst_2, Cert.GateNormRefIdeal.Read.val_main_v16, Cert.GateNormRefIdeal.Read.val_main_v15, Cert.GateNormRefIdeal.Read.val_main_cst_1, Cert.GateNormRefIdeal.Read.val_main_v14]
  generalize Cert.GateNormRefIdeal.Read.val_main_v12 (F := Ideal) Yf Yb Z = x
  generalize Cert.GateNormRefIdeal.Read.val_main_v13 (F := Ideal) W = w
  pointwise

/-- The reference's result at a column of a group. -/
theorem ref28_at (Yf Yb : FVec Ideal S16896x4096 .f32) (Z : FVec Ideal S16896x17408 .f32) (W : FVec Ideal S4096 .f32) (i : Fin 16384) (K : Fin 8) (q : Fin 512) :
    Cert.GateNormRefIdeal.Read.val_main_v28 (F := Ideal) Yf Yb Z W (ix2 i (col K q)) = Cert.GateNormRefIdeal.Read.val_main_v26 (F := Ideal) Yf Yb Z W (ix3 i K q) := by
  simp only [Cert.GateNormRefIdeal.Read.val_main_v28, Cert.GateNormRefIdeal.Read.val_main_v27]
  generalize Cert.GateNormRefIdeal.Read.val_main_v26 (F := Ideal) Yf Yb Z W = x
  pointwise [col]

/-- The reference's result at row `i`, column `q` of group `K`: the norm of the group's gated values. -/
theorem ref_at (Yf Yb : FVec Ideal S16896x4096 .f32) (Z : FVec Ideal S16896x17408 .f32) (W : FVec Ideal S4096 .f32) (i : Fin 16384) (K : Fin 8) (q : Fin 512) :
    Cert.GateNormRefIdeal.Read.val_main_v28 (F := Ideal) Yf Yb Z W (ix2 i (col K q))
      = normed (fun k => gated (Yf (ix2 ⟨i, by omega⟩ (col K k))) (Yb (ix2 ⟨i, by omega⟩ (col K k)))
          (Z (ix2 ⟨i, by omega⟩ ⟨col K k, by omega⟩))) (W (ix1 (col K q))) q :=
  (ref28_at Yf Yb Z W i K q).trans ((ref26_at Yf Yb Z W i K q).trans
    (normed_congr (fun k => (ref12_at Yf Yb Z i K k).trans (ref11_at Yf Yb Z i (col K k))) (ref13_at W K q) q))

/-- Which block of its array each window holds at point `t`: row block `t`; the gate's columns are column block 0. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The grid has 64 points. -/
theorem lt_N (t : Fin cfg0.N) : (t : ℕ) < 64 := lt_of_lt_of_eq t.isLt (by decide)

/-- The row of the result that row `p` of row block `t` is. -/
def row (t : Fin cfg0.N) (p : Fin 256) : Fin 16384 := ⟨t * 256 + p, by have := lt_N t; have := p.isLt; omega⟩

/-- The norm's weight as the kernel reads it is the given vector as one row. -/
theorem norm_eq (c : Dev nD) : V m c main_v0 = (shapeCast S1x4096 (m ((c : Thread nD τ).loc main_arg3) : FVec Ideal S4096 .f32) shapeCasts_S4096_S1x4096 : FVec Ideal S1x4096 .f32) := by
  unfold V
  after_results <;> rfl

/-- Where position `y` of the result's block `t` sits in the array. -/
theorem emb4 (t : Fin cfg0.N) (y : S256x4096.Idx) : (((cfg0.win 4).blk t).view.emb y : S16384x4096.Idx) = ix2 (row t (y 0)) (y 1) := by
  blk_ext [idx t, row]

/-- The first direction's block `t` at row `p`, column `j`. -/
theorem blkF (c : Dev nD) (t : Fin cfg0.N) (p : Fin 256) (j : Fin 4096) :
    (iblk m c 0 t : Vec Ideal S256x4096 .f32) (ix2 p j)
      = (m ((c : Thread nD τ).loc main_arg0) : FVec Ideal S16896x4096 .f32) (ix2 ⟨row t p, by omega⟩ j) := by
  have ht := lt_N t
  blk_ext [iblk, V_main_arg0, idx t, row]

/-- The second direction's block `t` at row `p`, column `j`. -/
theorem blkB (c : Dev nD) (t : Fin cfg0.N) (p : Fin 256) (j : Fin 4096) :
    (iblk m c 1 t : Vec Ideal S256x4096 .f32) (ix2 p j)
      = (m ((c : Thread nD τ).loc main_arg1) : FVec Ideal S16896x4096 .f32) (ix2 ⟨row t p, by omega⟩ j) := by
  have ht := lt_N t
  blk_ext [iblk, V_main_arg1, idx t, row]

/-- The gate's block `t` at row `p`, column `j`: the projection array's first columns. -/
theorem blkZ (c : Dev nD) (t : Fin cfg0.N) (p : Fin 256) (j : Fin 4096) :
    (X0_2 m c t : Vec Ideal S256x4096 .f32) (ix2 p j)
      = (m ((c : Thread nD τ).loc main_arg2) : FVec Ideal S16896x17408 .f32) (ix2 ⟨row t p, by omega⟩ ⟨j, by omega⟩) := by
  have ht := lt_N t
  unfold X0_2 Pipeline.Window.fill
  rw [dif_pos (moved0_2 t _)]
  blk_ext [iblk, V_main_arg2, idx t, row]

set_option maxRecDepth 65536 in
/-- The norm's weight block at column `j`. -/
theorem blkN (c : Dev nD) (t : Fin cfg0.N) (j : Fin 4096) :
    (iblk m c 3 t : Vec Ideal S1x4096 .f32) (ix2 0 j) = (m ((c : Thread nD τ).loc main_arg3) : FVec Ideal S4096 .f32) (ix1 j) := by
  refine Eq.trans (b := V m c main_v0 (ix2 0 j)) ?_ ((congrFun (norm_eq m c) (ix2 0 j)).trans ?_)
  · blk_ext [iblk, idx t]
  · generalize (m ((c : Thread nD τ).loc main_arg3) : FVec Ideal S4096 .f32) = x
    pointwise

/-- The reference's result as a function of the four arguments. -/
def REF (c : Dev nD) : FVec Ideal S16384x4096 .bf16 :=
  Cert.GateNormRefIdeal.Read.val_main_v28 (F := Ideal) (m ((c : Thread nD τ).loc main_arg0)) (m ((c : Thread nD τ).loc main_arg1))
    (m ((c : Thread nD τ).loc main_arg2)) (m ((c : Thread nD τ).loc main_arg3))

/-- The group a column lies in. -/
def grp (j : Fin 4096) : Fin 8 := ⟨j / 512, by omega⟩

/-- A column's place within its group. -/
def plc (j : Fin 4096) : Fin 512 := ⟨j % 512, by omega⟩

/-- A column is its place within its group. -/
theorem col_eq (j : Fin 4096) : col (grp j) (plc j) = j := Fin.ext (by show (j : ℕ) / 512 * 512 + (j : ℕ) % 512 = j; omega)

/-- What the body stores at position `y` of block `t` is the reference's result at the array position `y` sits at. -/
theorem point (c : Dev nD) (t : Fin cfg0.N) (y : S256x4096.Idx) : outsAt0 m c t y = REF m c (ix2 (row t (y 0)) (y 1)) := by
  unfold outsAt0
  refine (out_eq c _ _ _ _ _ _ _ _ _ _ _ _ _ _ _ y (grp (y 1)) (y 0) (plc (y 1)) rfl ?_).trans (Eq.trans ?_
    ((ref_at _ _ _ _ (row t (y 0)) (grp (y 1)) (plc (y 1))).symm.trans (congrArg (fun j => REF m c (ix2 (row t (y 0)) j)) (col_eq (y 1)))))
  · show (y 1).val = (y 1).val / 512 * 512 + (y 1).val % 512; omega
  · exact normed_congr (fun k => gated_congr (blkF m c t _ _) (blkB m c t _ _) (blkZ m c t _ _)) (blkN m c t _) _

/-- The result array after the run is the reference's. -/
theorem final (c : Dev nD) : (dats m 0 c).arrAt 4 (cfgs 0).N = REF m c := by
  refine (dats m 0 c).arrAt_eq_of_covers 4 _ (by decide +kernel) fun t _ y => ?_
  blk_simp
  rw [after0_4]
  exact (point m c t y).trans (congrArg (REF m c) (emb4 t y).symm)

end Cert.GateNormIdeal.Tile

end
-- ==== Proof.KPrepValue.lean ====
/-
  The norm and rotation of the keys. Every grid point takes the root-mean-square norm of each of the four heads of one
  256-row block of the key columns, and turns each head's pairs of entries by the position's angles: the entry times the
  cosine, plus the entry 32 places further times one table of signed sines, plus the entry 32 places back times another.
  The context's rows are normed alone. This file shows that the whole result array is the reference's.
-/
module

public import proofs.«01_k».proof.Proof.Gen.KPrepIdeal.Frame
public import proofs.«01_k».proof.Proof.Gen.KPrepIdeal.Points
public import proofs.«01_k».proof.Proof.Gen.KPrepIdeal.Launch
public import proofs.«01_k».proof.Proof.Gen.KPrepIdeal.Skeleton
public import proofs.«01_k».proof.Proof.Gen.KPrepIdeal
public import proofs.«01_k».proof.Proof.Gen.KPrepIdeal.Value
public import proofs.«01_k».proof.Proof.Gen.KPrepRefIdeal.Run
public import proofs.«01_k».proof.Proof.Gen.KPrepRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KPrepIdeal.Tile

open Cert.KPrepIdeal Cert.KPrepIdeal.Gen

variable (m : (ℓ : Loc nD τ sig) → Buf (Elt Ideal) ℓ)

/-- One entry of a normed head: the entry times the reciprocal root of the head's mean square plus the constant, times the
    weight. -/
def normed (row w : Fin 128 → EReal) (q : Fin 128) : EReal :=
  row q * Ideal.rsqrt (Ideal.div (∑ k : Fin 128, row k * row k) (FloatOps.ofBits (F := Ideal) .f32 0x43000000#32)
    + FloatOps.ofBits (F := Ideal) .f32 0x358637BD#32) * w q

/-- The place 32 further in the head, counted round. -/
def fwd (q : Fin 128) : Fin 128 := ⟨(q + 128 - 96) % 128, Nat.mod_lt _ (by decide)⟩

/-- The place 32 back in the head, counted round. -/
def bck (q : Fin 128) : Fin 128 := ⟨(q + 128 - 32) % 128, Nat.mod_lt _ (by decide)⟩

/-- The turned head at one place, from three tables' entries there. -/
def turned (n : Fin 128 → EReal) (q : Fin 128) (c u d : EReal) : EReal := n q * c + n (fwd q) * u + n (bck q) * d

/-- Equal heads and table entries have equal turned heads. -/
theorem turned_congr {n n' : Fin 128 → EReal} {c c' u u' d d' : EReal} (hn : n = n') (hc : c = c') (hu : u = u') (hd : d = d')
    (q : Fin 128) : turned n q c u d = turned n' q c' u' d' := by
  rw [hn, hc, hu, hd]

/-- Equal heads and weights have equal norms. -/
theorem normed_congr {r r' w w' : Fin 128 → EReal} (hr : ∀ k, r k = r' k) (hw : ∀ k, w k = w' k) : normed r w = normed r' w' := by
  rw [funext hr, funext hw]

/-- Column `q` of head `K`. -/
def col (K : Fin 4) (q : Fin 128) : Fin 512 := ⟨K * 128 + q, by omega⟩

/-- The value stored for a head at row `p`, column `q`. -/
theorem pay_at (c u d : Vec Ideal S256x128 .f32) (w : Vec Ideal S1x128 .f32) (x : Vec Ideal S256x128 .f32) (p : Fin 256) (q : Fin 128) :
    k0_pay6 (F := Ideal) c u d w x (ix2 p q)
      = turned (normed (fun k => x (ix2 p k)) (fun k => w (ix2 0 k))) q (c (ix2 p q)) (u (ix2 p q)) (d (ix2 p q)) := by
  unfold k0_pay6 k0_pay2 k0_pay3 k0_pay4 k0_pay5 turned normed fwd bck
  pointwise

/-- The value stored for the head whose columns begin at `o`, from the blocks. -/
def tile (x0 : Vec Ideal S256x512 .f32) (x1 : Vec Ideal S1x128 .f32) (x2 x3 x4 : Vec Ideal S256x128 .f32) (o : ℕ)
    (inb : ∀ a, (![0, o] : Fin 2 → ℕ) a + S256x128.size a ≤ S256x512.size a) : FVec Ideal S256x128 .bf16 :=
  k0_pay6 (View.ld x2 r0_0) (View.ld x3 r0_0) (View.ld x4 r0_0) (View.ld x1 r0_1) (View.ld x0 (Rect.unit (s := S256x512) ![0, o] S256x128.size inb))

/-- The output block is four tiles, one from each head. -/
theorem out_pieces (x0 : Vec Ideal S256x512 .f32) (x1 : Vec Ideal S1x128 .f32) (x2 x3 x4 : Vec Ideal S256x128 .f32) :
    out0_5 (F := Ideal) x0 x1 x2 x3 x4 = View.canon [
      ⟨(Rect.unit (s := S256x512) ![0, 384] S256x128.size inb_S256x512_S256x128_0_384), tile x0 x1 x2 x3 x4 384 inb_S256x512_S256x128_0_384⟩,
      ⟨(Rect.unit (s := S256x512) ![0, 256] S256x128.size inb_S256x512_S256x128_0_256), tile x0 x1 x2 x3 x4 256 inb_S256x512_S256x128_0_256⟩,
      ⟨(Rect.unit (s := S256x512) ![0, 128] S256x128.size inb_S256x512_S256x128_0_128), tile x0 x1 x2 x3 x4 128 inb_S256x512_S256x128_0_128⟩,
      ⟨(Rect.unit (s := S256x512) ![0, 0] S256x128.size inb_S256x512_S256x128_0_0), tile x0 x1 x2 x3 x4 0 inb_S256x512_S256x128_0_0⟩] := rfl

/-- A load of one head's columns of a block. -/
theorem ldt (x : Vec Ideal S256x512 .f32) (K : Fin 4) (inb : ∀ a, (![0, K.val * 128] : Fin 2 → ℕ) a + S256x128.size a ≤ S256x512.size a)
    (p : Fin 256) (q : Fin 128) : View.ld x (Rect.unit (s := S256x512) ![0, K.val * 128] S256x128.size inb) (ix2 p q) = x (ix2 p (col K q)) := by
  pointwise [col]

/-- A load of a whole table block. -/
theorem ldc (x : Vec Ideal S256x128 .f32) (p : Fin 256) (q : Fin 128) : View.ld x r0_0 (ix2 p q) = x (ix2 p q) := by
  pointwise

/-- A load of the whole weight row. -/
theorem ldw (x : Vec Ideal S1x128 .f32) (q : Fin 128) : View.ld x r0_1 (ix2 0 q) = x (ix2 0 q) := by
  pointwise

/-- Head `K`'s turned norm at row `p`, column `q` of the blocks. -/
def headAt (x0 : Vec Ideal S256x512 .f32) (x1 : Vec Ideal S1x128 .f32) (x2 x3 x4 : Vec Ideal S256x128 .f32) (K : Fin 4) (p : Fin 256) (q : Fin 128) : EReal :=
  turned (normed (fun k => x0 (ix2 p (col K k))) (fun k => x1 (ix2 0 k))) q (x2 (ix2 p q)) (x3 (ix2 p q)) (x4 (ix2 p q))

/-- Head `K`'s tile at row `p`, column `q`. -/
theorem tile_at (x0 : Vec Ideal S256x512 .f32) (x1 : Vec Ideal S1x128 .f32) (x2 x3 x4 : Vec Ideal S256x128 .f32) (K : Fin 4)
    (inb : ∀ a, (![0, K.val * 128] : Fin 2 → ℕ) a + S256x128.size a ≤ S256x512.size a) (p : Fin 256) (q : Fin 128) :
    tile x0 x1 x2 x3 x4 (K.val * 128) inb (ix2 p q) = headAt x0 x1 x2 x3 x4 K p q :=
  (pay_at _ _ _ _ _ p q).trans (turned_congr (normed_congr (fun k => ldt _ K inb p k) (fun k => ldw _ k)) (ldc _ p q) (ldc _ p q) (ldc _ p q) q)

/-- A tile of the output at a position of the block: its own head's. -/
theorem piece_at (x0 : Vec Ideal S256x512 .f32) (x1 : Vec Ideal S1x128 .f32) (x2 x3 x4 : Vec Ideal S256x128 .f32) (o : ℕ)
    (inb : ∀ a, (![0, o] : Fin 2 → ℕ) a + S256x128.size a ≤ S256x512.size a) (y : S256x512.Idx) (x : S256x128.Idx) (K : Fin 4) (p : Fin 256) (q : Fin 128)
    (h0 : (y 0).val = p.val) (h1 : (y 1).val = K.val * 128 + q.val) (hx0 : (y 0).val = (x 0).val) (hx1 : (y 1).val = o + (x 1).val)
    (lt : (x 1).val < 128) (ho : o % 128 = 0) : tile x0 x1 x2 x3 x4 o inb x = headAt x0 x1 x2 x3 x4 K p q := by
  obtain rfl : o = K.val * 128 := by omega
  have e : x = ix2 p q := (eq_ix2 x).trans ((ix2_inj ..).2 ⟨Fin.ext (by omega), Fin.ext (by omega)⟩)
  exact (congrArg _ e).trans (tile_at x0 x1 x2 x3 x4 K inb p q)

set_option maxHeartbeats 4000000 in
/-- The output block at one position: its own head's. -/
theorem out_eq (x0 : Vec Ideal S256x512 .f32) (x1 : Vec Ideal S1x128 .f32) (x2 x3 x4 : Vec Ideal S256x128 .f32) (y : S256x512.Idx) (K : Fin 4) (p : Fin 256) (q : Fin 128)
    (h0 : (y 0).val = p.val) (h1 : (y 1).val = K.val * 128 + q.val) : out0_5 (F := Ideal) x0 x1 x2 x3 x4 y = headAt x0 x1 x2 x3 x4 K p q := by
  rw [out_pieces]
  canon_tiles y yy
  all_goals exact piece_at x0 x1 x2 x3 x4 _ _ _ _ K p q h0 h1 yy0 (by omega) y1_lt (by decide)

/-! ### The tables -/

/-- The cosines by position and place in the head. -/
abbrev COS : FVec Ideal S8192x128 .f32 := Cert.KPrepRefIdeal.Read.val_main_v24 (F := Ideal)

/-- The sines by position and place in the head. -/
abbrev SIN : FVec Ideal S8192x128 .f32 := Cert.KPrepRefIdeal.Read.val_main_v25 (F := Ideal)

/-- The number the places are divided by: 64, as the remainder's text computes it. -/
def by64 : IVec S_ 32 := select (cmpi .eq (constantI S_ 32 64#32) (constantI S_ 32 0#32)) (constantI S_ 32 1#32) (constantI S_ 32 64#32)

/-- The places' remainders before the sign is mended. -/
def rem0 : IVec S128 32 := Host.remsi (iotaInDim S128 32 0) (broadcastInDim S128 ![] bcast_S_S128 by64)

/-- The places' remainders on division by 64, as the kernel's text computes them. -/
def rems : IVec S128 32 :=
  select (andi (cmpi .ne (cmpi .slt rem0 (broadcastInDim S128 ![] bcast_S_S128 (constantI S_ 32 0#32)))
      (broadcastInDim S128 ![] bcast_S_S128 (cmpi .slt by64 (constantI S_ 32 0#32))))
    (cmpi .ne rem0 (broadcastInDim S128 ![] bcast_S_S128 (constantI S_ 32 0#32)))) (addi rem0 (broadcastInDim S128 ![] bcast_S_S128 by64)) rem0

/-- Whether a place lies in the first half of its axis's 64 places. -/
def first : IVec S128 1 := cmpi .slt rems (broadcastInDim S128 ![] bcast_S_S128 (constantI S_ 32 32#32))

/-- The test is whether the place's remainder on division by 64 is under 32. -/
theorem first_at : ∀ q : Fin 128, first (ix1 q) = if (q : ℕ) % 64 < 32 then 1#1 else 0#1 := by decide +kernel

/-- The table that goes with the entry 32 places further: minus the sine in the first halves, zero in the second. -/
def UP : FVec Ideal S8192x128 .f32 := select (broadcastInDim S8192x128 ![1] bcast_S128_S8192x128_1 first) (Host.negf SIN)
  (broadcastInDim S8192x128 ![] bcast_S_S8192x128 (constant S_ .f32 0x00000000#32))

/-- The table that goes with the entry 32 places back: zero in the first halves, the sine in the second. -/
def DN : FVec Ideal S8192x128 .f32 := select (broadcastInDim S8192x128 ![1] bcast_S128_S8192x128_1 first)
  (broadcastInDim S8192x128 ![] bcast_S_S8192x128 (constant S_ .f32 0x00000000#32)) SIN

/-- The first of the two tables at an entry. -/
theorem UP_at (s : Fin 8192) (q : Fin 128) : UP (ix2 s q) = if (q : ℕ) % 64 < 32 then - SIN (ix2 s q) else 0 := by
  have h := first_at q
  unfold UP
  generalize first = f at *
  generalize SIN = x
  split_ifs at * with hq <;> pointwise [h]

/-- The second of the two tables at an entry. -/
theorem DN_at (s : Fin 8192) (q : Fin 128) : DN (ix2 s q) = if (q : ℕ) % 64 < 32 then 0 else SIN (ix2 s q) := by
  have h := first_at q
  unfold DN
  generalize first = f at *
  generalize SIN = x
  split_ifs at * with hq <;> pointwise [h]

/-- A table by position as a table over all rows: the latents' rows of both batches, then one number for the context's. -/
def TAB (T : FVec Ideal S8192x128 .f32) (z : BitVec 32) : FVec Ideal S16896x128 .f32 :=
  concatenate S16896x128 0 [⟨S16384x128, shapeCast S16384x128 (broadcastInDim S2x8192x1x128 ![0, 1, 2, 3] bcast_S1x8192x1x128_S2x8192x1x128_0_1_2_3
      (shapeCast S1x8192x1x128 T shapeCasts_S8192x128_S1x8192x1x128)) shapeCasts_S2x8192x1x128_S16384x128⟩,
    ⟨S512x128, broadcastInDim S512x128 ![] bcast_S_S512x128 (constant S_ .f32 z : FVec Ideal S_ .f32)⟩] concatenates_S16384x128_S512x128_S16896x128_d0

/-- Such a table at an entry. -/
theorem TAB_at (T : FVec Ideal S8192x128 .f32) (z : BitVec 32) (i : Fin 16896) (j : Fin 128) :
    TAB T z (ix2 i j) = if (i : ℕ) < 16384 then T (ix2 ⟨i % 8192, by omega⟩ j) else FloatOps.ofBits (F := Ideal) .f32 z := by
  unfold TAB
  split_ifs with h
  · pointwise
    exact dif_pos h
  · pointwise
    exact dif_neg h

set_option maxHeartbeats 4000000 in
/-- The cosine table the kernel reads. -/
theorem tabC (c : Dev nD) : V m c main_v37 = TAB COS 0x3F800000#32 := by
  simp only [V, hostOps0, hostOps0_1, hostOps0_2, hostOps0_3, hostOps0_4, hostOps0_5, hostOps0_6, List.flatten_cons, List.flatten_nil, List.cons_append, List.nil_append, List.append_nil]
  after_results <;> rfl

set_option maxHeartbeats 4000000 in
/-- The first sine table the kernel reads. -/
theorem tabU (c : Dev nD) : V m c main_v42 = TAB UP 0x00000000#32 := by
  simp only [V, hostOps0, hostOps0_1, hostOps0_2, hostOps0_3, hostOps0_4, hostOps0_5, hostOps0_6, List.flatten_cons, List.flatten_nil, List.cons_append, List.nil_append, List.append_nil]
  after_results <;> rfl

set_option maxHeartbeats 4000000 in
/-- The second sine table the kernel reads. -/
theorem tabD (c : Dev nD) : V m c main_v47 = TAB DN 0x00000000#32 := by
  simp only [V, hostOps0, hostOps0_1, hostOps0_2, hostOps0_3, hostOps0_4, hostOps0_5, hostOps0_6, List.flatten_cons, List.flatten_nil, List.cons_append, List.nil_append, List.append_nil]
  after_results <;> rfl

/-- The norm's weight as the kernel reads it is the given vector as one row. -/
theorem norm_eq (c : Dev nD) : V m c main_v48 = (shapeCast S1x128 (m ((c : Thread nD τ).loc main_arg1) : FVec Ideal S128 .f32) shapeCasts_S128_S1x128 : FVec Ideal S1x128 .f32) := by
  simp only [V, hostOps0, hostOps0_1, hostOps0_2, hostOps0_3, hostOps0_4, hostOps0_5, hostOps0_6, List.flatten_cons, List.flatten_nil, List.cons_append, List.nil_append, List.append_nil]
  after_results <;> rfl

/-! ### The reference -/

/-- The latents' keys by batch, position, head and place. -/
theorem ref28_at (X : FVec Ideal S16896x17408 .f32) (b : Fin 2) (s : Fin 8192) (h : Fin 4) (j : Fin 128) :
    Cert.KPrepRefIdeal.Read.val_main_v28 (F := Ideal) X (ix4 b s h j) = X (ix2 ⟨b * 8192 + s, by omega⟩ ⟨12288 + (h * 128 + j), by omega⟩) := by
  pointwise [Cert.KPrepRefIdeal.Read.val_main_v28, Cert.KPrepRefIdeal.Read.val_main_v27, Cert.KPrepRefIdeal.Read.val_main_v26]

/-- The context's keys by batch, position, head and place. -/
theorem ref43_at (X : FVec Ideal S16896x17408 .f32) (b : Fin 2) (s : Fin 256) (h : Fin 4) (j : Fin 128) :
    Cert.KPrepRefIdeal.Read.val_main_v43 (F := Ideal) X (ix4 b s h j) = X (ix2 ⟨16384 + (b * 256 + s), by omega⟩ ⟨12288 + (h * 128 + j), by omega⟩) := by
  pointwise [Cert.KPrepRefIdeal.Read.val_main_v43, Cert.KPrepRefIdeal.Read.val_main_v42, Cert.KPrepRefIdeal.Read.val_main_v26]

/-- The latents' normed keys. -/
theorem ref41_at (X : FVec Ideal S16896x17408 .f32) (W : FVec Ideal S128 .f32) (b : Fin 2) (s : Fin 8192) (h : Fin 4) (j : Fin 128) :
    Cert.KPrepRefIdeal.Read.val_main_v41 (F := Ideal) X W (ix4 b s h j)
      = normed (fun k => Cert.KPrepRefIdeal.Read.val_main_v28 (F := Ideal) X (ix4 b s h k)) (fun k => W (ix1 k)) j := by
  unfold normed
  simp only [Cert.KPrepRefIdeal.Read.val_main_v41, Cert.KPrepRefIdeal.Read.val_main_v40, Cert.KPrepRefIdeal.Read.val_main_v39, Cert.KPrepRefIdeal.Read.val_main_v38, Cert.KPrepRefIdeal.Read.val_main_v37, Cert.KPrepRefIdeal.Read.val_main_v36, Cert.KPrepRefIdeal.Read.val_main_v35, Cert.KPrepRefIdeal.Read.val_main_v34, Cert.KPrepRefIdeal.Read.val_main_cst_3, Cert.KPrepRefIdeal.Read.val_main_v33, Cert.KPrepRefIdeal.Read.val_main_v32, Cert.KPrepRefIdeal.Read.val_main_cst_2, Cert.KPrepRefIdeal.Read.val_main_v31, Cert.KPrepRefIdeal.Read.val_main_v30, Cert.KPrepRefIdeal.Read.val_main_cst_1, Cert.KPrepRefIdeal.Read.val_main_v29]
  generalize Cert.KPrepRefIdeal.Read.val_main_v28 (F := Ideal) X = x
  pointwise

/-- The context's normed keys. -/
theorem ref56_at (X : FVec Ideal S16896x17408 .f32) (W : FVec Ideal S128 .f32) (b : Fin 2) (s : Fin 256) (h : Fin 4) (j : Fin 128) :
    Cert.KPrepRefIdeal.Read.val_main_v56 (F := Ideal) X W (ix4 b s h j)
      = normed (fun k => Cert.KPrepRefIdeal.Read.val_main_v43 (F := Ideal) X (ix4 b s h k)) (fun k => W (ix1 k)) j := by
  unfold normed
  simp only [Cert.KPrepRefIdeal.Read.val_main_v56, Cert.KPrepRefIdeal.Read.val_main_v55, Cert.KPrepRefIdeal.Read.val_main_v54, Cert.KPrepRefIdeal.Read.val_main_v53, Cert.KPrepRefIdeal.Read.val_main_v52, Cert.KPrepRefIdeal.Read.val_main_v51, Cert.KPrepRefIdeal.Read.val_main_v50, Cert.KPrepRefIdeal.Read.val_main_v49, Cert.KPrepRefIdeal.Read.val_main_cst_6, Cert.KPrepRefIdeal.Read.val_main_v48, Cert.KPrepRefIdeal.Read.val_main_v47, Cert.KPrepRefIdeal.Read.val_main_cst_5, Cert.KPrepRefIdeal.Read.val_main_v46, Cert.KPrepRefIdeal.Read.val_main_v45, Cert.KPrepRefIdeal.Read.val_main_cst_4, Cert.KPrepRefIdeal.Read.val_main_v44]
  generalize Cert.KPrepRefIdeal.Read.val_main_v43 (F := Ideal) X = x
  pointwise

/-- The half-turned latents' keys: minus the entry 32 places further in the first halves, the entry 32 places back in the
    second. -/
theorem ref66_at (X : FVec Ideal S16896x17408 .f32) (W : FVec Ideal S128 .f32) (b : Fin 2) (s : Fin 8192) (h : Fin 4) (j : Fin 128) :
    Cert.KPrepRefIdeal.Read.val_main_v66 (F := Ideal) X W (ix4 b s h j)
      = if (j : ℕ) % 64 < 32 then - Cert.KPrepRefIdeal.Read.val_main_v41 (F := Ideal) X W (ix4 b s h (fwd j))
        else Cert.KPrepRefIdeal.Read.val_main_v41 (F := Ideal) X W (ix4 b s h (bck j)) := by
  simp only [Cert.KPrepRefIdeal.Read.val_main_v66, Cert.KPrepRefIdeal.Read.val_main_v65, Cert.KPrepRefIdeal.Read.val_main_v64, Cert.KPrepRefIdeal.Read.val_main_v63, Cert.KPrepRefIdeal.Read.val_main_v62, Cert.KPrepRefIdeal.Read.val_main_v61, Cert.KPrepRefIdeal.Read.val_main_v60, Cert.KPrepRefIdeal.Read.val_main_v59, Cert.KPrepRefIdeal.Read.val_main_v58, Cert.KPrepRefIdeal.Read.val_main_v57]
  generalize Cert.KPrepRefIdeal.Read.val_main_v41 (F := Ideal) X W = x
  unfold fwd bck
  split_ifs with hj
  · pointwise
    rw [dif_pos (by omega)]
    exact congrArg (fun k => - x (ix4 b s h k)) (Fin.ext (by show (j : ℕ) / 64 * 64 + 32 + (j : ℕ) % 32 = ((j : ℕ) + 128 - 96) % 128; omega))
  · pointwise
    rw [dif_neg (by omega)]
    exact congrArg (fun k => x (ix4 b s h k)) (Fin.ext (by show (j : ℕ) / 64 * 64 + (j : ℕ) % 32 = ((j : ℕ) + 128 - 32) % 128; omega))

/-- The cosines spread over batches and heads. -/
theorem ref69_at (b : Fin 2) (s : Fin 8192) (h : Fin 4) (j : Fin 128) :
    Cert.KPrepRefIdeal.Read.val_main_v69 (F := Ideal) (ix4 b s h j) = Cert.KPrepRefIdeal.Read.val_main_v24 (F := Ideal) (ix2 s j) := by
  simp only [Cert.KPrepRefIdeal.Read.val_main_v69, Cert.KPrepRefIdeal.Read.val_main_v68, Cert.KPrepRefIdeal.Read.val_main_v67]
  generalize Cert.KPrepRefIdeal.Read.val_main_v24 (F := Ideal) = c
  pointwise

/-- The sines spread over batches and heads. -/
theorem ref73_at (b : Fin 2) (s : Fin 8192) (h : Fin 4) (j : Fin 128) :
    Cert.KPrepRefIdeal.Read.val_main_v73 (F := Ideal) (ix4 b s h j) = Cert.KPrepRefIdeal.Read.val_main_v25 (F := Ideal) (ix2 s j) := by
  simp only [Cert.KPrepRefIdeal.Read.val_main_v73, Cert.KPrepRefIdeal.Read.val_main_v72, Cert.KPrepRefIdeal.Read.val_main_v71]
  generalize Cert.KPrepRefIdeal.Read.val_main_v25 (F := Ideal) = c
  pointwise

/-- The turned latents' keys. -/
theorem ref75_at (X : FVec Ideal S16896x17408 .f32) (W : FVec Ideal S128 .f32) (b : Fin 2) (s : Fin 8192) (h : Fin 4) (j : Fin 128) :
    Cert.KPrepRefIdeal.Read.val_main_v75 (F := Ideal) X W (ix4 b s h j)
      = Cert.KPrepRefIdeal.Read.val_main_v41 (F := Ideal) X W (ix4 b s h j) * COS (ix2 s j) + Cert.KPrepRefIdeal.Read.val_main_v66 (F := Ideal) X W (ix4 b s h j) * SIN (ix2 s j) := by
  rw [Cert.KPrepRefIdeal.Read.val_main_v75_apply, Cert.KPrepRefIdeal.Read.val_main_v70_apply, Cert.KPrepRefIdeal.Read.val_main_v74_apply, ref69_at, ref73_at]
  rfl

/-- The turned keys as the kernel forms them: with the tables' entries the half-turned entry times the sine is the sum of
    the two products, one of which is with zero. -/
theorem turned_eq (n : Fin 128 → EReal) (q : Fin 128) (c s : EReal) :
    turned n q c (if (q : ℕ) % 64 < 32 then -s else 0) (if (q : ℕ) % 64 < 32 then 0 else s)
      = n q * c + (if (q : ℕ) % 64 < 32 then - n (fwd q) else n (bck q)) * s := by
  unfold turned
  split_ifs
  · rw [mul_zero, add_zero, mul_neg, neg_mul]
  · rw [mul_zero, add_zero]

/-- Turned by the angle zero, a head stays. -/
theorem turned_one (n : Fin 128 → EReal) (q : Fin 128) :
    turned n q (FloatOps.ofBits (F := Ideal) .f32 0x3F800000#32) (FloatOps.ofBits (F := Ideal) .f32 0x00000000#32)
      (FloatOps.ofBits (F := Ideal) .f32 0x00000000#32) = n q := by
  have h1 : FloatOps.ofBits (F := Ideal) .f32 0x3F800000#32 = (1 : EReal) := Ideal.ofBits_one_f32
  have h0 : FloatOps.ofBits (F := Ideal) .f32 0x00000000#32 = (0 : EReal) := Ideal.ofBits_zero_f32
  unfold turned
  rw [h1, h0, mul_one, mul_zero, mul_zero, add_zero, add_zero]

/-- The latents' turned keys as an array over the rows. -/
theorem ref76_at (X : FVec Ideal S16896x17408 .f32) (W : FVec Ideal S128 .f32) (i : Fin 16384) (K : Fin 4) (q : Fin 128) :
    Cert.KPrepRefIdeal.Read.val_main_v76 (F := Ideal) X W (ix2 i (col K q)) = Cert.KPrepRefIdeal.Read.val_main_v75 (F := Ideal) X W (ix4 ⟨i / 8192, by omega⟩ ⟨i % 8192, by omega⟩ K q) := by
  rw [Cert.KPrepRefIdeal.Read.val_main_v76_apply]
  refine congrArg _ (funext fun a => Fin.ext ?_)
  have := i.isLt; have := K.isLt; have := q.isLt
  match a with
  | ⟨0, _⟩ => show ((i : ℕ) * 512 + (K * 128 + q)) / 4194304 = i / 8192; omega
  | ⟨1, _⟩ => show ((i : ℕ) * 512 + (K * 128 + q)) / 512 % 8192 = i % 8192; omega
  | ⟨2, _⟩ => show ((i : ℕ) * 512 + (K * 128 + q)) / 128 % 4 = K; omega
  | ⟨3, _⟩ => show ((i : ℕ) * 512 + (K * 128 + q)) % 128 = q; omega

/-- The context's normed keys as an array over the rows. -/
theorem ref77_at (X : FVec Ideal S16896x17408 .f32) (W : FVec Ideal S128 .f32) (i : Fin 512) (K : Fin 4) (q : Fin 128) :
    Cert.KPrepRefIdeal.Read.val_main_v77 (F := Ideal) X W (ix2 i (col K q)) = Cert.KPrepRefIdeal.Read.val_main_v56 (F := Ideal) X W (ix4 ⟨i / 256, by omega⟩ ⟨i % 256, by omega⟩ K q) := by
  rw [Cert.KPrepRefIdeal.Read.val_main_v77_apply]
  refine congrArg _ (funext fun a => Fin.ext ?_)
  have := i.isLt; have := K.isLt; have := q.isLt
  match a with
  | ⟨0, _⟩ => show ((i : ℕ) * 512 + (K * 128 + q)) / 131072 = i / 256; omega
  | ⟨1, _⟩ => show ((i : ℕ) * 512 + (K * 128 + q)) / 512 % 256 = i % 256; omega
  | ⟨2, _⟩ => show ((i : ℕ) * 512 + (K * 128 + q)) / 128 % 4 = K; omega
  | ⟨3, _⟩ => show ((i : ℕ) * 512 + (K * 128 + q)) % 128 = q; omega

/-- The reference's result at row `i`, column `j`, in terms of its two parts. -/
theorem ref79_split (X : FVec Ideal S16896x17408 .f32) (W : FVec Ideal S128 .f32) (i : Fin 16896) (j : Fin 512) :
    Cert.KPrepRefIdeal.Read.val_main_v79 (F := Ideal) X W (ix2 i j)
      = if h : (i : ℕ) < 16384 then Cert.KPrepRefIdeal.Read.val_main_v76 (F := Ideal) X W (ix2 ⟨i, h⟩ j)
        else Cert.KPrepRefIdeal.Read.val_main_v77 (F := Ideal) X W (ix2 ⟨i - 16384, by omega⟩ j) := by
  simp only [Cert.KPrepRefIdeal.Read.val_main_v79, Cert.KPrepRefIdeal.Read.val_main_v78]
  generalize Cert.KPrepRefIdeal.Read.val_main_v76 (F := Ideal) X W = x
  generalize Cert.KPrepRefIdeal.Read.val_main_v77 (F := Ideal) X W = y
  pointwise

/-- Two reads of an array over the rows agree when the rows are the same number. -/
theorem read_row (X : FVec Ideal S16896x17408 .f32) (a b : Fin 16896) (h : (a : ℕ) = b) (j : Fin 17408) : X (ix2 a j) = X (ix2 b j) := by
  rw [Fin.ext h]

/-- The reference's result at row `i`, column `q` of head `K`: the turned norm of the head, with the tables' entries there. -/
theorem ref_at (X : FVec Ideal S16896x17408 .f32) (W : FVec Ideal S128 .f32) (i : Fin 16896) (K : Fin 4) (q : Fin 128) :
    Cert.KPrepRefIdeal.Read.val_main_v79 (F := Ideal) X W (ix2 i (col K q))
      = turned (normed (fun k => X (ix2 i ⟨12288 + (K * 128 + k), by omega⟩)) (fun k => W (ix1 k))) q
          (TAB COS 0x3F800000#32 (ix2 i q)) (TAB UP 0x00000000#32 (ix2 i q)) (TAB DN 0x00000000#32 (ix2 i q)) := by
  rw [ref79_split, TAB_at, TAB_at, TAB_at]
  by_cases h : (i : ℕ) < 16384
  · rw [dif_pos h, if_pos h, if_pos h, if_pos h, UP_at, DN_at, turned_eq]
    have e : ∀ k, Cert.KPrepRefIdeal.Read.val_main_v41 (F := Ideal) X W (ix4 ⟨i / 8192, by omega⟩ ⟨i % 8192, by omega⟩ K k)
        = normed (fun k => X (ix2 i ⟨12288 + (K * 128 + k), by omega⟩)) (fun k => W (ix1 k)) k := fun k =>
      (ref41_at X W _ _ K k).trans (congrFun (normed_congr (fun l => (ref28_at X _ _ K l).trans
        (read_row X _ _ (by show (i : ℕ) / 8192 * 8192 + (i : ℕ) % 8192 = i; omega) _)) (fun _ => rfl)) k)
    refine (ref76_at X W ⟨i, h⟩ K q).trans ((ref75_at X W _ _ K q).trans ?_)
    rw [ref66_at]
    show Cert.KPrepRefIdeal.Read.val_main_v41 (F := Ideal) X W (ix4 ⟨i / 8192, by omega⟩ ⟨i % 8192, by omega⟩ K q) * _
      + (if _ then - Cert.KPrepRefIdeal.Read.val_main_v41 (F := Ideal) X W (ix4 ⟨i / 8192, by omega⟩ ⟨i % 8192, by omega⟩ K (fwd q))
          else Cert.KPrepRefIdeal.Read.val_main_v41 (F := Ideal) X W (ix4 ⟨i / 8192, by omega⟩ ⟨i % 8192, by omega⟩ K (bck q))) * _ = _
    rw [e, e, e]
  · rw [dif_neg h, if_neg h, if_neg h, if_neg h, turned_one]
    refine (ref77_at X W _ K q).trans ((ref56_at X W _ _ K q).trans (congrFun (normed_congr (fun l => (ref43_at X _ _ K l).trans
        (read_row X _ _ ?_ _)) (fun _ => rfl)) q))
    show 16384 + (((i : ℕ) - 16384) / 256 * 256 + ((i : ℕ) - 16384) % 256) = i
    omega

/-! ### The run -/

/-- Which block of its array each window holds at point `t`: row block `t`; the keys' columns are column block 24. -/
theorem idx : ∀ t : Fin cfg0.N, win0_0.index t = ![t.val, 24] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The grid has 66 points. -/
theorem lt_N (t : Fin cfg0.N) : (t : ℕ) < 66 := lt_of_lt_of_eq t.isLt (by decide)

/-- The row of the arrays that row `p` of row block `t` is. -/
def row (t : Fin cfg0.N) (p : Fin 256) : Fin 16896 := ⟨t * 256 + p, by have := lt_N t; have := p.isLt; omega⟩

/-- Where position `y` of the result's block `t` sits in the array. -/
theorem emb5 (t : Fin cfg0.N) (y : S256x512.Idx) : (((cfg0.win 5).blk t).view.emb y : S16896x512.Idx) = ix2 (row t (y 0)) (y 1) := by
  blk_ext [idx t, row]

/-- The keys' block `t` at row `p`, column `j`. -/
theorem blkX (c : Dev nD) (t : Fin cfg0.N) (p : Fin 256) (j : Fin 512) :
    (iblk m c 0 t : Vec Ideal S256x512 .f32) (ix2 p j)
      = (m ((c : Thread nD τ).loc main_arg0) : FVec Ideal S16896x17408 .f32) (ix2 (row t p) ⟨12288 + j, by omega⟩) := by
  have ht := lt_N t
  blk_ext [iblk, V_main_arg0, idx t, row]

/-- The norm's weight block at column `j`. -/
theorem blkN (c : Dev nD) (t : Fin cfg0.N) (j : Fin 128) :
    (iblk m c 1 t : Vec Ideal S1x128 .f32) (ix2 0 j) = (m ((c : Thread nD τ).loc main_arg1) : FVec Ideal S128 .f32) (ix1 j) := by
  refine Eq.trans (b := V m c main_v48 (ix2 0 j)) ?_ ((congrFun (norm_eq m c) (ix2 0 j)).trans ?_)
  · blk_ext [iblk, idx t]
  · generalize (m ((c : Thread nD τ).loc main_arg1) : FVec Ideal S128 .f32) = x
    pointwise

/-- The cosine table's block `t` at row `p`, column `j`. -/
theorem blkC (c : Dev nD) (t : Fin cfg0.N) (p : Fin 256) (j : Fin 128) :
    (iblk m c 2 t : Vec Ideal S256x128 .f32) (ix2 p j) = TAB COS 0x3F800000#32 (ix2 (row t p) j) := by
  have ht := lt_N t
  refine Eq.trans (b := V m c main_v37 (ix2 (row t p) j)) ?_ (congrFun (tabC m c) (ix2 (row t p) j))
  blk_ext [iblk, idx t, row]

/-- The first sine table's block `t` at row `p`, column `j`. -/
theorem blkU (c : Dev nD) (t : Fin cfg0.N) (p : Fin 256) (j : Fin 128) :
    (iblk m c 3 t : Vec Ideal S256x128 .f32) (ix2 p j) = TAB UP 0x00000000#32 (ix2 (row t p) j) := by
  have ht := lt_N t
  refine Eq.trans (b := V m c main_v42 (ix2 (row t p) j)) ?_ (congrFun (tabU m c) (ix2 (row t p) j))
  blk_ext [iblk, idx t, row]

/-- The second sine table's block `t` at row `p`, column `j`. -/
theorem blkD (c : Dev nD) (t : Fin cfg0.N) (p : Fin 256) (j : Fin 128) :
    (iblk m c 4 t : Vec Ideal S256x128 .f32) (ix2 p j) = TAB DN 0x00000000#32 (ix2 (row t p) j) := by
  have ht := lt_N t
  refine Eq.trans (b := V m c main_v47 (ix2 (row t p) j)) ?_ (congrFun (tabD m c) (ix2 (row t p) j))
  blk_ext [iblk, idx t, row]

/-- The reference's result as a function of the two arguments. -/
def REF (c : Dev nD) : FVec Ideal S16896x512 .bf16 :=
  Cert.KPrepRefIdeal.Read.val_main_v79 (F := Ideal) (m ((c : Thread nD τ).loc main_arg0)) (m ((c : Thread nD τ).loc main_arg1))

/-- The head a column lies in. -/
def grp (j : Fin 512) : Fin 4 := ⟨j / 128, by omega⟩

/-- A column's place within its head. -/
def plc (j : Fin 512) : Fin 128 := ⟨j % 128, by omega⟩

/-- A column is its place within its head. -/
theorem col_eq (j : Fin 512) : col (grp j) (plc j) = j := Fin.ext (by show (j : ℕ) / 128 * 128 + (j : ℕ) % 128 = j; omega)

/-- What the body stores at position `y` of block `t` is the reference's result at the array position `y` sits at. -/
theorem point (c : Dev nD) (t : Fin cfg0.N) (y : S256x512.Idx) :
    out0_5 (F := Ideal) (iblk m c 0 t) (iblk m c 1 t) (iblk m c 2 t) (iblk m c 3 t) (iblk m c 4 t) y = REF m c (ix2 (row t (y 0)) (y 1)) := by
  refine (out_eq _ _ _ _ _ y (grp (y 1)) (y 0) (plc (y 1)) rfl ?_).trans (Eq.trans ?_
    ((ref_at _ _ (row t (y 0)) (grp (y 1)) (plc (y 1))).symm.trans (congrArg (fun j => REF m c (ix2 (row t (y 0)) j)) (col_eq (y 1)))))
  · show (y 1).val = (y 1).val / 128 * 128 + (y 1).val % 128; omega
  · exact turned_congr (normed_congr (fun k => blkX m c t _ _) (fun k => blkN m c t k)) (blkC m c t _ _) (blkU m c t _ _) (blkD m c t _ _) _

/-- The result array after the run is the reference's. -/
theorem final (c : Dev nD) : (dats m 0 c).arrAt 5 (cfgs 0).N = REF m c := by
  refine (dats m 0 c).arrAt_eq_of_covers 5 _ (by decide +kernel) fun t _ y => ?_
  blk_simp
  rw [after0_5]
  exact (point m c t y).trans (congrArg (REF m c) (emb5 t y).symm)

end Cert.KPrepIdeal.Tile

end
-- ==== Proof.QPrepValue.lean ====
/-
  The norm and rotation of the queries. Every grid point takes the root-mean-square norm of each of the sixteen heads of one
  256-row block of the query columns, turns each head's pairs of entries by the position's angles with the same three
  tables as the keys, and multiplies by the attention's scale. This file shows that the whole result array is the
  reference's.
-/
module

public import proofs.«01_k».proof.Proof.Gen.QPrepIdeal.Value
public import proofs.«01_k».proof.Proof.Gen.QPrepRefIdeal.Run
public import proofs.«01_k».proof.Proof.Gen.QPrepRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QPrepIdeal.Tile

open Cert.QPrepIdeal Cert.QPrepIdeal.Gen

variable (m : (ℓ : Loc nD τ sig) → Buf (Elt Ideal) ℓ)

/-- One entry of a normed head: the entry times the reciprocal root of the head's mean square plus the constant, times the
    weight. -/
def normed (row w : Fin 128 → EReal) (q : Fin 128) : EReal :=
  row q * Ideal.rsqrt (Ideal.div (∑ k : Fin 128, row k * row k) (FloatOps.ofBits (F := Ideal) .f32 0x43000000#32)
    + FloatOps.ofBits (F := Ideal) .f32 0x358637BD#32) * w q

/-- The place 32 further in the head, counted round. -/
def fwd (q : Fin 128) : Fin 128 := ⟨(q + 128 - 96) % 128, Nat.mod_lt _ (by decide)⟩

/-- The place 32 back in the head, counted round. -/
def bck (q : Fin 128) : Fin 128 := ⟨(q + 128 - 32) % 128, Nat.mod_lt _ (by decide)⟩

/-- The turned head at one place, from three tables' entries there. -/
def turned (n : Fin 128 → EReal) (q : Fin 128) (c u d : EReal) : EReal := n q * c + n (fwd q) * u + n (bck q) * d

/-- Equal heads and table entries have equal turned heads. -/
theorem turned_congr {n n' : Fin 128 → EReal} {c c' u u' d d' : EReal} (hn : n = n') (hc : c = c') (hu : u = u') (hd : d = d')
    (q : Fin 128) : turned n q c u d = turned n' q c' u' d' := by
  rw [hn, hc, hu, hd]

/-- Equal heads and weights have equal norms. -/
theorem normed_congr {r r' w w' : Fin 128 → EReal} (hr : ∀ k, r k = r' k) (hw : ∀ k, w k = w' k) : normed r w = normed r' w' := by
  rw [funext hr, funext hw]

/-- The attention's scale. -/
abbrev SCALE : EReal := FloatOps.ofBits (F := Ideal) .f32 0x3DB504F3#32

/-- Column `q` of head `K`. -/
def col (K : Fin 16) (q : Fin 128) : Fin 2048 := ⟨K * 128 + q, by omega⟩

/-- The value stored for a head at row `p`, column `q`. -/
theorem pay_at (c u d : Vec Ideal S256x128 .f32) (w : Vec Ideal S1x128 .f32) (x : Vec Ideal S256x128 .f32) (p : Fin 256) (q : Fin 128) :
    k0_pay6 (F := Ideal) c u d w x (ix2 p q)
      = turned (normed (fun k => x (ix2 p k)) (fun k => w (ix2 0 k))) q (c (ix2 p q)) (u (ix2 p q)) (d (ix2 p q)) * SCALE := by
  unfold k0_pay6 k0_pay2 k0_pay3 k0_pay4 k0_pay5 turned normed fwd bck
  pointwise

/-- The value stored for the head whose columns begin at `o`, from the blocks. -/
def tile (x0 : Vec Ideal S256x2048 .f32) (x1 : Vec Ideal S1x128 .f32) (x2 x3 x4 : Vec Ideal S256x128 .f32) (o : ℕ)
    (inb : ∀ a, (![0, o] : Fin 2 → ℕ) a + S256x128.size a ≤ S256x2048.size a) : FVec Ideal S256x128 .bf16 :=
  k0_pay6 (View.ld x2 (Rect.unit (s := S256x128) ![0, 0] S256x128.size inb_S256x128_S256x128_0_0)) (View.ld x3 (Rect.unit (s := S256x128) ![0, 0] S256x128.size inb_S256x128_S256x128_0_0)) (View.ld x4 (Rect.unit (s := S256x128) ![0, 0] S256x128.size inb_S256x128_S256x128_0_0)) (View.ld x1 (Rect.unit (s := S1x128) ![0, 0] S1x128.size inb_S1x128_S1x128_0_0)) (View.ld x0 (Rect.unit (s := S256x2048) ![0, o] S256x128.size inb))

/-- The same value, from the staging buffers that hold the blocks. -/
def rawTile (arg1 : Memref sig .tc .vmem S256x2048 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (x0 : Vec Ideal S256x2048 .f32) (x1 : Vec Ideal S1x128 .f32) (x2 x3 x4 : Vec Ideal S256x128 .f32) (o : ℕ)
    (inb : ∀ a, (![0, o] : Fin 2 → ℕ) a + S256x128.size a ≤ S256x2048.size a) : FVec Ideal S256x128 .bf16 :=
  k0_pay6 (View.readAt (Elt Ideal) arg3.view (Rect.unit (s := S256x128) ![0, 0] S256x128.size inb_S256x128_S256x128_0_0).toLoadRect (harg3.unread x2)) (View.readAt (Elt Ideal) arg4.view (Rect.unit (s := S256x128) ![0, 0] S256x128.size inb_S256x128_S256x128_0_0).toLoadRect (harg4.unread x3))
    (View.readAt (Elt Ideal) arg5.view (Rect.unit (s := S256x128) ![0, 0] S256x128.size inb_S256x128_S256x128_0_0).toLoadRect (harg5.unread x4)) (View.readAt (Elt Ideal) arg2.view (Rect.unit (s := S1x128) ![0, 0] S1x128.size inb_S1x128_S1x128_0_0).toLoadRect (harg2.unread x1))
    (View.readAt (Elt Ideal) arg1.view (Rect.unit (s := S256x2048) ![0, o] S256x128.size inb).toLoadRect (harg1.unread x0))

/-- The two are the same. -/
theorem rawTile_eq (arg1 : Memref sig .tc .vmem S256x2048 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (x0 : Vec Ideal S256x2048 .f32) (x1 : Vec Ideal S1x128 .f32) (x2 x3 x4 : Vec Ideal S256x128 .f32) (o : ℕ)
    (inb : ∀ a, (![0, o] : Fin 2 → ℕ) a + S256x128.size a ≤ S256x2048.size a) : rawTile arg1 harg1 arg2 harg2 arg3 harg3 arg4 harg4 arg5 harg5 x0 x1 x2 x3 x4 o inb = tile x0 x1 x2 x3 x4 o inb := by
  unfold rawTile tile
  simp only [View.readAt_eq_ld, harg1.read_unread, harg2.read_unread, harg3.read_unread, harg4.read_unread, harg5.read_unread]

/-- What the body leaves in the output block: its sixteen stores' values, last first. -/
theorem out_raw (c : Dev nD) (i : grid0.Coords) (arg1 : Memref sig .tc .vmem S256x2048 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x2048 .bf16) (harg6 : arg6.IsWhole) (x0 : Vec Ideal S256x2048 .f32) (x1 : Vec Ideal S1x128 .f32) (x2 x3 x4 : Vec Ideal S256x128 .f32) :
    (kernelRun0_A (F := Ideal) c i arg1 harg1 arg2 harg2 arg3 harg3 arg4 harg4 arg5 harg5 arg6 harg6 x0 x1 x2 x3 x4).1 = [
      ⟨(Rect.unit (s := S256x2048) ![0, 1920] S256x128.size inb_S256x2048_S256x128_0_1920), rawTile arg1 harg1 arg2 harg2 arg3 harg3 arg4 harg4 arg5 harg5 x0 x1 x2 x3 x4 1920 inb_S256x2048_S256x128_0_1920⟩,
      ⟨(Rect.unit (s := S256x2048) ![0, 1792] S256x128.size inb_S256x2048_S256x128_0_1792), rawTile arg1 harg1 arg2 harg2 arg3 harg3 arg4 harg4 arg5 harg5 x0 x1 x2 x3 x4 1792 inb_S256x2048_S256x128_0_1792⟩,
      ⟨(Rect.unit (s := S256x2048) ![0, 1664] S256x128.size inb_S256x2048_S256x128_0_1664), rawTile arg1 harg1 arg2 harg2 arg3 harg3 arg4 harg4 arg5 harg5 x0 x1 x2 x3 x4 1664 inb_S256x2048_S256x128_0_1664⟩,
      ⟨(Rect.unit (s := S256x2048) ![0, 1536] S256x128.size inb_S256x2048_S256x128_0_1536), rawTile arg1 harg1 arg2 harg2 arg3 harg3 arg4 harg4 arg5 harg5 x0 x1 x2 x3 x4 1536 inb_S256x2048_S256x128_0_1536⟩,
      ⟨(Rect.unit (s := S256x2048) ![0, 1408] S256x128.size inb_S256x2048_S256x128_0_1408), rawTile arg1 harg1 arg2 harg2 arg3 harg3 arg4 harg4 arg5 harg5 x0 x1 x2 x3 x4 1408 inb_S256x2048_S256x128_0_1408⟩,
      ⟨(Rect.unit (s := S256x2048) ![0, 1280] S256x128.size inb_S256x2048_S256x128_0_1280), rawTile arg1 harg1 arg2 harg2 arg3 harg3 arg4 harg4 arg5 harg5 x0 x1 x2 x3 x4 1280 inb_S256x2048_S256x128_0_1280⟩,
      ⟨(Rect.unit (s := S256x2048) ![0, 1152] S256x128.size inb_S256x2048_S256x128_0_1152), rawTile arg1 harg1 arg2 harg2 arg3 harg3 arg4 harg4 arg5 harg5 x0 x1 x2 x3 x4 1152 inb_S256x2048_S256x128_0_1152⟩,
      ⟨(Rect.unit (s := S256x2048) ![0, 1024] S256x128.size inb_S256x2048_S256x128_0_1024), rawTile arg1 harg1 arg2 harg2 arg3 harg3 arg4 harg4 arg5 harg5 x0 x1 x2 x3 x4 1024 inb_S256x2048_S256x128_0_1024⟩,
      ⟨(Rect.unit (s := S256x2048) ![0, 896] S256x128.size inb_S256x2048_S256x128_0_896), rawTile arg1 harg1 arg2 harg2 arg3 harg3 arg4 harg4 arg5 harg5 x0 x1 x2 x3 x4 896 inb_S256x2048_S256x128_0_896⟩,
      ⟨(Rect.unit (s := S256x2048) ![0, 768] S256x128.size inb_S256x2048_S256x128_0_768), rawTile arg1 harg1 arg2 harg2 arg3 harg3 arg4 harg4 arg5 harg5 x0 x1 x2 x3 x4 768 inb_S256x2048_S256x128_0_768⟩,
      ⟨(Rect.unit (s := S256x2048) ![0, 640] S256x128.size inb_S256x2048_S256x128_0_640), rawTile arg1 harg1 arg2 harg2 arg3 harg3 arg4 harg4 arg5 harg5 x0 x1 x2 x3 x4 640 inb_S256x2048_S256x128_0_640⟩,
      ⟨(Rect.unit (s := S256x2048) ![0, 512] S256x128.size inb_S256x2048_S256x128_0_512), rawTile arg1 harg1 arg2 harg2 arg3 harg3 arg4 harg4 arg5 harg5 x0 x1 x2 x3 x4 512 inb_S256x2048_S256x128_0_512⟩,
      ⟨(Rect.unit (s := S256x2048) ![0, 384] S256x128.size inb_S256x2048_S256x128_0_384), rawTile arg1 harg1 arg2 harg2 arg3 harg3 arg4 harg4 arg5 harg5 x0 x1 x2 x3 x4 384 inb_S256x2048_S256x128_0_384⟩,
      ⟨(Rect.unit (s := S256x2048) ![0, 256] S256x128.size inb_S256x2048_S256x128_0_256), rawTile arg1 harg1 arg2 harg2 arg3 harg3 arg4 harg4 arg5 harg5 x0 x1 x2 x3 x4 256 inb_S256x2048_S256x128_0_256⟩,
      ⟨(Rect.unit (s := S256x2048) ![0, 128] S256x128.size inb_S256x2048_S256x128_0_128), rawTile arg1 harg1 arg2 harg2 arg3 harg3 arg4 harg4 arg5 harg5 x0 x1 x2 x3 x4 128 inb_S256x2048_S256x128_0_128⟩,
      ⟨(Rect.unit (s := S256x2048) ![0, 0] S256x128.size inb_S256x2048_S256x128_0_0), rawTile arg1 harg1 arg2 harg2 arg3 harg3 arg4 harg4 arg5 harg5 x0 x1 x2 x3 x4 0 inb_S256x2048_S256x128_0_0⟩] := rfl

/-- The output block is sixteen tiles, one from each head. -/
theorem out_pieces (c : Dev nD) (i : grid0.Coords) (arg1 : Memref sig .tc .vmem S256x2048 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x2048 .bf16) (harg6 : arg6.IsWhole) (x0 : Vec Ideal S256x2048 .f32) (x1 : Vec Ideal S1x128 .f32) (x2 x3 x4 : Vec Ideal S256x128 .f32) :
    out0_A_5 (F := Ideal) c i arg1 harg1 arg2 harg2 arg3 harg3 arg4 harg4 arg5 harg5 arg6 harg6 x0 x1 x2 x3 x4 = View.canon [
      ⟨(Rect.unit (s := S256x2048) ![0, 1920] S256x128.size inb_S256x2048_S256x128_0_1920), tile x0 x1 x2 x3 x4 1920 inb_S256x2048_S256x128_0_1920⟩,
      ⟨(Rect.unit (s := S256x2048) ![0, 1792] S256x128.size inb_S256x2048_S256x128_0_1792), tile x0 x1 x2 x3 x4 1792 inb_S256x2048_S256x128_0_1792⟩,
      ⟨(Rect.unit (s := S256x2048) ![0, 1664] S256x128.size inb_S256x2048_S256x128_0_1664), tile x0 x1 x2 x3 x4 1664 inb_S256x2048_S256x128_0_1664⟩,
      ⟨(Rect.unit (s := S256x2048) ![0, 1536] S256x128.size inb_S256x2048_S256x128_0_1536), tile x0 x1 x2 x3 x4 1536 inb_S256x2048_S256x128_0_1536⟩,
      ⟨(Rect.unit (s := S256x2048) ![0, 1408] S256x128.size inb_S256x2048_S256x128_0_1408), tile x0 x1 x2 x3 x4 1408 inb_S256x2048_S256x128_0_1408⟩,
      ⟨(Rect.unit (s := S256x2048) ![0, 1280] S256x128.size inb_S256x2048_S256x128_0_1280), tile x0 x1 x2 x3 x4 1280 inb_S256x2048_S256x128_0_1280⟩,
      ⟨(Rect.unit (s := S256x2048) ![0, 1152] S256x128.size inb_S256x2048_S256x128_0_1152), tile x0 x1 x2 x3 x4 1152 inb_S256x2048_S256x128_0_1152⟩,
      ⟨(Rect.unit (s := S256x2048) ![0, 1024] S256x128.size inb_S256x2048_S256x128_0_1024), tile x0 x1 x2 x3 x4 1024 inb_S256x2048_S256x128_0_1024⟩,
      ⟨(Rect.unit (s := S256x2048) ![0, 896] S256x128.size inb_S256x2048_S256x128_0_896), tile x0 x1 x2 x3 x4 896 inb_S256x2048_S256x128_0_896⟩,
      ⟨(Rect.unit (s := S256x2048) ![0, 768] S256x128.size inb_S256x2048_S256x128_0_768), tile x0 x1 x2 x3 x4 768 inb_S256x2048_S256x128_0_768⟩,
      ⟨(Rect.unit (s := S256x2048) ![0, 640] S256x128.size inb_S256x2048_S256x128_0_640), tile x0 x1 x2 x3 x4 640 inb_S256x2048_S256x128_0_640⟩,
      ⟨(Rect.unit (s := S256x2048) ![0, 512] S256x128.size inb_S256x2048_S256x128_0_512), tile x0 x1 x2 x3 x4 512 inb_S256x2048_S256x128_0_512⟩,
      ⟨(Rect.unit (s := S256x2048) ![0, 384] S256x128.size inb_S256x2048_S256x128_0_384), tile x0 x1 x2 x3 x4 384 inb_S256x2048_S256x128_0_384⟩,
      ⟨(Rect.unit (s := S256x2048) ![0, 256] S256x128.size inb_S256x2048_S256x128_0_256), tile x0 x1 x2 x3 x4 256 inb_S256x2048_S256x128_0_256⟩,
      ⟨(Rect.unit (s := S256x2048) ![0, 128] S256x128.size inb_S256x2048_S256x128_0_128), tile x0 x1 x2 x3 x4 128 inb_S256x2048_S256x128_0_128⟩,
      ⟨(Rect.unit (s := S256x2048) ![0, 0] S256x128.size inb_S256x2048_S256x128_0_0), tile x0 x1 x2 x3 x4 0 inb_S256x2048_S256x128_0_0⟩] := by
  unfold out0_A_5
  rw [View.read_writes_junk_eq_canon, out_raw]
  simp only [rawTile_eq]

/-- A load of one head's columns of a block. -/
theorem ldt (x : Vec Ideal S256x2048 .f32) (K : Fin 16) (inb : ∀ a, (![0, K.val * 128] : Fin 2 → ℕ) a + S256x128.size a ≤ S256x2048.size a)
    (p : Fin 256) (q : Fin 128) : View.ld x (Rect.unit (s := S256x2048) ![0, K.val * 128] S256x128.size inb) (ix2 p q) = x (ix2 p (col K q)) := by
  pointwise [col]

/-- A load of a whole table block. -/
theorem ldc (x : Vec Ideal S256x128 .f32) (p : Fin 256) (q : Fin 128) : View.ld x (Rect.unit (s := S256x128) ![0, 0] S256x128.size inb_S256x128_S256x128_0_0) (ix2 p q) = x (ix2 p q) := by
  pointwise

/-- A load of the whole weight row. -/
theorem ldw (x : Vec Ideal S1x128 .f32) (q : Fin 128) : View.ld x (Rect.unit (s := S1x128) ![0, 0] S1x128.size inb_S1x128_S1x128_0_0) (ix2 0 q) = x (ix2 0 q) := by
  pointwise

/-- Head `K`'s turned and scaled norm at row `p`, column `q` of the blocks. -/
def headAt (x0 : Vec Ideal S256x2048 .f32) (x1 : Vec Ideal S1x128 .f32) (x2 x3 x4 : Vec Ideal S256x128 .f32) (K : Fin 16) (p : Fin 256) (q : Fin 128) : EReal :=
  turned (normed (fun k => x0 (ix2 p (col K k))) (fun k => x1 (ix2 0 k))) q (x2 (ix2 p q)) (x3 (ix2 p q)) (x4 (ix2 p q)) * SCALE

/-- Head `K`'s tile at row `p`, column `q`. -/
theorem tile_at (x0 : Vec Ideal S256x2048 .f32) (x1 : Vec Ideal S1x128 .f32) (x2 x3 x4 : Vec Ideal S256x128 .f32) (K : Fin 16)
    (inb : ∀ a, (![0, K.val * 128] : Fin 2 → ℕ) a + S256x128.size a ≤ S256x2048.size a) (p : Fin 256) (q : Fin 128) :
    tile x0 x1 x2 x3 x4 (K.val * 128) inb (ix2 p q) = headAt x0 x1 x2 x3 x4 K p q :=
  (pay_at _ _ _ _ _ p q).trans (congrArg (· * SCALE)
    (turned_congr (normed_congr (fun k => ldt _ K inb p k) (fun k => ldw _ k)) (ldc _ p q) (ldc _ p q) (ldc _ p q) q))

/-- A tile of the output at a position of the block: its own head's. -/
theorem piece_at (x0 : Vec Ideal S256x2048 .f32) (x1 : Vec Ideal S1x128 .f32) (x2 x3 x4 : Vec Ideal S256x128 .f32) (o : ℕ)
    (inb : ∀ a, (![0, o] : Fin 2 → ℕ) a + S256x128.size a ≤ S256x2048.size a) (y : S256x2048.Idx) (x : S256x128.Idx) (K : Fin 16) (p : Fin 256) (q : Fin 128)
    (h0 : (y 0).val = p.val) (h1 : (y 1).val = K.val * 128 + q.val) (hx0 : (y 0).val = (x 0).val) (hx1 : (y 1).val = o + (x 1).val)
    (lt : (x 1).val < 128) (ho : o % 128 = 0) : tile x0 x1 x2 x3 x4 o inb x = headAt x0 x1 x2 x3 x4 K p q := by
  obtain rfl : o = K.val * 128 := by omega
  have e : x = ix2 p q := (eq_ix2 x).trans ((ix2_inj ..).2 ⟨Fin.ext (by omega), Fin.ext (by omega)⟩)
  exact (congrArg _ e).trans (tile_at x0 x1 x2 x3 x4 K inb p q)

set_option maxHeartbeats 16000000 in
/-- The output block at one position: its own head's. -/
theorem out_eq (c : Dev nD) (i : grid0.Coords) (arg1 : Memref sig .tc .vmem S256x2048 .f32) (harg1 : arg1.IsWhole) (arg2 : Memref sig .tc .vmem S1x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x2048 .bf16) (harg6 : arg6.IsWhole) (x0 : Vec Ideal S256x2048 .f32) (x1 : Vec Ideal S1x128 .f32) (x2 x3 x4 : Vec Ideal S256x128 .f32) (y : S256x2048.Idx) (K : Fin 16) (p : Fin 256) (q : Fin 128)
    (h0 : (y 0).val = p.val) (h1 : (y 1).val = K.val * 128 + q.val) :
    out0_A_5 (F := Ideal) c i arg1 harg1 arg2 harg2 arg3 harg3 arg4 harg4 arg5 harg5 arg6 harg6 x0 x1 x2 x3 x4 y = headAt x0 x1 x2 x3 x4 K p q := by
  rw [out_pieces]
  canon_tiles y yy
  all_goals exact piece_at x0 x1 x2 x3 x4 _ _ _ _ K p q h0 h1 yy0 (by omega) y1_lt (by decide)

/-! ### The tables -/

/-- The cosines by position and place in the head. -/
abbrev COS : FVec Ideal S8192x128 .f32 := Cert.QPrepRefIdeal.Read.val_main_v24 (F := Ideal)

/-- The sines by position and place in the head. -/
abbrev SIN : FVec Ideal S8192x128 .f32 := Cert.QPrepRefIdeal.Read.val_main_v25 (F := Ideal)

/-- The number the places are divided by: 64, as the remainder's text computes it. -/
def by64 : IVec S_ 32 := select (cmpi .eq (constantI S_ 32 64#32) (constantI S_ 32 0#32)) (constantI S_ 32 1#32) (constantI S_ 32 64#32)

/-- The places' remainders before the sign is mended. -/
def rem0 : IVec S128 32 := Host.remsi (iotaInDim S128 32 0) (broadcastInDim S128 ![] bcast_S_S128 by64)

/-- The places' remainders on division by 64, as the kernel's text computes them. -/
def rems : IVec S128 32 :=
  select (andi (cmpi .ne (cmpi .slt rem0 (broadcastInDim S128 ![] bcast_S_S128 (constantI S_ 32 0#32)))
      (broadcastInDim S128 ![] bcast_S_S128 (cmpi .slt by64 (constantI S_ 32 0#32))))
    (cmpi .ne rem0 (broadcastInDim S128 ![] bcast_S_S128 (constantI S_ 32 0#32)))) (addi rem0 (broadcastInDim S128 ![] bcast_S_S128 by64)) rem0

/-- Whether a place lies in the first half of its axis's 64 places. -/
def first : IVec S128 1 := cmpi .slt rems (broadcastInDim S128 ![] bcast_S_S128 (constantI S_ 32 32#32))

/-- The test is whether the place's remainder on division by 64 is under 32. -/
theorem first_at : ∀ q : Fin 128, first (ix1 q) = if (q : ℕ) % 64 < 32 then 1#1 else 0#1 := by decide +kernel

/-- The table that goes with the entry 32 places further: minus the sine in the first halves, zero in the second. -/
def UP : FVec Ideal S8192x128 .f32 := select (broadcastInDim S8192x128 ![1] bcast_S128_S8192x128_1 first) (Host.negf SIN)
  (broadcastInDim S8192x128 ![] bcast_S_S8192x128 (constant S_ .f32 0x00000000#32))

/-- The table that goes with the entry 32 places back: zero in the first halves, the sine in the second. -/
def DN : FVec Ideal S8192x128 .f32 := select (broadcastInDim S8192x128 ![1] bcast_S128_S8192x128_1 first)
  (broadcastInDim S8192x128 ![] bcast_S_S8192x128 (constant S_ .f32 0x00000000#32)) SIN

/-- The first of the two tables at an entry. -/
theorem UP_at (s : Fin 8192) (q : Fin 128) : UP (ix2 s q) = if (q : ℕ) % 64 < 32 then - SIN (ix2 s q) else 0 := by
  have h := first_at q
  unfold UP
  generalize first = f at *
  generalize SIN = x
  split_ifs at * with hq <;> pointwise [h]

/-- The second of the two tables at an entry. -/
theorem DN_at (s : Fin 8192) (q : Fin 128) : DN (ix2 s q) = if (q : ℕ) % 64 < 32 then 0 else SIN (ix2 s q) := by
  have h := first_at q
  unfold DN
  generalize first = f at *
  generalize SIN = x
  split_ifs at * with hq <;> pointwise [h]

/-- A table by position as a table over all rows: the latents' rows of both batches, then one number for the context's. -/
def TAB (T : FVec Ideal S8192x128 .f32) (z : BitVec 32) : FVec Ideal S16896x128 .f32 :=
  concatenate S16896x128 0 [⟨S16384x128, shapeCast S16384x128 (broadcastInDim S2x8192x1x128 ![0, 1, 2, 3] bcast_S1x8192x1x128_S2x8192x1x128_0_1_2_3
      (shapeCast S1x8192x1x128 T shapeCasts_S8192x128_S1x8192x1x128)) shapeCasts_S2x8192x1x128_S16384x128⟩,
    ⟨S512x128, broadcastInDim S512x128 ![] bcast_S_S512x128 (constant S_ .f32 z : FVec Ideal S_ .f32)⟩] concatenates_S16384x128_S512x128_S16896x128_d0

/-- Such a table at an entry. -/
theorem TAB_at (T : FVec Ideal S8192x128 .f32) (z : BitVec 32) (i : Fin 16896) (j : Fin 128) :
    TAB T z (ix2 i j) = if (i : ℕ) < 16384 then T (ix2 ⟨i % 8192, by omega⟩ j) else FloatOps.ofBits (F := Ideal) .f32 z := by
  unfold TAB
  split_ifs with h
  · pointwise
    exact dif_pos h
  · pointwise
    exact dif_neg h

set_option maxHeartbeats 4000000 in
/-- The cosine table the kernel reads. -/
theorem tabC (c : Dev nD) : V m c main_v37 = TAB COS 0x3F800000#32 := by
  simp only [V, hostOps0, hostOps0_1, hostOps0_2, hostOps0_3, hostOps0_4, hostOps0_5, hostOps0_6, List.flatten_cons, List.flatten_nil, List.cons_append, List.nil_append, List.append_nil]
  after_results <;> rfl

set_option maxHeartbeats 4000000 in
/-- The first sine table the kernel reads. -/
theorem tabU (c : Dev nD) : V m c main_v42 = TAB UP 0x00000000#32 := by
  simp only [V, hostOps0, hostOps0_1, hostOps0_2, hostOps0_3, hostOps0_4, hostOps0_5, hostOps0_6, List.flatten_cons, List.flatten_nil, List.cons_append, List.nil_append, List.append_nil]
  after_results <;> rfl

set_option maxHeartbeats 4000000 in
/-- The second sine table the kernel reads. -/
theorem tabD (c : Dev nD) : V m c main_v47 = TAB DN 0x00000000#32 := by
  simp only [V, hostOps0, hostOps0_1, hostOps0_2, hostOps0_3, hostOps0_4, hostOps0_5, hostOps0_6, List.flatten_cons, List.flatten_nil, List.cons_append, List.nil_append, List.append_nil]
  after_results <;> rfl

/-- The norm's weight as the kernel reads it is the given vector as one row. -/
theorem norm_eq (c : Dev nD) : V m c main_v48 = (shapeCast S1x128 (m ((c : Thread nD τ).loc main_arg1) : FVec Ideal S128 .f32) shapeCasts_S128_S1x128 : FVec Ideal S1x128 .f32) := by
  simp only [V, hostOps0, hostOps0_1, hostOps0_2, hostOps0_3, hostOps0_4, hostOps0_5, hostOps0_6, List.flatten_cons, List.flatten_nil, List.cons_append, List.nil_append, List.append_nil]
  after_results <;> rfl

/-! ### The reference -/

/-- The queries by batch, position, group, member of the group and place. -/
theorem ref27_at (X : FVec Ideal S16896x17408 .f32) (b : Fin 2) (s : Fin 8192) (g h : Fin 4) (j : Fin 128) :
    Cert.QPrepRefIdeal.Read.val_main_v27 (F := Ideal) X (ix5 b s g h j) = X (ix2 ⟨b * 8192 + s, by omega⟩ ⟨10240 + ((g * 4 + h) * 128 + j), by omega⟩) := by
  pointwise [Cert.QPrepRefIdeal.Read.val_main_v27, Cert.QPrepRefIdeal.Read.val_main_v26]
  exact congrArg (fun k => X (ix2 ⟨b * 8192 + s, by omega⟩ k)) (Fin.ext (by show 10240 + ((g : ℕ) * 512 + h * 128 + j) = 10240 + (((g : ℕ) * 4 + h) * 128 + j); omega))

/-- The normed queries. -/
theorem ref40_at (X : FVec Ideal S16896x17408 .f32) (W : FVec Ideal S128 .f32) (b : Fin 2) (s : Fin 8192) (g h : Fin 4) (j : Fin 128) :
    Cert.QPrepRefIdeal.Read.val_main_v40 (F := Ideal) X W (ix5 b s g h j)
      = normed (fun k => Cert.QPrepRefIdeal.Read.val_main_v27 (F := Ideal) X (ix5 b s g h k)) (fun k => W (ix1 k)) j := by
  unfold normed
  simp only [Cert.QPrepRefIdeal.Read.val_main_v40, Cert.QPrepRefIdeal.Read.val_main_v39, Cert.QPrepRefIdeal.Read.val_main_v38, Cert.QPrepRefIdeal.Read.val_main_v37, Cert.QPrepRefIdeal.Read.val_main_v36, Cert.QPrepRefIdeal.Read.val_main_v35, Cert.QPrepRefIdeal.Read.val_main_v34, Cert.QPrepRefIdeal.Read.val_main_v33, Cert.QPrepRefIdeal.Read.val_main_cst_3, Cert.QPrepRefIdeal.Read.val_main_v32, Cert.QPrepRefIdeal.Read.val_main_v31, Cert.QPrepRefIdeal.Read.val_main_cst_2, Cert.QPrepRefIdeal.Read.val_main_v30, Cert.QPrepRefIdeal.Read.val_main_v29, Cert.QPrepRefIdeal.Read.val_main_cst_1, Cert.QPrepRefIdeal.Read.val_main_v28]
  generalize Cert.QPrepRefIdeal.Read.val_main_v27 (F := Ideal) X = x
  pointwise

/-- The half-turned queries: minus the entry 32 places further in the first halves, the entry 32 places back in the
    second. -/
theorem ref50_at (X : FVec Ideal S16896x17408 .f32) (W : FVec Ideal S128 .f32) (b : Fin 2) (s : Fin 8192) (g h : Fin 4) (j : Fin 128) :
    Cert.QPrepRefIdeal.Read.val_main_v50 (F := Ideal) X W (ix5 b s g h j)
      = if (j : ℕ) % 64 < 32 then - Cert.QPrepRefIdeal.Read.val_main_v40 (F := Ideal) X W (ix5 b s g h (fwd j))
        else Cert.QPrepRefIdeal.Read.val_main_v40 (F := Ideal) X W (ix5 b s g h (bck j)) := by
  simp only [Cert.QPrepRefIdeal.Read.val_main_v50, Cert.QPrepRefIdeal.Read.val_main_v49, Cert.QPrepRefIdeal.Read.val_main_v48, Cert.QPrepRefIdeal.Read.val_main_v47, Cert.QPrepRefIdeal.Read.val_main_v46, Cert.QPrepRefIdeal.Read.val_main_v45, Cert.QPrepRefIdeal.Read.val_main_v44, Cert.QPrepRefIdeal.Read.val_main_v43, Cert.QPrepRefIdeal.Read.val_main_v42, Cert.QPrepRefIdeal.Read.val_main_v41]
  generalize Cert.QPrepRefIdeal.Read.val_main_v40 (F := Ideal) X W = x
  unfold fwd bck
  split_ifs with hj
  · pointwise
    rw [dif_pos (by omega)]
    exact congrArg (fun k => - x (ix5 b s g h k)) (Fin.ext (by show (j : ℕ) / 64 * 64 + 32 + (j : ℕ) % 32 = ((j : ℕ) + 128 - 96) % 128; omega))
  · pointwise
    rw [dif_neg (by omega)]
    exact congrArg (fun k => x (ix5 b s g h k)) (Fin.ext (by show (j : ℕ) / 64 * 64 + (j : ℕ) % 32 = ((j : ℕ) + 128 - 32) % 128; omega))

/-- The cosines spread over batches and heads. -/
theorem ref53_at (b : Fin 2) (s : Fin 8192) (g h : Fin 4) (j : Fin 128) :
    Cert.QPrepRefIdeal.Read.val_main_v53 (F := Ideal) (ix5 b s g h j) = Cert.QPrepRefIdeal.Read.val_main_v24 (F := Ideal) (ix2 s j) := by
  simp only [Cert.QPrepRefIdeal.Read.val_main_v53, Cert.QPrepRefIdeal.Read.val_main_v52, Cert.QPrepRefIdeal.Read.val_main_v51]
  generalize Cert.QPrepRefIdeal.Read.val_main_v24 (F := Ideal) = c
  pointwise

/-- The sines spread over batches and heads. -/
theorem ref57_at (b : Fin 2) (s : Fin 8192) (g h : Fin 4) (j : Fin 128) :
    Cert.QPrepRefIdeal.Read.val_main_v57 (F := Ideal) (ix5 b s g h j) = Cert.QPrepRefIdeal.Read.val_main_v25 (F := Ideal) (ix2 s j) := by
  simp only [Cert.QPrepRefIdeal.Read.val_main_v57, Cert.QPrepRefIdeal.Read.val_main_v56, Cert.QPrepRefIdeal.Read.val_main_v55]
  generalize Cert.QPrepRefIdeal.Read.val_main_v25 (F := Ideal) = c
  pointwise

/-- The turned and scaled queries. -/
theorem ref61_at (X : FVec Ideal S16896x17408 .f32) (W : FVec Ideal S128 .f32) (b : Fin 2) (s : Fin 8192) (g h : Fin 4) (j : Fin 128) :
    Cert.QPrepRefIdeal.Read.val_main_v61 (F := Ideal) X W (ix5 b s g h j)
      = (Cert.QPrepRefIdeal.Read.val_main_v40 (F := Ideal) X W (ix5 b s g h j) * COS (ix2 s j) + Cert.QPrepRefIdeal.Read.val_main_v50 (F := Ideal) X W (ix5 b s g h j) * SIN (ix2 s j)) * SCALE := by
  rw [Cert.QPrepRefIdeal.Read.val_main_v61_apply, Cert.QPrepRefIdeal.Read.val_main_v59_apply, Cert.QPrepRefIdeal.Read.val_main_v54_apply, Cert.QPrepRefIdeal.Read.val_main_v58_apply, ref53_at, ref57_at, Cert.QPrepRefIdeal.Read.val_main_v60_apply,
    Cert.QPrepRefIdeal.Read.val_main_cst_4_apply]
  rfl

/-- The turned head as the kernel forms them: with the tables' entries the half-turned entry times the sine is the sum of
    the two products, one of which is with zero. -/
theorem turned_eq (n : Fin 128 → EReal) (q : Fin 128) (c s : EReal) :
    turned n q c (if (q : ℕ) % 64 < 32 then -s else 0) (if (q : ℕ) % 64 < 32 then 0 else s)
      = n q * c + (if (q : ℕ) % 64 < 32 then - n (fwd q) else n (bck q)) * s := by
  unfold turned
  split_ifs
  · rw [mul_zero, add_zero, mul_neg, neg_mul]
  · rw [mul_zero, add_zero]

/-- The result as an array over the rows. -/
theorem ref62_at (X : FVec Ideal S16896x17408 .f32) (W : FVec Ideal S128 .f32) (i : Fin 16384) (K : Fin 16) (q : Fin 128) :
    Cert.QPrepRefIdeal.Read.val_main_v62 (F := Ideal) X W (ix2 i (col K q))
      = Cert.QPrepRefIdeal.Read.val_main_v61 (F := Ideal) X W (ix5 ⟨i / 8192, by omega⟩ ⟨i % 8192, by omega⟩ ⟨K / 4, by omega⟩ ⟨K % 4, by omega⟩ q) := by
  rw [Cert.QPrepRefIdeal.Read.val_main_v62_apply]
  refine congrArg _ (funext fun a => Fin.ext ?_)
  have := i.isLt; have := K.isLt; have := q.isLt
  match a with
  | ⟨0, _⟩ => show ((i : ℕ) * 2048 + (K * 128 + q)) / 16777216 = i / 8192; omega
  | ⟨1, _⟩ => show ((i : ℕ) * 2048 + (K * 128 + q)) / 2048 % 8192 = i % 8192; omega
  | ⟨2, _⟩ => show ((i : ℕ) * 2048 + (K * 128 + q)) / 512 % 4 = K / 4; omega
  | ⟨3, _⟩ => show ((i : ℕ) * 2048 + (K * 128 + q)) / 128 % 4 = K % 4; omega
  | ⟨4, _⟩ => show ((i : ℕ) * 2048 + (K * 128 + q)) % 128 = q; omega

/-- Two reads of the projection array agree when the rows and the columns are the same numbers. -/
theorem read_at (X : FVec Ideal S16896x17408 .f32) (a a' : Fin 16896) (ha : (a : ℕ) = a') (b b' : Fin 17408) (hb : (b : ℕ) = b') :
    X (ix2 a b) = X (ix2 a' b') := by
  rw [Fin.ext ha, Fin.ext hb]

/-- A row of the latents as a row of all rows. -/
def up (i : Fin 16384) : Fin 16896 := ⟨i, by omega⟩

/-- The reference's result at row `i`, column `q` of head `K`: the turned and scaled norm of the head, with the tables'
    entries there. -/
theorem ref_at (X : FVec Ideal S16896x17408 .f32) (W : FVec Ideal S128 .f32) (i : Fin 16384) (K : Fin 16) (q : Fin 128) :
    Cert.QPrepRefIdeal.Read.val_main_v63 (F := Ideal) X W (ix2 i (col K q))
      = turned (normed (fun k => X (ix2 (up i) ⟨10240 + (K * 128 + k), by omega⟩)) (fun k => W (ix1 k))) q
          (TAB COS 0x3F800000#32 (ix2 (up i) q)) (TAB UP 0x00000000#32 (ix2 (up i) q)) (TAB DN 0x00000000#32 (ix2 (up i) q)) * SCALE := by
  have h : ((up i : Fin 16896) : ℕ) < 16384 := i.isLt
  rw [TAB_at, TAB_at, TAB_at, if_pos h, if_pos h, if_pos h, UP_at, DN_at, turned_eq]
  have e : ∀ k, Cert.QPrepRefIdeal.Read.val_main_v40 (F := Ideal) X W (ix5 ⟨i / 8192, by omega⟩ ⟨i % 8192, by omega⟩ ⟨K / 4, by omega⟩ ⟨K % 4, by omega⟩ k)
      = normed (fun k => X (ix2 (up i) ⟨10240 + (K * 128 + k), by omega⟩)) (fun k => W (ix1 k)) k := fun k =>
    (ref40_at X W _ _ _ _ k).trans (congrFun (normed_congr (fun l => (ref27_at X _ _ _ _ l).trans
      (read_at X _ _ (by show (i : ℕ) / 8192 * 8192 + (i : ℕ) % 8192 = i; omega) _ _
        (by show 10240 + (((K : ℕ) / 4 * 4 + (K : ℕ) % 4) * 128 + l) = 10240 + ((K : ℕ) * 128 + l); omega))) (fun _ => rfl)) k)
  refine (Cert.QPrepRefIdeal.Read.val_main_v63_apply (F := Ideal) X W (ix2 i (col K q))).trans ((ref62_at X W i K q).trans ((ref61_at X W _ _ _ _ q).trans ?_))
  rw [ref50_at, e, e, e]
  rfl

/-! ### The run -/

/-- Which block of its array each window holds at point `t`: row block `t`; the queries' columns are column block 5. -/
theorem idx : ∀ t : Fin cfg0.N, win0_0.index t = ![t.val, 5] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The grid has 64 points. -/
theorem lt_N (t : Fin cfg0.N) : (t : ℕ) < 64 := lt_of_lt_of_eq t.isLt (by decide)

/-- The row of the result that row `p` of row block `t` is. -/
def row (t : Fin cfg0.N) (p : Fin 256) : Fin 16384 := ⟨t * 256 + p, by have := lt_N t; have := p.isLt; omega⟩

/-- Where position `y` of the result's block `t` sits in the array. -/
theorem emb5 (t : Fin cfg0.N) (y : S256x2048.Idx) : (((cfg0.win 5).blk t).view.emb y : S16384x2048.Idx) = ix2 (row t (y 0)) (y 1) := by
  blk_ext [idx t, row]

/-- The queries' block `t` at row `p`, column `j`. -/
theorem blkX (c : Dev nD) (t : Fin cfg0.N) (p : Fin 256) (j : Fin 2048) :
    (X0_0 m c t : Vec Ideal S256x2048 .f32) (ix2 p j)
      = (m ((c : Thread nD τ).loc main_arg0) : FVec Ideal S16896x17408 .f32) (ix2 (up (row t p)) ⟨10240 + j, by omega⟩) := by
  have ht := lt_N t
  unfold X0_0 Pipeline.Window.fill
  rw [dif_pos (moved0_0 t _)]
  blk_ext [iblk, V_main_arg0, idx t, row, up]

/-- The norm's weight block at column `j`. -/
theorem blkN (c : Dev nD) (t : Fin cfg0.N) (j : Fin 128) :
    (iblk m c 1 t : Vec Ideal S1x128 .f32) (ix2 0 j) = (m ((c : Thread nD τ).loc main_arg1) : FVec Ideal S128 .f32) (ix1 j) := by
  refine Eq.trans (b := V m c main_v48 (ix2 0 j)) ?_ ((congrFun (norm_eq m c) (ix2 0 j)).trans ?_)
  · blk_ext [iblk, idx t]
  · generalize (m ((c : Thread nD τ).loc main_arg1) : FVec Ideal S128 .f32) = x
    pointwise

/-- The cosine table's block `t` at row `p`, column `j`. -/
theorem blkC (c : Dev nD) (t : Fin cfg0.N) (p : Fin 256) (j : Fin 128) :
    (iblk m c 2 t : Vec Ideal S256x128 .f32) (ix2 p j) = TAB COS 0x3F800000#32 (ix2 (up (row t p)) j) := by
  have ht := lt_N t
  refine Eq.trans (b := V m c main_v37 (ix2 (up (row t p)) j)) ?_ (congrFun (tabC m c) (ix2 (up (row t p)) j))
  blk_ext [iblk, idx t, row, up]

/-- The first sine table's block `t` at row `p`, column `j`. -/
theorem blkU (c : Dev nD) (t : Fin cfg0.N) (p : Fin 256) (j : Fin 128) :
    (iblk m c 3 t : Vec Ideal S256x128 .f32) (ix2 p j) = TAB UP 0x00000000#32 (ix2 (up (row t p)) j) := by
  have ht := lt_N t
  refine Eq.trans (b := V m c main_v42 (ix2 (up (row t p)) j)) ?_ (congrFun (tabU m c) (ix2 (up (row t p)) j))
  blk_ext [iblk, idx t, row, up]

/-- The second sine table's block `t` at row `p`, column `j`. -/
theorem blkD (c : Dev nD) (t : Fin cfg0.N) (p : Fin 256) (j : Fin 128) :
    (iblk m c 4 t : Vec Ideal S256x128 .f32) (ix2 p j) = TAB DN 0x00000000#32 (ix2 (up (row t p)) j) := by
  have ht := lt_N t
  refine Eq.trans (b := V m c main_v47 (ix2 (up (row t p)) j)) ?_ (congrFun (tabD m c) (ix2 (up (row t p)) j))
  blk_ext [iblk, idx t, row, up]

/-- The reference's result as a function of the two arguments. -/
def REF (c : Dev nD) : FVec Ideal S16384x2048 .bf16 :=
  Cert.QPrepRefIdeal.Read.val_main_v63 (F := Ideal) (m ((c : Thread nD τ).loc main_arg0)) (m ((c : Thread nD τ).loc main_arg1))

/-- The head a column lies in. -/
def grp (j : Fin 2048) : Fin 16 := ⟨j / 128, by omega⟩

/-- A column's place within its head. -/
def plc (j : Fin 2048) : Fin 128 := ⟨j % 128, by omega⟩

/-- A column is its place within its head. -/
theorem col_eq (j : Fin 2048) : col (grp j) (plc j) = j := Fin.ext (by show (j : ℕ) / 128 * 128 + (j : ℕ) % 128 = j; omega)

/-- What the body stores at position `y` of block `t` is the reference's result at the array position `y` sits at. -/
theorem point (c : Dev nD) (t : Fin cfg0.N) (y : S256x2048.Idx) : outsAt0 m c t y = REF m c (ix2 (row t (y 0)) (y 1)) := by
  unfold outsAt0
  refine (out_eq c _ _ _ _ _ _ _ _ _ _ _ _ _ _ _ _ _ _ y (grp (y 1)) (y 0) (plc (y 1)) rfl ?_).trans (Eq.trans ?_
    ((ref_at _ _ (row t (y 0)) (grp (y 1)) (plc (y 1))).symm.trans (congrArg (fun j => REF m c (ix2 (row t (y 0)) j)) (col_eq (y 1)))))
  · show (y 1).val = (y 1).val / 128 * 128 + (y 1).val % 128; omega
  · exact congrArg (· * SCALE) (turned_congr (normed_congr (fun k => blkX m c t _ _) (fun k => blkN m c t k)) (blkC m c t _ _) (blkU m c t _ _)
      (blkD m c t _ _) _)

/-- The result array after the run is the reference's. -/
theorem final (c : Dev nD) : (dats m 0 c).arrAt 5 (cfgs 0).N = REF m c := by
  refine (dats m 0 c).arrAt_eq_of_covers 5 _ (by decide +kernel) fun t _ y => ?_
  blk_simp
  rw [after0_5]
  exact (point m c t y).trans (congrArg (REF m c) (emb5 t y).symm)

end Cert.QPrepIdeal.Tile

end
-- ==== Proof.Lead.lean ====
/-
  Reading a gather along the leading axis: `x[idx]` of an array `x` and a vector of positions. Entry `(r, …)` of the
  result is entry `(idx r, …)` of `x`, the position read as a signed integer and kept inside the array.
-/
module

public import Idealize.ShloMosaic.Lib.ValueIdx

@[expose] public section

namespace Cert.Lead

open Idealize.ShloMosaic Idealize.ShloMosaic.ValueIdx

variable {α : Type}

/-- A gather of matrices: entry `(r, a, b)` is entry `(idx r, a, b)` of the operand. -/
theorem mats {N A B R : Nat} (hN : 0 < N)
    (wf : GatherDims.WF ⟨3, ![N, A, B]⟩ ⟨2, ![R, 1]⟩ ⟨3, ![R, A, B]⟩ [1, 2] [0] [] [0] [] 1 ![1, A, B])
    (d : GatherDims ⟨3, ![N, A, B]⟩ ⟨2, ![R, 1]⟩ ⟨3, ![R, A, B]⟩)
    (hd : d = ⟨[1, 2], [0], [], [], [0], 1, ![1, A, B], wf⟩)
    (x : (⟨3, ![N, A, B]⟩ : Shape).Idx → α) (idx : IVec ⟨2, ![R, 1]⟩ 32) (r : Fin R) (a : Fin A) (b : Fin B) :
    Host.gather d x idx (ix3 r a b) = x (ix3 ⟨min (idx (ix2 r 0)).toInt.toNat (N - 1), by omega⟩ a b) := by
  subst hd
  unfold Host.gather
  congr 1
  funext e
  refine Fin.ext ?_
  show GatherDims.start _ _ _ e + GatherDims.batchCoord _ _ e + GatherDims.offCoord _ _ e = _
  rw [GatherDims.batchCoord_eq_zero _ _ _ List.not_mem_nil, Nat.add_zero]
  match e with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    refine congrArg (fun z => min (BitVec.toInt (idx z)).toNat (N - 1)) ?_
    funext c; refine Fin.ext ?_
    match c with
    | ⟨0, _⟩ => rfl
    | ⟨1, _⟩ => rfl
  | ⟨1, _⟩ =>
    unfold GatherDims.start
    rw [dif_neg (by simp), Nat.zero_add]
    rfl
  | ⟨2, _⟩ =>
    unfold GatherDims.start
    rw [dif_neg (by simp), Nat.zero_add]
    rfl

/-- A gather of rows: entry `(r, b)` is entry `(idx r, b)` of the operand. -/
theorem rows {N B R : Nat} (hN : 0 < N)
    (wf : GatherDims.WF ⟨2, ![N, B]⟩ ⟨2, ![R, 1]⟩ ⟨2, ![R, B]⟩ [1] [0] [] [0] [] 1 ![1, B])
    (d : GatherDims ⟨2, ![N, B]⟩ ⟨2, ![R, 1]⟩ ⟨2, ![R, B]⟩)
    (hd : d = ⟨[1], [0], [], [], [0], 1, ![1, B], wf⟩)
    (x : (⟨2, ![N, B]⟩ : Shape).Idx → α) (idx : IVec ⟨2, ![R, 1]⟩ 32) (r : Fin R) (b : Fin B) :
    Host.gather d x idx (ix2 r b) = x (ix2 ⟨min (idx (ix2 r 0)).toInt.toNat (N - 1), by omega⟩ b) := by
  subst hd
  unfold Host.gather
  congr 1
  funext e
  refine Fin.ext ?_
  show GatherDims.start _ _ _ e + GatherDims.batchCoord _ _ e + GatherDims.offCoord _ _ e = _
  rw [GatherDims.batchCoord_eq_zero _ _ _ List.not_mem_nil, Nat.add_zero]
  match e with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    refine congrArg (fun z => min (BitVec.toInt (idx z)).toNat (N - 1)) ?_
    funext c; refine Fin.ext ?_
    match c with
    | ⟨0, _⟩ => rfl
    | ⟨1, _⟩ => rfl
  | ⟨1, _⟩ =>
    unfold GatherDims.start
    rw [dif_neg (by simp), Nat.zero_add]
    rfl

/-- A position word that is at least 0 and below `n` (read signed) is its natural number. -/
theorem word_range (w : BitVec 32) (n : Nat) (hn : n < 2 ^ 31) (h0 : IntOp.cmpi .sge w 0#32 = 1#1)
    (h1 : IntOp.cmpi .slt w (BitVec.ofNat 32 n) = 1#1) : w.toNat < n ∧ w.toInt = w.toNat := by
  have ofBool_eq_one (p : Bool) : (BitVec.ofBool p = 1#1) ↔ p = true := by cases p <;> decide
  simp only [IntOp.cmpi, ofBool_eq_one, BitVec.sle_eq_decide, BitVec.slt_eq_decide, decide_eq_true_eq] at h0 h1
  have hz : (0#32).toInt = 0 := by decide
  have hi : (BitVec.ofNat 32 n).toInt = n := by
    rw [BitVec.toInt_eq_toNat_cond, BitVec.toNat_ofNat, Nat.mod_eq_of_lt (by omega), if_pos (by omega)]
  rw [hz] at h0; rw [hi] at h1
  rw [BitVec.toInt_eq_toNat_cond] at h0 h1 ⊢
  have := w.isLt
  split_ifs at h0 h1 ⊢ <;> omega

/-- Picking `w + n` for a negative position and `w` otherwise leaves a position in range as it is. -/
theorem wrap_eq (w b : BitVec 32) (h : w.toInt = w.toNat) :
    Scalar.select (IntOp.cmpi .slt w 0#32) b w = w := by
  have : IntOp.cmpi .slt w 0#32 = 0#1 := by
    have hz : (0#32).toInt = 0 := by decide
    simp only [IntOp.cmpi, BitVec.slt_eq_decide, hz, h]
    rw [decide_eq_false (by omega)]; rfl
  rw [this]; rfl

end Cert.Lead
-- ==== Proof.UpTable.lean ====
/-
  The experts' table of the up product: the word that names the expert of every block of rows. Under the stated
  precondition the words lie in the range of the experts, so every block the kernel fetches lies in its array.
-/
module

public import proofs.«01_k».proof.Defs
public import proofs.«01_k».proof.Proof.Gen.Up.Frame
public import proofs.«01_k».proof.Proof.Gen.UpIdeal.Frame
public import proofs.«01_k».proof.Proof.Gen.Pre_up_experts_named
public import proofs.«01_k».proof.Proof.Lead
public import Idealize.ShloMosaic.Lib.Pipeline.ValueKit
public import Idealize.ShloMosaic.Lib.Affine

@[expose] public section

set_option maxRecDepth 16384

noncomputable section

open Idealize.ShloMosaic Idealize.ShloMosaic.TcCoe Idealize.SL.Sem

namespace Cert.Up.Table

open Cert.Up Cert.Up.Gen

/-- The word an index map reads at grid point `i`: the table's entry of the point's row block. -/
theorem word_at (pf : pre0.Contents (Elt Bits)) (i : grid0.Coords) :
    pf.at 0 (Rect.unit (s := S288) (k0_off1 i) S1.size (k0_off1_inb i)) numel1_S1 = pf 0 (ix1 ⟨(i 1).val, (i 1).isLt⟩) := by
  refine congrArg (pf 0) (funext fun a => Fin.ext ?_)
  have hi : (i 1).val < 288 := (i 1).isLt
  match a with
  | ⟨0, _⟩ =>
    refine (ValueKit.rect_emb_unit_val (s := S288) _ _ _ _ _).trans ?_
    show (BitVec.ofNat 32 (i 1).val).toNat + _ = (i 1).val
    rw [BitVec.toNat_ofNat, Nat.mod_eq_of_lt (by omega)]
    exact Nat.add_zero _

/-- The block index map 1: the expert of the row block, then 0, then the column block. -/
theorem map1 (pf : pre0.Contents (Elt Bits)) (i : grid0.Coords) :
    cc0_transform_1 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_1
  funext a
  match a with
  | ⟨0, _⟩ => rfl
  | ⟨1, _⟩ => rfl
  | ⟨2, _⟩ => exact e

/-- The block index map 2: the expert of the row block, then 0, then the column block. -/
theorem map2 (pf : pre0.Contents (Elt Bits)) (i : grid0.Coords) :
    cc0_transform_2 k0_off1_inb numel1_S1 pf i = ![(pf 0 (ix1 ⟨(i 1).val, (i 1).isLt⟩)).toNat, 0, 2 + (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_2
  funext a
  match a with
  | ⟨0, _⟩ => rfl
  | ⟨1, _⟩ => rfl
  | ⟨2, _⟩ => show (IntOp.addi (2#32) (BitVec.ofNat 32 (i 0).val)).toNat = _; (first | (show ((2#32) + BitVec.ofNat 32 (i 0).val).toNat = _; rw [BitVec.toNat_add, e]; have : (2#32).toNat = 2 := rfl; rw [this]; show _ = 2 + (i 0).val; omega))

/-- The block index map 3: the expert of the row block, then 0, then the column block. -/
theorem map3 (pf : pre0.Contents (Elt Bits)) (i : grid0.Coords) :
    cc0_transform_3 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_3
  funext a
  match a with
  | ⟨0, _⟩ => rfl
  | ⟨1, _⟩ => rfl
  | ⟨2, _⟩ => exact e

/-- The block index map 4: the expert of the row block, then 0, then the column block. -/
theorem map4 (pf : pre0.Contents (Elt Bits)) (i : grid0.Coords) :
    cc0_transform_4 k0_off1_inb numel1_S1 pf i = ![(pf 0 (ix1 ⟨(i 1).val, (i 1).isLt⟩)).toNat, 0, 2 + (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_4
  funext a
  match a with
  | ⟨0, _⟩ => rfl
  | ⟨1, _⟩ => rfl
  | ⟨2, _⟩ => show (IntOp.addi (2#32) (BitVec.ofNat 32 (i 0).val)).toNat = _; (first | (show ((2#32) + BitVec.ofNat 32 (i 0).val).toNat = _; rw [BitVec.toNat_add, e]; have : (2#32).toNat = 2 := rfl; rw [this]; show _ = 2 + (i 0).val; omega))

/-- With every word of the table below the number of experts, every block the index maps name lies in its array. -/
theorem ok (m : (ℓ : Loc nD τ sig) → Buf (Elt Bits) ℓ) (h : ∀ x, (tbl m 0 x).toNat < 32) : Ok m := by
  have hi0 : ∀ i : grid0.Coords, (i 0).val < 2 := fun i => (i 0).isLt
  refine ⟨fun i => ⟨?_, ?_⟩, fun i => ⟨?_, ?_⟩, fun i => ⟨?_, ?_⟩, fun i => ⟨?_, ?_⟩⟩
  · rw [map1]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 2048 ≤ 2048; omega
    | ⟨2, _⟩ => show (((i 0).val) + 1) * 1024 ≤ 4096; omega
  · exact .inr (Affine.block_words_dvd (of_decide_eq_true rfl) (by decide))
  · rw [map2]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 2048 ≤ 2048; omega
    | ⟨2, _⟩ => show ((2 + (i 0).val) + 1) * 1024 ≤ 4096; omega
  · exact .inr (Affine.block_words_dvd (of_decide_eq_true rfl) (by decide))
  · rw [map3]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 1 ≤ 1; omega
    | ⟨2, _⟩ => show (((i 0).val) + 1) * 1024 ≤ 4096; omega
  · exact .inl rfl
  · rw [map4]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 1 ≤ 1; omega
    | ⟨2, _⟩ => show ((2 + (i 0).val) + 1) * 1024 ≤ 4096; omega
  · exact .inl rfl

/-- The precondition says of every word that it lies in the range of the experts. -/
theorem range (m : (ℓ : Loc nD τ sig) → Buf (Elt Bits) ℓ) (h : Cert.Pre_Up m) (x : S288.Idx) :
    (m (((0 : Dev nD) : Thread nD τ).loc main_arg0) x).toNat < 32
      ∧ (m (((0 : Dev nD) : Thread nD τ).loc main_arg0) x).toInt = (m (((0 : Dev nD) : Thread nD τ).loc main_arg0) x).toNat := by
  have split : ∀ a b : BitVec 1, IntOp.andi a b = 1#1 → a = 1#1 ∧ b = 1#1 := by decide
  have e := congrFun (h 0) x
  simp only [Pre_up_experts_named.fn, andi, cmpi, broadcastInDim, constantI] at e
  obtain ⟨h0, h1⟩ := split _ _ e
  exact Cert.Lead.word_range _ 32 (by norm_num) h0 h1

/-- The precondition gives the side condition of the table. -/
theorem ok_of_pre (m : (ℓ : Loc nD τ sig) → Buf (Elt Bits) ℓ) (h : Cert.Pre_Up m) : Ok m :=
  ok m fun x => by
    have := (range m h x).1
    rwa [show tbl m 0 x = m (((0 : Dev nD) : Thread nD τ).loc main_arg0) x from congrFun (V_main_arg0 m 0) x]

end Cert.Up.Table

namespace Cert.UpIdeal.Table

open Cert.UpIdeal Cert.UpIdeal.Gen

/-- The word an index map reads at grid point `i`: the table's entry of the point's row block. -/
theorem word_at (pf : pre0.Contents (Elt Ideal)) (i : grid0.Coords) :
    pf.at 0 (Rect.unit (s := S288) (k0_off1 i) S1.size (k0_off1_inb i)) numel1_S1 = pf 0 (ix1 ⟨(i 1).val, (i 1).isLt⟩) := by
  refine congrArg (pf 0) (funext fun a => Fin.ext ?_)
  have hi : (i 1).val < 288 := (i 1).isLt
  match a with
  | ⟨0, _⟩ =>
    refine (ValueKit.rect_emb_unit_val (s := S288) _ _ _ _ _).trans ?_
    show (BitVec.ofNat 32 (i 1).val).toNat + _ = (i 1).val
    rw [BitVec.toNat_ofNat, Nat.mod_eq_of_lt (by omega)]
    exact Nat.add_zero _

/-- The block index map 1: the expert of the row block, then 0, then the column block. -/
theorem map1 (pf : pre0.Contents (Elt Ideal)) (i : grid0.Coords) :
    cc0_transform_1 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_1
  funext a
  match a with
  | ⟨0, _⟩ => rfl
  | ⟨1, _⟩ => rfl
  | ⟨2, _⟩ => exact e

/-- The block index map 2: the expert of the row block, then 0, then the column block. -/
theorem map2 (pf : pre0.Contents (Elt Ideal)) (i : grid0.Coords) :
    cc0_transform_2 k0_off1_inb numel1_S1 pf i = ![(pf 0 (ix1 ⟨(i 1).val, (i 1).isLt⟩)).toNat, 0, 2 + (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_2
  funext a
  match a with
  | ⟨0, _⟩ => rfl
  | ⟨1, _⟩ => rfl
  | ⟨2, _⟩ => show (IntOp.addi (2#32) (BitVec.ofNat 32 (i 0).val)).toNat = _; (first | (show ((2#32) + BitVec.ofNat 32 (i 0).val).toNat = _; rw [BitVec.toNat_add, e]; have : (2#32).toNat = 2 := rfl; rw [this]; show _ = 2 + (i 0).val; omega))

/-- The block index map 3: the expert of the row block, then 0, then the column block. -/
theorem map3 (pf : pre0.Contents (Elt Ideal)) (i : grid0.Coords) :
    cc0_transform_3 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_3
  funext a
  match a with
  | ⟨0, _⟩ => rfl
  | ⟨1, _⟩ => rfl
  | ⟨2, _⟩ => exact e

/-- The block index map 4: the expert of the row block, then 0, then the column block. -/
theorem map4 (pf : pre0.Contents (Elt Ideal)) (i : grid0.Coords) :
    cc0_transform_4 k0_off1_inb numel1_S1 pf i = ![(pf 0 (ix1 ⟨(i 1).val, (i 1).isLt⟩)).toNat, 0, 2 + (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_4
  funext a
  match a with
  | ⟨0, _⟩ => rfl
  | ⟨1, _⟩ => rfl
  | ⟨2, _⟩ => show (IntOp.addi (2#32) (BitVec.ofNat 32 (i 0).val)).toNat = _; (first | (show ((2#32) + BitVec.ofNat 32 (i 0).val).toNat = _; rw [BitVec.toNat_add, e]; have : (2#32).toNat = 2 := rfl; rw [this]; show _ = 2 + (i 0).val; omega))

/-- With every word of the table below the number of experts, every block the index maps name lies in its array. -/
theorem ok (m : (ℓ : Loc nD τ sig) → Buf (Elt Ideal) ℓ) (h : ∀ x, (tbl m 0 x).toNat < 32) : Ok m := by
  have hi0 : ∀ i : grid0.Coords, (i 0).val < 2 := fun i => (i 0).isLt
  refine ⟨fun i => ⟨?_, ?_⟩, fun i => ⟨?_, ?_⟩, fun i => ⟨?_, ?_⟩, fun i => ⟨?_, ?_⟩⟩
  · rw [map1]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 2048 ≤ 2048; omega
    | ⟨2, _⟩ => show (((i 0).val) + 1) * 1024 ≤ 4096; omega
  · exact .inr (Affine.block_words_dvd (of_decide_eq_true rfl) (by decide))
  · rw [map2]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 2048 ≤ 2048; omega
    | ⟨2, _⟩ => show ((2 + (i 0).val) + 1) * 1024 ≤ 4096; omega
  · exact .inr (Affine.block_words_dvd (of_decide_eq_true rfl) (by decide))
  · rw [map3]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 1 ≤ 1; omega
    | ⟨2, _⟩ => show (((i 0).val) + 1) * 1024 ≤ 4096; omega
  · exact .inl rfl
  · rw [map4]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 1 ≤ 1; omega
    | ⟨2, _⟩ => show ((2 + (i 0).val) + 1) * 1024 ≤ 4096; omega
  · exact .inl rfl

/-- The precondition says of every word that it lies in the range of the experts. -/
theorem range (m : (ℓ : Loc nD τ sig) → Buf (Elt Ideal) ℓ) (h : Cert.Pre_UpIdeal m) (x : S288.Idx) :
    (m (((0 : Dev nD) : Thread nD τ).loc main_arg0) x).toNat < 32
      ∧ (m (((0 : Dev nD) : Thread nD τ).loc main_arg0) x).toInt = (m (((0 : Dev nD) : Thread nD τ).loc main_arg0) x).toNat := by
  have split : ∀ a b : BitVec 1, IntOp.andi a b = 1#1 → a = 1#1 ∧ b = 1#1 := by decide
  have e := congrFun (h 0) x
  simp only [Pre_up_experts_named.fn, andi, cmpi, broadcastInDim, constantI] at e
  obtain ⟨h0, h1⟩ := split _ _ e
  exact Cert.Lead.word_range _ 32 (by norm_num) h0 h1

/-- The precondition gives the side condition of the table. -/
theorem ok_of_pre (m : (ℓ : Loc nD τ sig) → Buf (Elt Ideal) ℓ) (h : Cert.Pre_UpIdeal m) : Ok m :=
  ok m fun x => by
    have := (range m h x).1
    rwa [show tbl m 0 x = m (((0 : Dev nD) : Thread nD τ).loc main_arg0) x from congrFun (V_main_arg0 m 0) x]

end Cert.UpIdeal.Table

end
-- ==== Proof.UpValue.lean ====
/-
  The first product of the experts. Every grid point multiplies one block of 256 rows with 1024 gate columns and the 1024
  matching linear columns of the matrix of the expert the table names for the block, adds that expert's biases, and applies
  the experts' activation to the two. This file shows that the whole result array is the reference's term: the matrices
  gathered per block, one batched product, the gathered bias added, the two halves sliced and the activation applied.
-/
module

public import proofs.«01_k».proof.Proof.UpTable
public import proofs.«01_k».proof.Proof.Gen.UpRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpRefIdeal.At

open Cert.UpRefIdeal Cert.UpRefIdeal.Gen Cert.UpRefIdeal.Read

/-- The position the gathers read for block `b`: the table's word, unchanged when it is in range. -/
theorem pos (T : IVec S288 32) (b : Fin 288) (h : (T (ix1 b)).toInt = (T (ix1 b)).toNat) :
    val_main_v7 (F := Ideal) T (ix2 b 0) = T (ix1 b) ∧ val_main_v15 (F := Ideal) T (ix2 b 0) = T (ix1 b) := by
  have e7 : idx_main_v7 (ix2 b 0) = ix1 b := eq_ix1 _
  have e15 : idx_main_v15 (ix2 b 0) = ix1 b := eq_ix1 _
  constructor
  · rw [val_main_v7_apply, val_main_v6_apply, val_main_v3_apply, val_main_v2_apply, e7]
    exact Cert.Lead.wrap_eq _ _ h
  · rw [val_main_v15_apply, val_main_v14_apply, val_main_v11_apply, val_main_v10_apply, e15]
    exact Cert.Lead.wrap_eq _ _ h

/-- What the two halves of a row's product become: the gate clipped from above and multiplied with its sigmoid at 1.702,
    times one more than the linear half clipped from both sides. -/
def act (g u : Ideal .f32) : Ideal .f32 :=
  FloatOps.mulf (FloatOps.mulf (FloatOps.minimumf g (Scalar.ofBits .f32 0x40E00000#32))
      (FloatOps.hostDivf (Scalar.ofBits .f32 0x3F800000#32) (FloatOps.addf (Scalar.ofBits .f32 0x3F800000#32)
        (FloatOps.hostUnary .exp (FloatOps.hostNegf (FloatOps.mulf (Scalar.ofBits .f32 0x3FD9DB23#32)
          (FloatOps.minimumf g (Scalar.ofBits .f32 0x40E00000#32))))))))
    (FloatOps.addf (FloatOps.minimumf (Scalar.ofBits .f32 0x40E00000#32)
      (FloatOps.maximumf (Scalar.ofBits .f32 0xC0E00000#32) u)) (Scalar.ofBits .f32 0x3F800000#32))

/-- The biased product at block `b`, row `p` of the block, column `q`. -/
theorem prod_at (T : IVec S288 32) (X : FVec Ideal S73728x2048 .bf16) (W : FVec Ideal S32x2048x4096 .f32)
    (B : FVec Ideal S32x4096 .f32) (h : ∀ b : Fin 288, (T (ix1 b)).toNat < 32 ∧ (T (ix1 b)).toInt = (T (ix1 b)).toNat)
    (b : Fin 288) (p : Fin 256) (q : Fin 4096) (r : Fin 73728) (hr : (r : ℕ) = b * 256 + p) :
    val_main_v19 (F := Ideal) T X W B (ix3 b p q)
      = (∑ k : Fin 2048, X (ix2 r k) * W (ix3 ⟨(T (ix1 b)).toNat, (h b).1⟩ k q)) + B (ix2 ⟨(T (ix1 b)).toNat, (h b).1⟩ q) := by
  have hp := p.isLt
  have hmin : min (T (ix1 b)).toInt.toNat (32 - 1) = (T (ix1 b)).toNat := by
    have := h b; rw [this.2]; simp only [Int.toNat_natCast]; omega
  rw [val_main_v19_apply]
  refine congrArg₂ (fun x y : EReal => x + y) ?_ ?_
  · rw [val_main_v9_apply]
    refine Finset.sum_congr rfl fun k _ => congrArg₂ (fun x y : EReal => x * y) ?_ ?_
    · rw [val_main_v1_apply, val_main_v0_apply]
      refine congrArg X ?_
      funext a
      match a with
      | ⟨0, _⟩ => exact Fin.ext (by show (((b : ℕ) * 256 + p) * 2048 + k) / 2048 = r; omega)
      | ⟨1, _⟩ => exact Fin.ext (by show (((b : ℕ) * 256 + p) * 2048 + k) % 2048 = k; omega)
    · rw [show ridx_main_v9 (ix3 b p q) k = ix3 b k q from eq_ix3 _]
      unfold val_main_v8
      refine (Cert.Lead.mats (by norm_num) gather_S32x2048x4096_S288x1_S288x2048x4096_12_0_n_n_0_1_120484096_wf _ rfl _ _ b k q).trans ?_
      refine congrArg W ?_
      exact congrArg (fun z => ix3 z k q)
        (Fin.ext ((congrArg (fun w : BitVec 32 => min w.toInt.toNat (32 - 1)) (pos T b (h b).2).1).trans hmin))
  · rw [val_main_v18_apply, val_main_v17_apply, show idx_main_v17 (idx_main_v18 (ix3 b p q)) = ix2 b q from eq_ix2 _]
    unfold val_main_v16
    refine (Cert.Lead.rows (by norm_num) gather_S32x4096_S288x1_S288x4096_1_0_n_n_0_1_14096_wf _ rfl _ _ b q).trans ?_
    refine congrArg B ?_
    exact congrArg (fun z => ix2 z q)
      (Fin.ext ((congrArg (fun w : BitVec 32 => min w.toInt.toNat (32 - 1)) (pos T b (h b).2).2).trans hmin))

/-- The activation, entry by entry: it is taken of the product's entry and of the one 2048 columns further on. -/
theorem act_at (T : IVec S288 32) (X : FVec Ideal S73728x2048 .bf16) (W : FVec Ideal S32x2048x4096 .f32)
    (B : FVec Ideal S32x4096 .f32) (i : S288x256x2048.Idx) :
    val_main_v36 (F := Ideal) T X W B i
      = act (val_main_v19 (F := Ideal) T X W B (idx_main_v20 i)) (val_main_v19 (F := Ideal) T X W B (idx_main_v21 i)) := by
  rw [← val_main_v20_apply, ← val_main_v21_apply]
  rfl

/-- The reference's result at row `r`, column `q`: the activation of the two biased products of the row, with columns `q`
    and `2048 + q` of the matrix of the row's expert. -/
theorem at_ix (T : IVec S288 32) (X : FVec Ideal S73728x2048 .bf16) (W : FVec Ideal S32x2048x4096 .f32)
    (B : FVec Ideal S32x4096 .f32) (h : ∀ b : Fin 288, (T (ix1 b)).toNat < 32 ∧ (T (ix1 b)).toInt = (T (ix1 b)).toNat)
    (r : Fin 73728) (q : Fin 2048) (b : Fin 288) (hb : (b : ℕ) = r / 256) (q0 q1 : Fin 4096) (h0 : (q0 : ℕ) = q)
    (h1 : (q1 : ℕ) = 2048 + q) :
    val_main_v38 (F := Ideal) T X W B (ix2 r q)
      = act ((∑ k : Fin 2048, X (ix2 r k) * W (ix3 ⟨(T (ix1 b)).toNat, (h b).1⟩ k q0)) + B (ix2 ⟨(T (ix1 b)).toNat, (h b).1⟩ q0))
          ((∑ k : Fin 2048, X (ix2 r k) * W (ix3 ⟨(T (ix1 b)).toNat, (h b).1⟩ k q1)) + B (ix2 ⟨(T (ix1 b)).toNat, (h b).1⟩ q1)) := by
  have hr := r.isLt
  have hq := q.isLt
  have e37 : idx_main_v37 (ix2 r q) = ix3 b (⟨r % 256, by omega⟩ : Fin 256) q := by
    funext a
    match a with
    | ⟨0, _⟩ => exact Fin.ext (by show ((r : ℕ) * 2048 + q) / 524288 = b; omega)
    | ⟨1, _⟩ => exact Fin.ext (by show ((r : ℕ) * 2048 + q) / 2048 % 256 = r % 256; omega)
    | ⟨2, _⟩ => exact Fin.ext (by show ((r : ℕ) * 2048 + q) % 2048 = q; omega)
  have e0 : idx_main_v20 (ix3 b (⟨r % 256, by omega⟩ : Fin 256) q) = ix3 b (⟨r % 256, by omega⟩ : Fin 256) q0 := by
    refine (eq_ix3 _).trans (congrArg (ix3 b _) (Fin.ext h0.symm))
  have e1 : idx_main_v21 (ix3 b (⟨r % 256, by omega⟩ : Fin 256) q) = ix3 b (⟨r % 256, by omega⟩ : Fin 256) q1 := by
    refine (eq_ix3 _).trans (congrArg (ix3 b _) (Fin.ext h1.symm))
  refine Eq.trans (b := val_main_v36 (F := Ideal) T X W B (ix3 b (⟨r % 256, by omega⟩ : Fin 256) q)) ?_ ?_
  · rw [val_main_v38_apply, val_main_v37_apply, e37]
    rfl
  rw [act_at, e0, e1]
  have er : (r : ℕ) = b * 256 + (⟨r % 256, by omega⟩ : Fin 256) := by
    show (r : ℕ) = b * 256 + r % 256
    omega
  exact congrArg₂ act (prod_at T X W B h b _ q0 r er) (prod_at T X W B h b _ q1 r er)

end Cert.UpRefIdeal.At

namespace Cert.UpIdeal.Tile

open Cert.UpIdeal Cert.UpIdeal.Gen

variable (m : (ℓ : Loc nD τ sig) → Buf (Elt Ideal) ℓ)

/-- What the body stores at row `i`, column `j` of its tile: the activation of the two biased products. -/
theorem pay_at (x0 : FVec Ideal S256x2048 .bf16) (x1 x2 : FVec Ideal S1x2048x1024 .bf16) (x3 x4 : FVec Ideal S1x1x1024 .f32)
    (i : Fin 256) (j : Fin 1024) :
    k0_pay1 (F := Ideal) (k0_pay2 x0 x2 x4) (k0_pay3 x0 x1 x3) k0_pay4 (ix2 i j)
      = Cert.UpRefIdeal.At.act ((∑ k : Fin 2048, x0 (ix2 i k) * x1 (ix3 0 k j)) + x3 (ix3 0 0 j))
          ((∑ k : Fin 2048, x0 (ix2 i k) * x2 (ix3 0 k j)) + x4 (ix3 0 0 j)) := by
  pointwise [k0_pay1, k0_pay2, k0_pay3, k0_pay4, Cert.UpRefIdeal.At.act]
  simp only [zero_sub]

/-- The grid's coordinates at point `t`: the column block, then the row block. -/
theorem coords : ∀ t : Fin grid0.N, (grid0.coords t 0).val = t.val / 288 ∧ (grid0.coords t 1).val = t.val % 288 := by
  decide +kernel

/-- Which block of its array the rows' window and the result's window hold at point `t`. -/
theorem fixed : ∀ t : Fin grid0.N, cc0_transform_0 (grid0.coords t) = ![t.val % 288, 0]
    ∧ cc0_transform_5 (grid0.coords t) = ![t.val % 288, t.val / 288] := by
  decide +kernel

variable (hO : Ok m)

/-- The row block of point `t`. -/
def blk (t : Fin (cfgM m hO).N) : Fin 288 := ⟨t.val % 288, Nat.mod_lt _ (by norm_num)⟩

/-- The blocks the windows hold at point `t`: the rows' and the result's by the grid alone, the matrices' and the biases'
    by the table's word for the row block; the linear half lies two blocks further on. -/
theorem idx (t : Fin (cfgM m hO).N) : ((cfgM m hO).win 0).index t = ![t.val % 288, 0]
    ∧ ((cfgM m hO).win 1).index t = ![(tbl m 0 (ix1 (blk m hO t))).toNat, 0, t.val / 288]
    ∧ ((cfgM m hO).win 2).index t = ![(tbl m 0 (ix1 (blk m hO t))).toNat, 0, 2 + t.val / 288]
    ∧ ((cfgM m hO).win 3).index t = ![(tbl m 0 (ix1 (blk m hO t))).toNat, 0, t.val / 288]
    ∧ ((cfgM m hO).win 4).index t = ![(tbl m 0 (ix1 (blk m hO t))).toNat, 0, 2 + t.val / 288]
    ∧ ((cfgM m hO).win 5).index t = ![t.val % 288, t.val / 288] := by
  have e : (⟨(grid0.coords t 1).val, (grid0.coords t 1).isLt⟩ : Fin 288) = blk m hO t := Fin.ext (coords t).2
  refine ⟨(fixed t).1, ?_, ?_, ?_, ?_, (fixed t).2⟩
  · refine (Cert.UpIdeal.Table.map1 (tbl m) (grid0.coords t)).trans ?_
    rw [e, (coords t).1]
  · refine (Cert.UpIdeal.Table.map2 (tbl m) (grid0.coords t)).trans ?_
    rw [e, (coords t).1]
  · refine (Cert.UpIdeal.Table.map3 (tbl m) (grid0.coords t)).trans ?_
    rw [e, (coords t).1]
  · refine (Cert.UpIdeal.Table.map4 (tbl m) (grid0.coords t)).trans ?_
    rw [e, (coords t).1]

/-- The result's blocks cover its array: every pair of a row block and a column block is a point's. -/
theorem covers : ((cfgM m hO).win 5).Covers := by
  refine Pipeline.Window.covers_of_indexMap_surj _ rfl (by show ∀ a : Fin 2, 0 < S256x1024.size a; decide) fun β => ?_
  obtain ⟨b0, h0⟩ : ∃ b : Fin 288, (b : ℕ) = (β (0 : Fin 2)).val := ⟨⟨(β (0 : Fin 2)).val, lt_of_lt_of_eq (β (0 : Fin 2)).isLt (show (73728 + 256 - 1) / 256 = 288 by norm_num)⟩, rfl⟩
  obtain ⟨b1, h1⟩ : ∃ b : Fin 2, (b : ℕ) = (β (1 : Fin 2)).val := ⟨⟨(β (1 : Fin 2)).val, lt_of_lt_of_eq (β (1 : Fin 2)).isLt (show (2048 + 1024 - 1) / 1024 = 2 by norm_num)⟩, rfl⟩
  have l0 := b0.isLt
  have l1 := b1.isLt
  refine ⟨fun | ⟨0, _⟩ => b1 | ⟨1, _⟩ => b0, fun a => ?_⟩
  match a with
  | ⟨0, _⟩ =>
    refine Eq.trans ?_ h0
    show (BitVec.ofNat 32 b0.val).toNat = b0.val
    rw [BitVec.toNat_ofNat, Nat.mod_eq_of_lt (by omega)]
  | ⟨1, _⟩ =>
    refine Eq.trans ?_ h1
    show (BitVec.ofNat 32 b1.val).toNat = b1.val
    rw [BitVec.toNat_ofNat, Nat.mod_eq_of_lt (by omega)]

/-- What the region finds: the matrices as given, the bias with an axis of length one inserted. -/
theorem entry_w : V m 0 main_v0 = truncf (F := Ideal) .bf16 (m (((0 : Dev nD) : Thread nD τ).loc main_arg2)) bitsLt_bf16_f32 := by
  unfold V
  after_results <;> rfl
theorem entry_b : V m 0 main_v1 = shapeCast S32x1x4096 (m (((0 : Dev nD) : Thread nD τ).loc main_arg3) : FVec Ideal S32x4096 .f32) shapeCasts_S32x4096_S32x1x4096 := by
  unfold V
  after_results <;> rfl
theorem bias_at (e : Fin 32) (q : Fin 4096) : (V m 0 main_v1 : FVec Ideal S32x1x4096 .f32) (ix3 e 0 q)
    = (m (((0 : Dev nD) : Thread nD τ).loc main_arg3) : FVec Ideal S32x4096 .f32) (ix2 e q) := by
  refine (congrFun (entry_b m) _).trans ?_
  generalize (m (((0 : Dev nD) : Thread nD τ).loc main_arg3) : FVec Ideal S32x4096 .f32) = B
  pointwise

/-- What the body stores at position `y` of its tile is the reference's term at the array position `y` sits at. -/
theorem point (h : ∀ b : Fin 288, (tbl m 0 (ix1 b)).toNat < 32 ∧ (tbl m 0 (ix1 b)).toInt = (tbl m 0 (ix1 b)).toNat)
    (t : Fin (cfgM m hO).N) (y : S256x1024.Idx) :
    k0_pay1 (F := Ideal) (k0_pay2 (iblk m hO 0 0 t) (iblk m hO 0 2 t) (iblk m hO 0 4 t))
        (k0_pay3 (iblk m hO 0 0 t) (iblk m hO 0 1 t) (iblk m hO 0 3 t)) k0_pay4 y
      = Cert.UpRefIdeal.Read.val_main_v38 (F := Ideal) (tbl m 0) (m (((0 : Dev nD) : Thread nD τ).loc main_arg1))
          (m (((0 : Dev nD) : Thread nD τ).loc main_arg2)) (m (((0 : Dev nD) : Thread nD τ).loc main_arg3))
          ((((cfgM m hO).win 5).blk t).view.emb y) := by
  have ht : t.val < 576 := t.isLt
  obtain ⟨i, j, rfl⟩ : ∃ (i : Fin 256) (j : Fin 1024), y = ix2 i j := ⟨y 0, y 1, eq_ix2 _⟩
  have hi := i.isLt
  have hj := j.isLt
  have e : ((((cfgM m hO).win 5).blk t).view.emb (ix2 i j : S256x1024.Idx) : S73728x2048.Idx)
      = ix2 (⟨t.val % 288 * 256 + i.val, by omega⟩ : Fin 73728) (⟨t.val / 288 * 1024 + j.val, by omega⟩ : Fin 2048) := by
    blk_ext [(idx m hO t).2.2.2.2.2]
  refine Eq.trans (pay_at _ _ _ _ _ _ _) ?_
  refine Eq.trans ?_ (congrArg (Cert.UpRefIdeal.Read.val_main_v38 (F := Ideal) _ _ _ _) e).symm
  refine Eq.trans ?_ (Cert.UpRefIdeal.At.at_ix (tbl m 0) _ _ _ h _ _ (blk m hO t)
    (by show t.val % 288 = (t.val % 288 * 256 + i.val) / 256; omega)
    (⟨t.val / 288 * 1024 + j.val, by omega⟩ : Fin 4096) (⟨(2 + t.val / 288) * 1024 + j.val, by omega⟩ : Fin 4096) rfl
    (by show (2 + t.val / 288) * 1024 + j.val = 2048 + (t.val / 288 * 1024 + j.val); omega)).symm
  refine congrArg₂ Cert.UpRefIdeal.At.act
    (congrArg₂ (fun x y : EReal => x + y) (Finset.sum_congr rfl fun k _ => congrArg₂ (fun x y : EReal => x * y) ?_ ?_) ?_)
    (congrArg₂ (fun x y : EReal => x + y) (Finset.sum_congr rfl fun k _ => congrArg₂ (fun x y : EReal => x * y) ?_ ?_) ?_)
  · blk_ext [iblk, V_main_arg1, idx m hO t]
  · blk_ext [iblk, entry_w, idx m hO t]
  · refine Eq.trans ?_ (bias_at m _ _)
    blk_ext [iblk, idx m hO t]
  · blk_ext [iblk, V_main_arg1, idx m hO t]
  · blk_ext [iblk, entry_w, idx m hO t]
  · refine Eq.trans ?_ (bias_at m _ _)
    blk_ext [iblk, idx m hO t]

/-- What a run of the body leaves in the result's staging buffer, at any blocks. -/
theorem out_eq (c : Dev nD) (i : grid0.Coords) (a3 : Memref sig .tc .vmem S256x2048 .bf16) (h3 : a3.IsWhole)
    (a4 : Memref sig .tc .vmem S1x2048x1024 .bf16) (h4 : a4.IsWhole) (a5 : Memref sig .tc .vmem S1x2048x1024 .bf16) (h5 : a5.IsWhole)
    (a6 : Memref sig .tc .vmem S1x1x1024 .f32) (h6 : a6.IsWhole) (a7 : Memref sig .tc .vmem S1x1x1024 .f32) (h7 : a7.IsWhole)
    (a8 : Memref sig .tc .vmem S256x1024 .bf16) (h8 : a8.IsWhole) (x0 : Vec Ideal S256x2048 .bf16)
    (x1 x2 : Vec Ideal S1x2048x1024 .bf16) (x3 x4 : Vec Ideal S1x1x1024 .f32) (xt : TbBuf0 (F := Ideal) c tbM0_0) :
    out0_A_5 (F := Ideal) c i a3 h3 a4 h4 a5 h5 a6 h6 a7 h7 a8 h8 x0 x1 x2 x3 x4 xt
      = k0_pay1 (F := Ideal) (k0_pay2 x0 x2 x4) (k0_pay3 x0 x1 x3) k0_pay4 := by
  frame_out

/-- What the body leaves in the result's block at point `t`. -/
theorem after_eq (t : Fin (cfgM m hO).N) : (dats m hO 0 0).after 5 t
    = k0_pay1 (F := Ideal) (k0_pay2 (iblk m hO 0 0 t) (iblk m hO 0 2 t) (iblk m hO 0 4 t))
        (k0_pay3 (iblk m hO 0 0 t) (iblk m hO 0 1 t) (iblk m hO 0 3 t)) k0_pay4 := by
  rw [after0_5]
  exact out_eq _ _ _ _ _ _ _ _ _ _ _ _ _ _ _ _ _ _ _ _

/-- The result array after the run is the reference's term of the arguments. -/
theorem final (h : ∀ b : Fin 288, (tbl m 0 (ix1 b)).toNat < 32 ∧ (tbl m 0 (ix1 b)).toInt = (tbl m 0 (ix1 b)).toNat) (c : Dev nD) :
    (dats m hO 0 c).arrAt 5 (cfgM m hO).N
      = Cert.UpRefIdeal.Read.val_main_v38 (F := Ideal) (tbl m 0) (m ((c : Thread nD τ).loc main_arg1))
          (m ((c : Thread nD τ).loc main_arg2)) (m ((c : Thread nD τ).loc main_arg3)) := by
  obtain rfl : c = 0 := Subsingleton.elim _ _
  refine (dats m hO 0 0).arrAt_eq_of_covers 5 _ (covers m hO) fun t _ y => ?_
  blk_simp
  rw [after_eq]
  exact point m hO h t y

end Cert.UpIdeal.Tile

end
-- ==== Proof.DownTable.lean ====
/-
  The experts' table of the down product: the word that names the expert of every block of rows. Under the stated
  precondition the words lie in the range of the experts, so every block the kernel fetches lies in its array.
-/
module

public import proofs.«01_k».proof.Defs
public import proofs.«01_k».proof.Proof.Gen.Down.Frame
public import proofs.«01_k».proof.Proof.Gen.DownIdeal.Frame
public import proofs.«01_k».proof.Proof.Gen.Pre_down_experts_named
public import proofs.«01_k».proof.Proof.Lead
public import Idealize.ShloMosaic.Lib.Pipeline.ValueKit
public import Idealize.ShloMosaic.Lib.Affine

@[expose] public section

set_option maxRecDepth 16384

noncomputable section

open Idealize.ShloMosaic Idealize.ShloMosaic.TcCoe Idealize.SL.Sem

namespace Cert.Down.Table

open Cert.Down Cert.Down.Gen

/-- The word an index map reads at grid point `i`: the table's entry of the point's row block. -/
theorem word_at (pf : pre0.Contents (Elt Bits)) (i : grid0.Coords) :
    pf.at 0 (Rect.unit (s := S288) (k0_off1 i) S1.size (k0_off1_inb i)) numel1_S1 = pf 0 (ix1 ⟨(i 1).val, (i 1).isLt⟩) := by
  refine congrArg (pf 0) (funext fun a => Fin.ext ?_)
  have hi : (i 1).val < 288 := (i 1).isLt
  match a with
  | ⟨0, _⟩ =>
    refine (ValueKit.rect_emb_unit_val (s := S288) _ _ _ _ _).trans ?_
    show (BitVec.ofNat 32 (i 1).val).toNat + _ = (i 1).val
    rw [BitVec.toNat_ofNat, Nat.mod_eq_of_lt (by omega)]
    exact Nat.add_zero _

/-- The block index map 1: the expert of the row block, then 0, then the column block. -/
theorem map1 (pf : pre0.Contents (Elt Bits)) (i : grid0.Coords) :
    cc0_transform_1 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_1
  funext a
  match a with
  | ⟨0, _⟩ => rfl
  | ⟨1, _⟩ => rfl
  | ⟨2, _⟩ => exact e

/-- The block index map 2: the expert of the row block, then 0, then the column block. -/
theorem map2 (pf : pre0.Contents (Elt Bits)) (i : grid0.Coords) :
    cc0_transform_2 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_2
  funext a
  match a with
  | ⟨0, _⟩ => rfl
  | ⟨1, _⟩ => rfl
  | ⟨2, _⟩ => exact e

/-- With every word of the table below the number of experts, every block the index maps name lies in its array. -/
theorem ok (m : (ℓ : Loc nD τ sig) → Buf (Elt Bits) ℓ) (h : ∀ x, (tbl m 0 x).toNat < 32) : Ok m := by
  have hi0 : ∀ i : grid0.Coords, (i 0).val < 2 := fun i => (i 0).isLt
  refine ⟨fun i => ⟨?_, ?_⟩, fun i => ⟨?_, ?_⟩⟩
  · rw [map1]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 2048 ≤ 2048; omega
    | ⟨2, _⟩ => show (((i 0).val) + 1) * 1024 ≤ 2048; omega
  · exact .inr (Affine.block_words_dvd (of_decide_eq_true rfl) (by decide))
  · rw [map2]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 1 ≤ 1; omega
    | ⟨2, _⟩ => show (((i 0).val) + 1) * 1024 ≤ 2048; omega
  · exact .inl rfl

/-- The precondition says of every word that it lies in the range of the experts. -/
theorem range (m : (ℓ : Loc nD τ sig) → Buf (Elt Bits) ℓ) (h : Cert.Pre_Down m) (x : S288.Idx) :
    (m (((0 : Dev nD) : Thread nD τ).loc main_arg0) x).toNat < 32
      ∧ (m (((0 : Dev nD) : Thread nD τ).loc main_arg0) x).toInt = (m (((0 : Dev nD) : Thread nD τ).loc main_arg0) x).toNat := by
  have split : ∀ a b : BitVec 1, IntOp.andi a b = 1#1 → a = 1#1 ∧ b = 1#1 := by decide
  have e := congrFun (h 0) x
  simp only [Pre_down_experts_named.fn, andi, cmpi, broadcastInDim, constantI] at e
  obtain ⟨h0, h1⟩ := split _ _ e
  exact Cert.Lead.word_range _ 32 (by norm_num) h0 h1

/-- The precondition gives the side condition of the table. -/
theorem ok_of_pre (m : (ℓ : Loc nD τ sig) → Buf (Elt Bits) ℓ) (h : Cert.Pre_Down m) : Ok m :=
  ok m fun x => by
    have := (range m h x).1
    rwa [show tbl m 0 x = m (((0 : Dev nD) : Thread nD τ).loc main_arg0) x from congrFun (V_main_arg0 m 0) x]

end Cert.Down.Table

namespace Cert.DownIdeal.Table

open Cert.DownIdeal Cert.DownIdeal.Gen

/-- The word an index map reads at grid point `i`: the table's entry of the point's row block. -/
theorem word_at (pf : pre0.Contents (Elt Ideal)) (i : grid0.Coords) :
    pf.at 0 (Rect.unit (s := S288) (k0_off1 i) S1.size (k0_off1_inb i)) numel1_S1 = pf 0 (ix1 ⟨(i 1).val, (i 1).isLt⟩) := by
  refine congrArg (pf 0) (funext fun a => Fin.ext ?_)
  have hi : (i 1).val < 288 := (i 1).isLt
  match a with
  | ⟨0, _⟩ =>
    refine (ValueKit.rect_emb_unit_val (s := S288) _ _ _ _ _).trans ?_
    show (BitVec.ofNat 32 (i 1).val).toNat + _ = (i 1).val
    rw [BitVec.toNat_ofNat, Nat.mod_eq_of_lt (by omega)]
    exact Nat.add_zero _

/-- The block index map 1: the expert of the row block, then 0, then the column block. -/
theorem map1 (pf : pre0.Contents (Elt Ideal)) (i : grid0.Coords) :
    cc0_transform_1 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_1
  funext a
  match a with
  | ⟨0, _⟩ => rfl
  | ⟨1, _⟩ => rfl
  | ⟨2, _⟩ => exact e

/-- The block index map 2: the expert of the row block, then 0, then the column block. -/
theorem map2 (pf : pre0.Contents (Elt Ideal)) (i : grid0.Coords) :
    cc0_transform_2 k0_off1_inb numel1_S1 pf i = ![(pf 0 (ix1 ⟨(i 1).val, (i 1).isLt⟩)).toNat, 0, (i 0).val] := by
  have h0 : (i 0).val < 2 := (i 0).isLt
  have e : (BitVec.ofNat 32 (i 0).val).toNat = (i 0).val := by rw [BitVec.toNat_ofNat, Nat.mod_eq_of_lt (by omega)]
  rw [← word_at pf i]
  unfold cc0_transform_2
  funext a
  match a with
  | ⟨0, _⟩ => rfl
  | ⟨1, _⟩ => rfl
  | ⟨2, _⟩ => exact e

/-- With every word of the table below the number of experts, every block the index maps name lies in its array. -/
theorem ok (m : (ℓ : Loc nD τ sig) → Buf (Elt Ideal) ℓ) (h : ∀ x, (tbl m 0 x).toNat < 32) : Ok m := by
  have hi0 : ∀ i : grid0.Coords, (i 0).val < 2 := fun i => (i 0).isLt
  refine ⟨fun i => ⟨?_, ?_⟩, fun i => ⟨?_, ?_⟩⟩
  · rw [map1]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 2048 ≤ 2048; omega
    | ⟨2, _⟩ => show (((i 0).val) + 1) * 1024 ≤ 2048; omega
  · exact .inr (Affine.block_words_dvd (of_decide_eq_true rfl) (by decide))
  · rw [map2]
    intro a
    have := h (ix1 ⟨(i 1).val, (i 1).isLt⟩)
    have := hi0 i
    match a with
    | ⟨0, _⟩ => show ((tbl m 0 (ix1 ⟨(i 1).val, (i 1).isLt⟩)).toNat + 1) * 1 ≤ 32; omega
    | ⟨1, _⟩ => show (0 + 1) * 1 ≤ 1; omega
    | ⟨2, _⟩ => show (((i 0).val) + 1) * 1024 ≤ 2048; omega
  · exact .inl rfl

/-- The precondition says of every word that it lies in the range of the experts. -/
theorem range (m : (ℓ : Loc nD τ sig) → Buf (Elt Ideal) ℓ) (h : Cert.Pre_DownIdeal m) (x : S288.Idx) :
    (m (((0 : Dev nD) : Thread nD τ).loc main_arg0) x).toNat < 32
      ∧ (m (((0 : Dev nD) : Thread nD τ).loc main_arg0) x).toInt = (m (((0 : Dev nD) : Thread nD τ).loc main_arg0) x).toNat := by
  have split : ∀ a b : BitVec 1, IntOp.andi a b = 1#1 → a = 1#1 ∧ b = 1#1 := by decide
  have e := congrFun (h 0) x
  simp only [Pre_down_experts_named.fn, andi, cmpi, broadcastInDim, constantI] at e
  obtain ⟨h0, h1⟩ := split _ _ e
  exact Cert.Lead.word_range _ 32 (by norm_num) h0 h1

/-- The precondition gives the side condition of the table. -/
theorem ok_of_pre (m : (ℓ : Loc nD τ sig) → Buf (Elt Ideal) ℓ) (h : Cert.Pre_DownIdeal m) : Ok m :=
  ok m fun x => by
    have := (range m h x).1
    rwa [show tbl m 0 x = m (((0 : Dev nD) : Thread nD τ).loc main_arg0) x from congrFun (V_main_arg0 m 0) x]

end Cert.DownIdeal.Table

end
-- ==== Proof.DownValue.lean ====
/-
  The second product of the experts. Every grid point multiplies one block of 256 rows with 1024 columns of the matrix of
  the expert the table names for the block, and adds that expert's bias. This file shows that the whole result array is
  the reference's term: the experts' matrices gathered per block, one batched product, the gathered bias added.
-/
module

public import proofs.«01_k».proof.Proof.DownTable
public import proofs.«01_k».proof.Proof.Gen.DownRefIdeal.Read
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownRefIdeal.At

open Cert.DownRefIdeal Cert.DownRefIdeal.Gen Cert.DownRefIdeal.Read

/-- The position the gathers read for block `b`: the table's word, unchanged when it is in range. -/
theorem pos (T : IVec S288 32) (b : Fin 288) (h : (T (ix1 b)).toInt = (T (ix1 b)).toNat) :
    val_main_v7 (F := Ideal) T (ix2 b 0) = T (ix1 b) ∧ val_main_v15 (F := Ideal) T (ix2 b 0) = T (ix1 b) := by
  have e7 : idx_main_v7 (ix2 b 0) = ix1 b := eq_ix1 _
  have e15 : idx_main_v15 (ix2 b 0) = ix1 b := eq_ix1 _
  constructor
  · rw [val_main_v7_apply, val_main_v6_apply, val_main_v3_apply, val_main_v2_apply, e7]
    exact Cert.Lead.wrap_eq _ _ h
  · rw [val_main_v15_apply, val_main_v14_apply, val_main_v11_apply, val_main_v10_apply, e15]
    exact Cert.Lead.wrap_eq _ _ h

/-- The reference's result at row `r`, column `q`: the product of the row with the matrix of the row's expert, plus
    that expert's bias. -/
theorem at_ix (T : IVec S288 32) (X : FVec Ideal S73728x2048 .bf16) (W : FVec Ideal S32x2048x2048 .f32)
    (B : FVec Ideal S32x2048 .f32) (h : ∀ b : Fin 288, (T (ix1 b)).toNat < 32 ∧ (T (ix1 b)).toInt = (T (ix1 b)).toNat)
    (r : Fin 73728) (q : Fin 2048) (b : Fin 288) (hb : (b : ℕ) = r / 256) :
    val_main_v20 (F := Ideal) T X W B (ix2 r q)
      = (∑ k : Fin 2048, X (ix2 r k) * W (ix3 ⟨(T (ix1 b)).toNat, (h b).1⟩ k q)) + B (ix2 ⟨(T (ix1 b)).toNat, (h b).1⟩ q) := by
  have hr := r.isLt
  have hq := q.isLt
  have e20 : idx_main_v20 (ix2 r q) = ix3 b (⟨r % 256, by omega⟩ : Fin 256) q := by
    funext a
    match a with
    | ⟨0, _⟩ => exact Fin.ext (by show ((r : ℕ) * 2048 + q) / 524288 = b; omega)
    | ⟨1, _⟩ => exact Fin.ext (by show ((r : ℕ) * 2048 + q) / 2048 % 256 = r % 256; omega)
    | ⟨2, _⟩ => exact Fin.ext (by show ((r : ℕ) * 2048 + q) % 2048 = q; omega)
  have hmin : min (T (ix1 b)).toInt.toNat (32 - 1) = (T (ix1 b)).toNat := by
    have := h b; rw [this.2]; simp only [Int.toNat_natCast]; omega
  rw [val_main_v20_apply, e20, val_main_v19_apply]
  refine congrArg₂ (fun x y : EReal => x + y) ?_ ?_
  · rw [val_main_v9_apply]
    refine Finset.sum_congr rfl fun k _ => congrArg₂ (fun x y : EReal => x * y) ?_ ?_
    · rw [val_main_v1_apply, val_main_v0_apply]
      refine congrArg X ?_
      funext a
      match a with
      | ⟨0, _⟩ => exact Fin.ext (by show (((b : ℕ) * 256 + r % 256) * 2048 + k) / 2048 = r; omega)
      | ⟨1, _⟩ => exact Fin.ext (by show (((b : ℕ) * 256 + r % 256) * 2048 + k) % 2048 = k; omega)
    · rw [show ridx_main_v9 (ix3 b (⟨r % 256, by omega⟩ : Fin 256) q) k = ix3 b k q from eq_ix3 _]
      unfold val_main_v8
      refine (Cert.Lead.mats (by norm_num) gather_S32x2048x2048_S288x1_S288x2048x2048_12_0_n_n_0_1_120482048_wf _ rfl _ _ b k q).trans ?_
      refine congrArg W ?_
      exact congrArg (fun z => ix3 z k q)
        (Fin.ext ((congrArg (fun w : BitVec 32 => min w.toInt.toNat (32 - 1)) (pos T b (h b).2).1).trans hmin))
  · rw [val_main_v18_apply, val_main_v17_apply,
      show idx_main_v17 (idx_main_v18 (ix3 b (⟨r % 256, by omega⟩ : Fin 256) q)) = ix2 b q from eq_ix2 _]
    unfold val_main_v16
    refine (Cert.Lead.rows (by norm_num) gather_S32x2048_S288x1_S288x2048_1_0_n_n_0_1_12048_wf _ rfl _ _ b q).trans ?_
    refine congrArg B ?_
    exact congrArg (fun z => ix2 z q)
      (Fin.ext ((congrArg (fun w : BitVec 32 => min w.toInt.toNat (32 - 1)) (pos T b (h b).2).2).trans hmin))

end Cert.DownRefIdeal.At

namespace Cert.DownIdeal.Tile

open Cert.DownIdeal Cert.DownIdeal.Gen

variable (m : (ℓ : Loc nD τ sig) → Buf (Elt Ideal) ℓ)

/-- What the body stores at row `y 0`, column `y 1` of its tile: the product of the row with the matrix block, plus the
    bias of the column. -/
theorem pay_at (x0 : FVec Ideal S256x2048 .bf16) (x1 : FVec Ideal S1x2048x1024 .bf16) (x2 : FVec Ideal S1x1x1024 .f32)
    (i : Fin 256) (j : Fin 1024) :
    k0_pay1 (F := Ideal) x0 x1 x2 (ix2 i j) = (∑ k : Fin 2048, x0 (ix2 i k) * x1 (ix3 0 k j)) + x2 (ix3 0 0 j) := by
  pointwise [k0_pay1]

/-- The grid's coordinates at point `t`: the column block, then the row block. -/
theorem coords : ∀ t : Fin grid0.N, (grid0.coords t 0).val = t.val / 288 ∧ (grid0.coords t 1).val = t.val % 288 := by
  decide +kernel

/-- Which block of its array the rows' window and the result's window hold at point `t`. -/
theorem fixed : ∀ t : Fin grid0.N, cc0_transform_0 (grid0.coords t) = ![t.val % 288, 0]
    ∧ cc0_transform_3 (grid0.coords t) = ![t.val % 288, t.val / 288] := by
  decide +kernel

variable (hO : Ok m)

/-- The row block of point `t`. -/
def blk (t : Fin (cfgM m hO).N) : Fin 288 := ⟨t.val % 288, Nat.mod_lt _ (by norm_num)⟩

/-- The blocks the windows hold at point `t`: the rows' and the result's by the grid alone, the matrix's and the bias's by
    the table's word for the row block. -/
theorem idx (t : Fin (cfgM m hO).N) : ((cfgM m hO).win 0).index t = ![t.val % 288, 0]
    ∧ ((cfgM m hO).win 1).index t = ![(tbl m 0 (ix1 (blk m hO t))).toNat, 0, t.val / 288]
    ∧ ((cfgM m hO).win 2).index t = ![(tbl m 0 (ix1 (blk m hO t))).toNat, 0, t.val / 288]
    ∧ ((cfgM m hO).win 3).index t = ![t.val % 288, t.val / 288] := by
  have e : (⟨(grid0.coords t 1).val, (grid0.coords t 1).isLt⟩ : Fin 288) = blk m hO t := Fin.ext (coords t).2
  refine ⟨(fixed t).1, ?_, ?_, (fixed t).2⟩
  · refine (Cert.DownIdeal.Table.map1 (tbl m) (grid0.coords t)).trans ?_
    rw [e, (coords t).1]
  · refine (Cert.DownIdeal.Table.map2 (tbl m) (grid0.coords t)).trans ?_
    rw [e, (coords t).1]

/-- The result's blocks cover its array: every pair of a row block and a column block is a point's. -/
theorem covers : ((cfgM m hO).win 3).Covers := by
  refine Pipeline.Window.covers_of_indexMap_surj _ rfl (by show ∀ a : Fin 2, 0 < S256x1024.size a; decide) fun β => ?_
  obtain ⟨b0, h0⟩ : ∃ b : Fin 288, (b : ℕ) = (β (0 : Fin 2)).val := ⟨⟨(β (0 : Fin 2)).val, lt_of_lt_of_eq (β (0 : Fin 2)).isLt (show (73728 + 256 - 1) / 256 = 288 by norm_num)⟩, rfl⟩
  obtain ⟨b1, h1⟩ : ∃ b : Fin 2, (b : ℕ) = (β (1 : Fin 2)).val := ⟨⟨(β (1 : Fin 2)).val, lt_of_lt_of_eq (β (1 : Fin 2)).isLt (show (2048 + 1024 - 1) / 1024 = 2 by norm_num)⟩, rfl⟩
  have l0 := b0.isLt
  have l1 := b1.isLt
  refine ⟨fun | ⟨0, _⟩ => b1 | ⟨1, _⟩ => b0, fun a => ?_⟩
  match a with
  | ⟨0, _⟩ =>
    refine Eq.trans ?_ h0
    show (BitVec.ofNat 32 b0.val).toNat = b0.val
    rw [BitVec.toNat_ofNat, Nat.mod_eq_of_lt (by omega)]
  | ⟨1, _⟩ =>
    refine Eq.trans ?_ h1
    show (BitVec.ofNat 32 b1.val).toNat = b1.val
    rw [BitVec.toNat_ofNat, Nat.mod_eq_of_lt (by omega)]

/-- What the region finds: the matrices as given, the bias with an axis of length one inserted. -/
theorem entry_w : V m 0 main_v0 = truncf (F := Ideal) .bf16 (m (((0 : Dev nD) : Thread nD τ).loc main_arg2)) bitsLt_bf16_f32 := by
  unfold V
  after_results <;> rfl
theorem entry_b : V m 0 main_v1 = shapeCast S32x1x2048 (m (((0 : Dev nD) : Thread nD τ).loc main_arg3) : FVec Ideal S32x2048 .f32) shapeCasts_S32x2048_S32x1x2048 := by
  unfold V
  after_results <;> rfl
theorem bias_at (e : Fin 32) (q : Fin 2048) : (V m 0 main_v1 : FVec Ideal S32x1x2048 .f32) (ix3 e 0 q)
    = (m (((0 : Dev nD) : Thread nD τ).loc main_arg3) : FVec Ideal S32x2048 .f32) (ix2 e q) := by
  refine (congrFun (entry_b m) _).trans ?_
  generalize (m (((0 : Dev nD) : Thread nD τ).loc main_arg3) : FVec Ideal S32x2048 .f32) = B
  pointwise

/-- What the body stores at position `y` of its tile is the reference's term at the array position `y` sits at. -/
theorem point (h : ∀ b : Fin 288, (tbl m 0 (ix1 b)).toNat < 32 ∧ (tbl m 0 (ix1 b)).toInt = (tbl m 0 (ix1 b)).toNat)
    (t : Fin (cfgM m hO).N) (y : S256x1024.Idx) :
    k0_pay1 (F := Ideal) (iblk m hO 0 0 t) (iblk m hO 0 1 t) (iblk m hO 0 2 t) y
      = Cert.DownRefIdeal.Read.val_main_v20 (F := Ideal) (tbl m 0) (m (((0 : Dev nD) : Thread nD τ).loc main_arg1))
          (m (((0 : Dev nD) : Thread nD τ).loc main_arg2)) (m (((0 : Dev nD) : Thread nD τ).loc main_arg3))
          ((((cfgM m hO).win 3).blk t).view.emb y) := by
  have ht : t.val < 576 := t.isLt
  obtain ⟨i, j, rfl⟩ : ∃ (i : Fin 256) (j : Fin 1024), y = ix2 i j := ⟨y 0, y 1, eq_ix2 _⟩
  have hi := i.isLt
  have hj := j.isLt
  have e : ((((cfgM m hO).win 3).blk t).view.emb (ix2 i j : S256x1024.Idx) : S73728x2048.Idx)
      = ix2 (⟨t.val % 288 * 256 + i.val, by omega⟩ : Fin 73728) (⟨t.val / 288 * 1024 + j.val, by omega⟩ : Fin 2048) := by
    blk_ext [(idx m hO t).2.2.2]
  refine Eq.trans (pay_at _ _ _ _ _) ?_
  refine Eq.trans ?_ (congrArg (Cert.DownRefIdeal.Read.val_main_v20 (F := Ideal) _ _ _ _) e).symm
  refine Eq.trans ?_ (Cert.DownRefIdeal.At.at_ix (tbl m 0) _ _ _ h _ _ (blk m hO t)
    (by show t.val % 288 = (t.val % 288 * 256 + i.val) / 256; omega)).symm
  refine congrArg₂ (fun x y : EReal => x + y) (Finset.sum_congr rfl fun k _ => congrArg₂ (fun x y : EReal => x * y) ?_ ?_) ?_
  · blk_ext [iblk, V_main_arg1, idx m hO t]
  · blk_ext [iblk, entry_w, idx m hO t]
  · refine Eq.trans ?_ (bias_at m _ _)
    blk_ext [iblk, idx m hO t]

/-- What a run of the body leaves in the result's staging buffer, at any blocks. -/
theorem out_eq (c : Dev nD) (i : grid0.Coords) (a3 : Memref sig .tc .vmem S256x2048 .bf16) (h3 : a3.IsWhole)
    (a4 : Memref sig .tc .vmem S1x2048x1024 .bf16) (h4 : a4.IsWhole) (a5 : Memref sig .tc .vmem S1x1x1024 .f32) (h5 : a5.IsWhole)
    (a6 : Memref sig .tc .vmem S256x1024 .f32) (h6 : a6.IsWhole) (x0 : Vec Ideal S256x2048 .bf16)
    (x1 : Vec Ideal S1x2048x1024 .bf16) (x2 : Vec Ideal S1x1x1024 .f32) (xt : TbBuf0 (F := Ideal) c tbM0_0) :
    out0_A_3 (F := Ideal) c i a3 h3 a4 h4 a5 h5 a6 h6 x0 x1 x2 xt = k0_pay1 (F := Ideal) x0 x1 x2 := by
  frame_out

/-- What the body leaves in the result's block at point `t`. -/
theorem after_eq (t : Fin (cfgM m hO).N) : (dats m hO 0 0).after 3 t
    = k0_pay1 (F := Ideal) (iblk m hO 0 0 t) (iblk m hO 0 1 t) (iblk m hO 0 2 t) := by
  rw [after0_3]
  exact out_eq _ _ _ _ _ _ _ _ _ _ _ _ _ _

/-- The result array after the run is the reference's term of the arguments. -/
theorem final (h : ∀ b : Fin 288, (tbl m 0 (ix1 b)).toNat < 32 ∧ (tbl m 0 (ix1 b)).toInt = (tbl m 0 (ix1 b)).toNat) (c : Dev nD) :
    (dats m hO 0 c).arrAt 3 (cfgM m hO).N
      = Cert.DownRefIdeal.Read.val_main_v20 (F := Ideal) (tbl m 0) (m ((c : Thread nD τ).loc main_arg1))
          (m ((c : Thread nD τ).loc main_arg2)) (m ((c : Thread nD τ).loc main_arg3)) := by
  obtain rfl : c = 0 := Subsingleton.elim _ _
  refine (dats m hO 0 0).arrAt_eq_of_covers 3 _ (covers m hO) fun t _ y => ?_
  blk_simp
  rw [after_eq]
  exact point m hO h t y

end Cert.DownIdeal.Tile

end
-- ==== Proof.AttnRow.lean ====
/-
  One row of the attention, over the extended reals: a row of 384 scores against the band's keys, 256 scores against the
  context's keys and one sink. The kernel multiplies the weighted sum of the values by the reciprocal of the weights' sum;
  the reference multiplies every weight by it first. This file shows that the two agree for all scores and values.
-/
module

public import Idealize.ShloMosaic.Lib.Pointwise

@[expose] public section

noncomputable section

open Idealize.ShloMosaic

namespace Cert.Row

/-- The value of the word that the masked scores and the row maxima start from. -/
abbrev NEG : EReal := Ideal.ofBits .f32 0xFF800000#32

/-- It is minus infinity. -/
theorem neg_eq : NEG = ⊥ := by
  simp [Ideal.ofBits, Ideal.ieee]

/-- The row's largest score, the sink among them. -/
def top (s : Fin 384 → EReal) (c : Fin 256 → EReal) (z : EReal) : EReal :=
  max (max (Finset.univ.fold max NEG s) (Finset.univ.fold max NEG c)) z

/-- The sum of the row's weights. -/
def den (s : Fin 384 → EReal) (c : Fin 256 → EReal) (z : EReal) : EReal :=
  (∑ k, Ideal.exp (s k - top s c z)) + (∑ k, Ideal.exp (c k - top s c z)) + Ideal.exp (z - top s c z)

/-- The row as the kernel computes it, at one column of the values. -/
def after (s : Fin 384 → EReal) (c : Fin 256 → EReal) (z : EReal) (v : Fin 384 → EReal) (w : Fin 256 → EReal) : EReal :=
  ((∑ k, Ideal.exp (s k - top s c z) * v k) + ∑ k, Ideal.exp (c k - top s c z) * w k) * Ideal.div 1 (den s c z)

/-- The row as the reference computes it, at one column of the values. -/
def before (s : Fin 384 → EReal) (c : Fin 256 → EReal) (z : EReal) (v : Fin 384 → EReal) (w : Fin 256 → EReal) : EReal :=
  (∑ k, v k * (Ideal.exp (s k - top s c z) * Ideal.div 1 (den s c z)))
    + ∑ k, w k * (Ideal.exp (c k - top s c z) * Ideal.div 1 (den s c z))

/-- The exponential is never negative. -/
theorem exp_nonneg (x : EReal) : 0 ≤ Ideal.exp x := by
  induction x using EReal.rec with
  | bot => exact le_refl _
  | top => exact le_top
  | coe r => exact EReal.coe_nonneg.2 (Real.exp_pos r).le

/-- The weight of a masked score is zero. -/
theorem exp_bot_sub (x : EReal) : Ideal.exp (⊥ - x) = 0 := by
  rw [EReal.bot_sub]; rfl

/-- A factor that is neither negative nor infinite goes into a finite sum. -/
theorem sum_mul_of_nonneg {ι : Type} (s : Finset ι) (f : ι → EReal) (x : EReal) (h0 : 0 ≤ x) (h1 : x ≠ ⊤) :
    (∑ k ∈ s, f k) * x = ∑ k ∈ s, f k * x := by
  classical
  induction s using Finset.induction_on with
  | empty => simp
  | insert a s ha ih =>
    rw [Finset.sum_insert ha, Finset.sum_insert ha, EReal.right_distrib_of_nonneg_of_ne_top h0 h1, ih]

/-- The reciprocal of a positive number that may be infinite is neither negative nor infinite. -/
theorem div_one {x : EReal} (h : 0 < x) : 0 ≤ Ideal.div 1 x ∧ Ideal.div 1 x ≠ ⊤ := by
  unfold Ideal.div
  rw [if_neg h.ne', one_mul]
  refine ⟨EReal.inv_nonneg_of_nonneg h.le, ?_⟩
  intro e
  induction x using EReal.rec with
  | bot => exact absurd h (by simp)
  | top => simp at e
  | coe r => exact EReal.coe_ne_top _ ((EReal.coe_inv r).trans e)

/-- The two orders of multiplication agree, and a value whose score is masked does not matter. -/
theorem after_eq_before (s : Fin 384 → EReal) (c : Fin 256 → EReal) (z : EReal) (v v' : Fin 384 → EReal) (w : Fin 256 → EReal)
    (h : ∀ k, s k = ⊥ ∨ v k = v' k) : after s c z v w = before s c z v' w := by
  unfold after before
  have hv : ∀ k, Ideal.exp (s k - top s c z) * v k = Ideal.exp (s k - top s c z) * v' k := fun k => by
    rcases h k with e | e
    · rw [e, exp_bot_sub, zero_mul, zero_mul]
    · rw [e]
  rw [Finset.sum_congr rfl fun k _ => hv k]
  have hs : 0 ≤ ∑ k, Ideal.exp (s k - top s c z) := Finset.sum_nonneg fun k _ => exp_nonneg _
  have hc : 0 ≤ ∑ k, Ideal.exp (c k - top s c z) := Finset.sum_nonneg fun k _ => exp_nonneg _
  have hz : 0 ≤ Ideal.exp (z - top s c z) := exp_nonneg _
  have hd : 0 ≤ den s c z := add_nonneg (add_nonneg hs hc) hz
  rcases hd.eq_or_lt with e | e
  · have le1 : ∑ k, Ideal.exp (s k - top s c z) ≤ den s c z :=
      (le_add_of_nonneg_right hc).trans (le_add_of_nonneg_right hz)
    have le2 : ∑ k, Ideal.exp (c k - top s c z) ≤ den s c z :=
      (le_add_of_nonneg_left hs).trans (le_add_of_nonneg_right hz)
    have es := (Finset.sum_eq_zero_iff_of_nonneg fun k _ => exp_nonneg _).1 (le_antisymm (le1.trans e.symm.le) hs)
    have ec := (Finset.sum_eq_zero_iff_of_nonneg fun k _ => exp_nonneg _).1 (le_antisymm (le2.trans e.symm.le) hc)
    have es' : ∀ k, Ideal.exp (s k - top s c z) = 0 := fun k => es k (Finset.mem_univ k)
    have ec' : ∀ k, Ideal.exp (c k - top s c z) = 0 := fun k => ec k (Finset.mem_univ k)
    simp only [es', ec', zero_mul, mul_zero, Finset.sum_const_zero, add_zero]
  · obtain ⟨h0, h1⟩ := div_one e
    rw [EReal.right_distrib_of_nonneg_of_ne_top h0 h1, sum_mul_of_nonneg _ _ _ h0 h1, sum_mul_of_nonneg _ _ _ h0 h1]
    refine congrArg₂ (fun x y : EReal => x + y) (Finset.sum_congr rfl fun k _ => ?_) (Finset.sum_congr rfl fun k _ => ?_)
    · rw [mul_right_comm, mul_comm]
    · rw [mul_right_comm, mul_comm]

end Cert.Row

end
-- ==== Proof.AttnWords.lean ====
/-
  The window of the attention, as 32-bit words: when the words that the two programs compare say that a query of a block
  sees a position of the block's band.
-/
module

public import Idealize.ShloMosaic.Lib.Pointwise

@[expose] public section

open Idealize.ShloMosaic

namespace Cert.Row

/-- The positions of a block's band that a query sees. -/
def Seen (n : Fin 64) (q : Fin 128) (k : Fin 384) : Prop :=
  (q.val ≤ k.val ∧ k.val ≤ q.val + 256) ∧ 128 ≤ n.val * 128 + k.val ∧ n.val * 128 + k.val < 8320

instance (n q k) : Decidable (Seen n q k) := by unfold Seen; infer_instance

/-- A small natural number's word, read as an integer. -/
theorem toInt_nat (x : ℕ) (h : x < 2147483648) : (BitVec.ofNat 32 x).toInt = x := by
  have e : (BitVec.ofNat 32 x).toNat = x := by rw [BitVec.toNat_ofNat]; exact Nat.mod_eq_of_lt (by omega)
  rw [BitVec.toInt_eq_toNat_of_lt (by rw [e]; omega), e]

/-- A difference that does not overflow. -/
theorem toInt_sub (x y : BitVec 32) (h0 : -2147483648 ≤ x.toInt - y.toInt) (h1 : x.toInt - y.toInt < 2147483648) :
    (IntOp.subi x y).toInt = x.toInt - y.toInt := by
  show (x - y).toInt = _
  rw [BitVec.toInt_sub, Int.bmod_eq_of_le (by norm_num; omega) (by norm_num; omega)]

/-- An absolute value that does not overflow. -/
theorem toInt_abs (x : BitVec 32) (h0 : -2147483648 < x.toInt) : (IntOp.absi x).toInt = |x.toInt| := by
  have hx := BitVec.toInt_lt (x := x)
  unfold IntOp.absi
  rw [BitVec.msb_eq_toInt]
  by_cases h : x.toInt < 0
  · rw [if_pos (by simpa using h), BitVec.toInt_neg, Int.bmod_eq_of_le (by norm_num; omega) (by norm_num; omega), abs_of_neg h]
  · rw [if_neg (by simpa using h), abs_of_nonneg (by omega)]

/-- The conjunction of two conditions' words. -/
theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A comparison of two small natural numbers' words. -/
theorem le_nat (x y : ℕ) (hx : x < 2147483648) (hy : y < 2147483648) :
    IntOp.cmpi CmpIPredicate.sle (BitVec.ofNat 32 x) (BitVec.ofNat 32 y) = BitVec.ofBool (decide (x ≤ y)) := by
  unfold IntOp.cmpi
  simp only [BitVec.sle_eq_decide, toInt_nat x hx, toInt_nat y hy, Nat.cast_le]

/-- The larger of two small natural numbers' words. -/
theorem max_nat (x y : ℕ) (hx : x < 2147483648) (hy : y < 2147483648) :
    IntOp.maxsi (BitVec.ofNat 32 x) (BitVec.ofNat 32 y) = BitVec.ofNat 32 (max x y) := by
  unfold IntOp.maxsi
  simp only [BitVec.slt_eq_decide, toInt_nat x hx, toInt_nat y hy, Nat.cast_lt, decide_eq_true_eq]
  by_cases h : y < x
  · rw [if_pos h, max_eq_left h.le]
  · rw [if_neg h, max_eq_right (not_lt.1 h)]

/-- The smaller of two small natural numbers' words. -/
theorem min_nat (x y : ℕ) (hx : x < 2147483648) (hy : y < 2147483648) :
    IntOp.minsi (BitVec.ofNat 32 x) (BitVec.ofNat 32 y) = BitVec.ofNat 32 (min x y) := by
  unfold IntOp.minsi
  simp only [BitVec.slt_eq_decide, toInt_nat x hx, toInt_nat y hy, Nat.cast_lt, decide_eq_true_eq]
  by_cases h : x < y
  · rw [if_pos h, min_eq_left h.le]
  · rw [if_neg h, min_eq_right (not_lt.1 h)]

/-- The remainder by 128 of a row number. -/
theorem rem_nat (r : Fin 512) : IntOp.remsi ArithUnit.vector (BitVec.ofNat 32 r.val) 128#32 = BitVec.ofNat 32 (r.val % 128) := by
  revert r; decide +kernel

/-- The words that the reference compares say whether the position is seen. -/
theorem word (n q k : ℕ) (hn : n < 64) (hq : q < 128) (hk : k < 384) :
    IntOp.andi
      (IntOp.andi
        (IntOp.cmpi CmpIPredicate.sle
          (IntOp.absi
            (IntOp.subi (IntOp.subi (IntOp.addi (IntOp.muli (BitVec.ofNat 32 n) 128#32) (BitVec.ofNat 32 k)) 128#32)
              (IntOp.addi (IntOp.muli (BitVec.ofNat 32 n) 128#32) (BitVec.ofNat 32 q))))
          128#32)
        (IntOp.cmpi CmpIPredicate.sge
          (IntOp.subi (IntOp.addi (IntOp.muli (BitVec.ofNat 32 n) 128#32) (BitVec.ofNat 32 k)) 128#32) 0#32))
      (IntOp.cmpi CmpIPredicate.slt
        (IntOp.subi (IntOp.addi (IntOp.muli (BitVec.ofNat 32 n) 128#32) (BitVec.ofNat 32 k)) 128#32) 8192#32) =
    BitVec.ofBool (decide ((q ≤ k ∧ k ≤ q + 256) ∧ 128 ≤ n * 128 + k ∧ n * 128 + k < 8320)) := by
  have e1 : IntOp.addi (IntOp.muli (BitVec.ofNat 32 n) 128#32) (BitVec.ofNat 32 k) = BitVec.ofNat 32 (n * 128 + k) := by
    unfold IntOp.addi IntOp.muli; rw [show (128#32 : BitVec 32) = BitVec.ofNat 32 128 from rfl, ← BitVec.ofNat_mul, ← BitVec.ofNat_add]
  have e2 : IntOp.addi (IntOp.muli (BitVec.ofNat 32 n) 128#32) (BitVec.ofNat 32 q) = BitVec.ofNat 32 (n * 128 + q) := by
    unfold IntOp.addi IntOp.muli; rw [show (128#32 : BitVec 32) = BitVec.ofNat 32 128 from rfl, ← BitVec.ofNat_mul, ← BitVec.ofNat_add]
  rw [e1, e2]
  have t1 := toInt_nat (n * 128 + k) (by omega)
  have t2 := toInt_nat (n * 128 + q) (by omega)
  have t3 := toInt_nat 128 (by omega)
  have t4 := toInt_nat 8192 (by omega)
  have t5 := toInt_nat 0 (by omega)
  have s1 := toInt_sub (BitVec.ofNat 32 (n * 128 + k)) 128#32 (by rw [t1, t3]; omega) (by rw [t1, t3]; omega)
  rw [t1, t3] at s1
  have s2 := toInt_sub (IntOp.subi (BitVec.ofNat 32 (n * 128 + k)) 128#32) (BitVec.ofNat 32 (n * 128 + q)) (by rw [s1, t2]; omega) (by rw [s1, t2]; omega)
  have s3 := toInt_abs (IntOp.subi (IntOp.subi (BitVec.ofNat 32 (n * 128 + k)) 128#32) (BitVec.ofNat 32 (n * 128 + q))) (by rw [s2, s1, t2]; omega)
  rw [s2, s1, t2] at s3
  unfold IntOp.cmpi
  simp only [BitVec.sle_eq_decide, BitVec.slt_eq_decide]
  rw [s3, s1, t3, t4, t5, and_bool, and_bool]
  refine congrArg BitVec.ofBool (decide_eq_decide.2 ?_)
  rw [abs_le]
  push_cast
  omega

end Cert.Row
-- ==== Proof.AttnRef.lean ====
/-
  The reference's attention, read at one position of its result: the row of scores of a query against its band and the
  context, and the weighted values. A query's band is its own block of 128 rows, the one before and the one after.
-/
module

public import proofs.«01_k».proof.Proof.Gen.ReferenceIdeal.Read
public import proofs.«01_k».proof.Proof.AttnRow
public import proofs.«01_k».proof.Proof.AttnWords
public import Idealize.ShloMosaic.Lib.KernelVsHost

@[expose] public section

set_option maxRecDepth 16384

noncomputable section

open Idealize.ShloMosaic Idealize.ShloMosaic.TcCoe Idealize.SL.Sem

namespace Cert.ReferenceIdeal.Row

open Cert.Row
open Cert.ReferenceIdeal Cert.ReferenceIdeal.Gen Cert.ReferenceIdeal.Read

/-- The queries in the reference's arrangement: row `(b · 64 + n) · 128 + q`, column `(4 h + g) · 128 + d` of the array. -/
theorem v3_at (x : FVec Ideal S16384x2048 .bf16) (b : Fin 2) (n : Fin 64) (q : Fin 128) (h g : Fin 4) (d : Fin 128) :
    val_main_v3 (F := Ideal) x (ix6 b n q h g d) = x (ix2 ⟨(b.val * 64 + n.val) * 128 + q.val, by omega⟩ ⟨(h.val * 4 + g.val) * 128 + d.val, by omega⟩) := by
  pointwise [val_main_v3, val_main_v0]
  refine congrArg x ((ix2_inj ..).2 ⟨Fin.ext ?_, Fin.ext ?_⟩)
  · show (b : ℕ) * 8192 + n * 128 + q = (b * 64 + n) * 128 + q; omega
  · show (h : ℕ) * 512 + g * 128 + d = (h * 4 + g) * 128 + d; omega

/-- The keys (or values) of a block's band. -/
def band (x : FVec Ideal S16896x512 .bf16) (b : Fin 2) (n : Fin 64) (k : Fin 384) (h : Fin 4) (d : Fin 128) : EReal :=
  if hk : 128 ≤ n.val * 128 + k.val ∧ n.val * 128 + k.val < 8320 then
    x (ix2 ⟨b.val * 8192 + (n.val * 128 + k.val - 128), by omega⟩ ⟨h.val * 128 + d.val, by omega⟩)
  else FloatOps.sitofp (F := Ideal) .f32 (0#32 : BitVec 32)

/-- The keys (or values) with 128 zero rows put before and after them. -/
theorem v10_at (x : FVec Ideal S16896x512 .bf16) (b : Fin 2) (p : Fin 8448) (h : Fin 4) (d : Fin 128) :
    val_main_v10 (F := Ideal) x (ix4 b p h d) = if hp : 128 ≤ p.val ∧ p.val < 8320 then
      x (ix2 ⟨b.val * 8192 + (p.val - 128), by omega⟩ ⟨h.val * 128 + d.val, by omega⟩) else FloatOps.sitofp (F := Ideal) .f32 (0#32 : BitVec 32) := by
  pointwise [val_main_v10, val_main_v9, val_main_v8, val_main_v1, val_main_call0_v0, val_main_c]
  by_cases h1 : 128 ≤ p.val ∧ p.val < 8320
  · rw [dif_pos h1, dif_pos (by omega)]
  · rw [dif_neg h1, dif_neg (by omega)]

/-- The same, the rows in blocks of 128. -/
theorem v11_at (x : FVec Ideal S16896x512 .bf16) (b : Fin 2) (m : Fin 66) (r : Fin 128) (h : Fin 4) (d : Fin 128) :
    val_main_v11 (F := Ideal) x (ix5 b m r h d) = val_main_v10 (F := Ideal) x (ix4 b ⟨m.val * 128 + r.val, by omega⟩ h d) := by
  unfold val_main_v11
  generalize val_main_v10 (F := Ideal) x = y
  pointwise

/-- A row of a block of the padded keys, where it is position `k` of block `n`'s band. -/
theorem v11_band (x : FVec Ideal S16896x512 .bf16) (b : Fin 2) (n : Fin 64) (k : Fin 384) (m : Fin 66) (r : Fin 128) (h : Fin 4) (d : Fin 128)
    (e : m.val * 128 + r.val = n.val * 128 + k.val) : val_main_v11 (F := Ideal) x (ix5 b m r h d) = band x b n k h d := by
  rw [v11_at, v10_at]
  unfold band
  by_cases h1 : 128 ≤ n.val * 128 + k.val ∧ n.val * 128 + k.val < 8320
  · rw [dif_pos h1, dif_pos (by show 128 ≤ m.val * 128 + r.val ∧ m.val * 128 + r.val < 8320; omega)]
    exact congrArg (fun t => x (ix2 t ⟨h.val * 128 + d.val, by omega⟩)) (Fin.ext (by show b.val * 8192 + (m.val * 128 + r.val - 128) = b.val * 8192 + (n.val * 128 + k.val - 128); omega))
  · rw [dif_neg h1, dif_neg (by show ¬ (128 ≤ m.val * 128 + r.val ∧ m.val * 128 + r.val < 8320); omega)]

/-- The band of a block: the block before it, the block itself, the block after it. -/
theorem v15_row (x : FVec Ideal S16896x512 .bf16) (b : Fin 2) (n : Fin 64) (k : Fin 384) (h : Fin 4) (d : Fin 128) :
    val_main_v15 (F := Ideal) x (ix5 b n k h d) = if h1 : k.val < 128 then val_main_v11 (F := Ideal) x (ix5 b ⟨n.val, by omega⟩ ⟨k.val, h1⟩ h d)
      else if h2 : k.val - 128 < 128 then val_main_v11 (F := Ideal) x (ix5 b ⟨1 + n.val, by omega⟩ ⟨k.val - 128, h2⟩ h d)
      else val_main_v11 (F := Ideal) x (ix5 b ⟨2 + n.val, by omega⟩ ⟨k.val - 128 - 128, by omega⟩ h d) := by
  unfold val_main_v15 val_main_v12 val_main_v13 val_main_v14
  generalize val_main_v11 (F := Ideal) x = y
  pointwise

/-- The band of a block at its position `k`. -/
theorem v15_at (x : FVec Ideal S16896x512 .bf16) (b : Fin 2) (n : Fin 64) (k : Fin 384) (h : Fin 4) (d : Fin 128) :
    val_main_v15 (F := Ideal) x (ix5 b n k h d) = band x b n k h d := by
  rw [v15_row]
  split_ifs with h1 h2
  · exact v11_band x b n k _ _ h d rfl
  · exact v11_band x b n k _ _ h d (by show (1 + n.val) * 128 + (k.val - 128) = n.val * 128 + k.val; omega)
  · exact v11_band x b n k _ _ h d (by show (2 + n.val) * 128 + (k.val - 128 - 128) = n.val * 128 + k.val; omega)

/-- The values' band is cut from the values as the keys' band is from the keys. -/
theorem v23_eq (x : FVec Ideal S16896x512 .bf16) : val_main_v23 (F := Ideal) x = val_main_v15 (F := Ideal) x := by
  unfold val_main_v23 val_main_v15
  rfl

/-- The scores of the band: the product of key and query where the position is seen, minus infinity elsewhere. -/
theorem v61_at (x0 : FVec Ideal S16384x2048 .bf16) (x1 : FVec Ideal S16896x512 .bf16) (b : Fin 2) (n : Fin 64) (q : Fin 128) (h g : Fin 4) (k : Fin 384) :
    val_main_v61 (F := Ideal) x0 x1 (ix6 b n h g q k) = Scalar.select (val_main_v59 (F := Ideal) (ix3 n q k)) (∑ e : Fin 128, val_main_v15 (F := Ideal) x1 (ix5 b n k h e) * val_main_v3 (F := Ideal) x0 (ix6 b n q h g e)) Cert.Row.NEG := by
  pointwise [val_main_v61, val_main_v25, val_main_v24, val_main_call2_v1, val_main_call2_v2, val_main_call2_v0, val_main_v60, val_main_cst]
  rfl

/-- The reference's mask says which positions of the band a query sees. -/
theorem v59_at (n : Fin 64) (q : Fin 128) (k : Fin 384) :
    val_main_v59 (F := Ideal) (ix3 n q k) = BitVec.ofBool (decide (Seen n q k)) := by
  refine Eq.trans ?_ (word n q k n.isLt q.isLt k.isLt)
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_c_1, val_main_c_2, val_main_c_3, val_main_c_4, val_main_c_5]

/-- A row's maximum over the band, in the reference's terms. -/
theorem maxBand (y : FVec Ideal S2x64x4x4x128x384 .f32) (b : Fin 2) (n : Fin 64) (h g : Fin 4) (q : Fin 128) :
    Host.reduce FloatOps.maximumf y (constant (F := Ideal) S_ .f32 0xFF800000#32) reducesTo_S2x64x4x4x128x384_S2x64x4x4x128_d5 h_S_ (ix5 b n h g q)
      = Finset.univ.fold max Cert.Row.NEG fun k : Fin 384 => y (ix6 b n h g q k) := by
  rw [hostReduce_maximumf_eq_multiReduction y 0xFF800000#32 _ _ (by decide) (.inl rfl) rfl]
  refine (Ideal.multiReduction_maximumf_single y _ _ _ _ _).trans ?_
  refine congrArg (Finset.univ.fold max Cert.Row.NEG) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- A row's maximum over the context, in the reference's terms. -/
theorem maxCtx (y : FVec Ideal S2x64x4x4x128x256 .f32) (b : Fin 2) (n : Fin 64) (h g : Fin 4) (q : Fin 128) :
    Host.reduce FloatOps.maximumf y (constant (F := Ideal) S_ .f32 0xFF800000#32) reducesTo_S2x64x4x4x128x256_S2x64x4x4x128_d5 h_S_ (ix5 b n h g q)
      = Finset.univ.fold max Cert.Row.NEG fun k : Fin 256 => y (ix6 b n h g q k) := by
  rw [hostReduce_maximumf_eq_multiReduction y 0xFF800000#32 _ _ (by decide) (.inl rfl) rfl]
  refine (Ideal.multiReduction_maximumf_single y _ _ _ _ _).trans ?_
  refine congrArg (Finset.univ.fold max Cert.Row.NEG) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The row's largest score, the sink among them. -/
theorem v72_at (x0 : FVec Ideal S16384x2048 .bf16) (x1 : FVec Ideal S16896x512 .bf16) (x3 : FVec Ideal S16 .f32) (b : Fin 2) (n : Fin 64) (q : Fin 128) (h g : Fin 4) :
    val_main_v72 (F := Ideal) x0 x1 x3 (ix6 b n h g q 0) = Cert.Row.top (fun k => val_main_v61 (F := Ideal) x0 x1 (ix6 b n h g q k)) (fun k => val_main_v63 (F := Ideal) x0 x1 (ix6 b n h g q k)) (x3 (ix1 ⟨h.val * 4 + g.val, by omega⟩)) := by
  rw [val_main_v72_apply, val_main_v70_apply, val_main_v67_apply, val_main_v69_apply, val_main_v71_apply, val_main_v65_apply, val_main_v64_apply]
  refine congrArg₂ (fun x y : EReal => max x y) (congrArg₂ (fun x y : EReal => max x y) ?_ ?_) ?_
  · rw [show idx_main_v67 (ix6 b n h g q 0) = ix5 b n h g q from eq_ix5 _]
    exact maxBand _ b n h g q
  · rw [show idx_main_v69 (ix6 b n h g q 0) = ix5 b n h g q from eq_ix5 _]
    exact maxCtx _ b n h g q
  · exact congrArg x3 (eq_ix1 _)

/-- The row's weights before they are normalised, and the reciprocal of their sum. -/
theorem v89_at (x0 : FVec Ideal S16384x2048 .bf16) (x1 : FVec Ideal S16896x512 .bf16) (x3 : FVec Ideal S16 .f32) (b : Fin 2) (n : Fin 64) (q : Fin 128) (h g : Fin 4)
    (s : Fin 384 → EReal) (c : Fin 256 → EReal) (z : EReal)
    (hs : ∀ k, val_main_v61 (F := Ideal) x0 x1 (ix6 b n h g q k) = s k) (hc : ∀ k, val_main_v63 (F := Ideal) x0 x1 (ix6 b n h g q k) = c k) (hz : x3 (ix1 ⟨h.val * 4 + g.val, by omega⟩) = z)
    (ht : val_main_v72 (F := Ideal) x0 x1 x3 (ix6 b n h g q 0) = Cert.Row.top s c z) :
    (∀ k, val_main_v75 (F := Ideal) x0 x1 x3 (ix6 b n h g q k) = Ideal.exp (s k - Cert.Row.top s c z)) ∧
    (∀ k, val_main_v78 (F := Ideal) x0 x1 x3 (ix6 b n h g q k) = Ideal.exp (c k - Cert.Row.top s c z)) ∧
    val_main_v89 (F := Ideal) x0 x1 x3 (ix6 b n h g q 0) = Ideal.div 1 (Cert.Row.den s c z) := by
  have h75 : ∀ k, val_main_v75 (F := Ideal) x0 x1 x3 (ix6 b n h g q k) = Ideal.exp (s k - Cert.Row.top s c z) := fun k => by
    rw [val_main_v75_apply, val_main_v74_apply, hs, val_main_v73_apply,
      show idx_main_v73 (ix6 b n h g q k) = ix6 b n h g q 0 from eq_ix6 _, ht]
    rfl
  have h78 : ∀ k, val_main_v78 (F := Ideal) x0 x1 x3 (ix6 b n h g q k) = Ideal.exp (c k - Cert.Row.top s c z) := fun k => by
    rw [val_main_v78_apply, val_main_v77_apply, hc, val_main_v76_apply,
      show idx_main_v76 (ix6 b n h g q k) = ix6 b n h g q 0 from eq_ix6 _, ht]
    rfl
  refine ⟨h75, h78, ?_⟩
  rw [val_main_v89_apply]
  refine congrArg₂ Ideal.div ?_ ?_
  · rw [val_main_v88_apply]; unfold val_main_cst_10; pointwise
  rw [val_main_v87_apply, val_main_v83_apply, val_main_v80_apply, val_main_v82_apply,
    show idx_main_v80 (ix6 b n h g q 0) = ix5 b n h g q from eq_ix5 _,
    show idx_main_v82 (ix6 b n h g q 0) = ix5 b n h g q from eq_ix5 _, val_main_v79_apply, val_main_v81_apply,
    val_main_v86_apply, val_main_v85_apply, ht, val_main_v84_apply, val_main_v65_apply, val_main_v64_apply]
  have z8 : val_main_cst_8 (F := Ideal) (Shape.Idx.first h_S_) = (0 : EReal) := by unfold val_main_cst_8; pointwise
  have z9 : val_main_cst_9 (F := Ideal) (Shape.Idx.first h_S_) = (0 : EReal) := by unfold val_main_cst_9; pointwise
  refine congrArg₂ (fun x y : EReal => x + y) (congrArg₂ (fun x y : EReal => x + y) ?_ ?_) ?_
  · refine (congrArg (fun e : EReal => e + _) z8).trans ((zero_add _).trans (Finset.sum_congr rfl fun k _ => ?_))
    rw [show idx_main_v79 (ix5 b n h g q) k = ix6 b n h g q k from eq_ix6 _]; exact h75 k
  · refine (congrArg (fun e : EReal => e + _) z9).trans ((zero_add _).trans (Finset.sum_congr rfl fun k _ => ?_))
    rw [show idx_main_v81 (ix5 b n h g q) k = ix6 b n h g q k from eq_ix6 _]; exact h78 k
  · refine congrArg (fun e : EReal => Ideal.exp (e - _)) ?_
    exact (congrArg x3 (eq_ix1 _)).trans hz

/-- The result as a matrix: row `(b · 64 + n) · 128 + q`, column `(4 h + g) · 128 + d`. -/
theorem cast_at (y : FVec Ideal S2x64x128x4x4x128 .f32) (r : Fin 16384) (j : Fin 2048) (b : Fin 2) (n : Fin 64) (q : Fin 128) (h g : Fin 4) (d : Fin 128)
    (hr : r.val = (b.val * 64 + n.val) * 128 + q.val) (hj : j.val = (h.val * 4 + g.val) * 128 + d.val) :
    shapeCast S16384x2048 y shapeCasts_S2x64x128x4x4x128_S16384x2048 (ix2 r j) = y (ix6 b n q h g d) := by
  pointwise
  refine congrArg y ?_
  rw [show (⟨r.val / 8192, by omega⟩ : Fin 2) = b from Fin.ext (by show r.val / 8192 = b; omega),
    show (⟨r.val / 128 % 64, by omega⟩ : Fin 64) = n from Fin.ext (by show r.val / 128 % 64 = n; omega),
    show (⟨r.val % 128, by omega⟩ : Fin 128) = q from Fin.ext (by show r.val % 128 = q; omega),
    show (⟨j.val / 512, by omega⟩ : Fin 4) = h from Fin.ext (by show j.val / 512 = h; omega),
    show (⟨j.val / 128 % 4, by omega⟩ : Fin 4) = g from Fin.ext (by show j.val / 128 % 4 = g; omega),
    show (⟨j.val % 128, by omega⟩ : Fin 128) = d from Fin.ext (by show j.val % 128 = d; omega)]

/-- The result: the weights times the values, over the band and over the context. -/
theorem v98_at (x0 : FVec Ideal S16384x2048 .bf16) (x1 x2 : FVec Ideal S16896x512 .bf16) (x3 : FVec Ideal S16 .f32) (b : Fin 2) (n : Fin 64) (q : Fin 128) (h g : Fin 4) (d : Fin 128) :
    val_main_v98 (F := Ideal) x0 x1 x2 x3 (ix6 b n q h g d)
      = (∑ k : Fin 384, (val_main_v23 (F := Ideal) x2 (ix5 b n k h d) : EReal) * (val_main_v75 (F := Ideal) x0 x1 x3 (ix6 b n h g q k) * val_main_v89 (F := Ideal) x0 x1 x3 (ix6 b n h g q 0)))
        + ∑ k : Fin 256, (val_main_v7 (F := Ideal) x2 (ix4 b k h d) : EReal) * (val_main_v78 (F := Ideal) x0 x1 x3 (ix6 b n h g q k) * val_main_v89 (F := Ideal) x0 x1 x3 (ix6 b n h g q 0)) := by
  rw [val_main_v98_apply, val_main_v93_apply, val_main_v97_apply, val_main_v92_apply, val_main_v96_apply]
  refine congrArg₂ (fun x y : EReal => x + y) (Finset.sum_congr rfl fun k _ => ?_) (Finset.sum_congr rfl fun k _ => ?_)
  · rw [show lidx_main_v92 (idx_main_v93 (ix6 b n q h g d)) k = ix5 b n k h d from eq_ix5 _,
      show ridx_main_v92 (idx_main_v93 (ix6 b n q h g d)) k = ix6 b n h g q k from eq_ix6 _, val_main_v91_apply, val_main_v90_apply,
      show idx_main_v90 (ix6 b n h g q k) = ix6 b n h g q 0 from eq_ix6 _]
    rfl
  · rw [show lidx_main_v96 (idx_main_v97 (ix6 b n q h g d)) k = ix4 b k h d from eq_ix4 _,
      show ridx_main_v96 (idx_main_v97 (ix6 b n q h g d)) k = ix6 b n h g q k from eq_ix6 _, val_main_v95_apply, val_main_v94_apply,
      show idx_main_v94 (ix6 b n h g q k) = ix6 b n h g q 0 from eq_ix6 _]
    rfl

/-- The scores of the context. -/
theorem v63_at (x0 : FVec Ideal S16384x2048 .bf16) (x1 : FVec Ideal S16896x512 .bf16) (b : Fin 2) (n : Fin 64) (q : Fin 128) (h g : Fin 4) (k : Fin 256) :
    val_main_v63 (F := Ideal) x0 x1 (ix6 b n h g q k) = ∑ e : Fin 128, (val_main_v5 (F := Ideal) x1 (ix4 b k h e) : EReal) * val_main_v3 (F := Ideal) x0 (ix6 b n q h g e) := by
  rw [val_main_v63_apply, val_main_v62_apply]
  refine Finset.sum_congr rfl fun e _ => ?_
  rw [show lidx_main_v62 (idx_main_v63 (ix6 b n h g q k)) e = ix4 b k h e from eq_ix4 _,
    show ridx_main_v62 (idx_main_v63 (ix6 b n h g q k)) e = ix6 b n q h g e from eq_ix6 _]

/-- The context's keys (or values): the last 512 rows, 256 for each half. -/
theorem v5_at (x : FVec Ideal S16896x512 .bf16) (b : Fin 2) (k : Fin 256) (h : Fin 4) (d : Fin 128) :
    val_main_v5 (F := Ideal) x (ix4 b k h d) = x (ix2 ⟨16384 + (b.val * 256 + k.val), by omega⟩ ⟨h.val * 128 + d.val, by omega⟩) := by
  pointwise [val_main_v5, val_main_v4, val_main_v1]

/-- The context's values are cut as its keys are. -/
theorem v7_eq (x : FVec Ideal S16896x512 .bf16) : val_main_v7 (F := Ideal) x = val_main_v5 (F := Ideal) x := rfl

/-- The context's keys (or values). -/
def ctx (x : FVec Ideal S16896x512 .bf16) (b : Fin 2) (k : Fin 256) (h : Fin 4) (d : Fin 128) : EReal :=
  x (ix2 ⟨16384 + (b.val * 256 + k.val), by omega⟩ ⟨h.val * 128 + d.val, by omega⟩)

/-- The query of a position. -/
def query (x : FVec Ideal S16384x2048 .bf16) (b : Fin 2) (n : Fin 64) (q : Fin 128) (h g : Fin 4) (d : Fin 128) : EReal :=
  x (ix2 ⟨(b.val * 64 + n.val) * 128 + q.val, by omega⟩ ⟨(h.val * 4 + g.val) * 128 + d.val, by omega⟩)

/-- The row of scores against the band. -/
def scores (x0 : FVec Ideal S16384x2048 .bf16) (x1 : FVec Ideal S16896x512 .bf16) (b : Fin 2) (n : Fin 64) (q : Fin 128) (h g : Fin 4) (k : Fin 384) : EReal :=
  Scalar.select (BitVec.ofBool (decide (Seen n q k))) (∑ e : Fin 128, band x1 b n k h e * query x0 b n q h g e) NEG

/-- The row of scores against the context. -/
def ctxScores (x0 : FVec Ideal S16384x2048 .bf16) (x1 : FVec Ideal S16896x512 .bf16) (b : Fin 2) (n : Fin 64) (q : Fin 128) (h g : Fin 4) (k : Fin 256) : EReal :=
  ∑ e : Fin 128, ctx x1 b k h e * query x0 b n q h g e

/-- The reference's result at one position: the row of scores and weights, at one column of the values. -/
theorem ref_at (x0 : FVec Ideal S16384x2048 .bf16) (x1 x2 : FVec Ideal S16896x512 .bf16) (x3 : FVec Ideal S16 .f32) (b : Fin 2) (n : Fin 64) (q : Fin 128) (h g : Fin 4) (d : Fin 128)
    (r : Fin 16384) (j : Fin 2048) (hr : r.val = (b.val * 64 + n.val) * 128 + q.val) (hj : j.val = (h.val * 4 + g.val) * 128 + d.val) :
    val_main_v100 (F := Ideal) x0 x1 x2 x3 (ix2 r j)
      = before (scores x0 x1 b n q h g) (ctxScores x0 x1 b n q h g) (x3 (ix1 ⟨h.val * 4 + g.val, by omega⟩)) (fun k => band x2 b n k h d) (fun k => ctx x2 b k h d) := by
  have hs : ∀ k, val_main_v61 (F := Ideal) x0 x1 (ix6 b n h g q k) = scores x0 x1 b n q h g k := fun k => by
    rw [v61_at, v59_at]
    unfold scores query
    exact congrArg (fun t => Scalar.select _ t NEG) (Finset.sum_congr rfl fun e _ => by rw [v15_at, v3_at])
  have hc : ∀ k, val_main_v63 (F := Ideal) x0 x1 (ix6 b n h g q k) = ctxScores x0 x1 b n q h g k := fun k => by
    rw [v63_at]
    unfold ctxScores query ctx
    exact Finset.sum_congr rfl fun e _ => by rw [v5_at, v3_at]
  have ht : val_main_v72 (F := Ideal) x0 x1 x3 (ix6 b n h g q 0) = top (scores x0 x1 b n q h g) (ctxScores x0 x1 b n q h g) (x3 (ix1 ⟨h.val * 4 + g.val, by omega⟩)) := by
    rw [v72_at, funext hs, funext hc]
  obtain ⟨e1, e2, e3⟩ := v89_at x0 x1 x3 b n q h g _ _ _ hs hc rfl ht
  rw [val_main_v100_apply]
  refine (cast_at (val_main_v98 (F := Ideal) x0 x1 x2 x3) r j b n q h g d hr hj).trans ?_
  rw [v98_at]
  unfold before ctx
  refine congrArg₂ (fun x y : EReal => x + y) (Finset.sum_congr rfl fun k _ => ?_) (Finset.sum_congr rfl fun k _ => ?_)
  · rw [v23_eq, v15_at, e1, e3]
  · rw [v7_eq, v5_at, e2, e3]

end Cert.ReferenceIdeal.Row

end
-- ==== Proof.AttnTile.lean ====
/-
  The kernel's attention, one step at a time: the stacked queries of four heads, the band of a block, the mask, the scores,
  their maxima and the weighted values, each read at one row; and the sink row that the kernel is given.
-/
module

public import proofs.«01_k».proof.Proof.Gen.KernelIdeal.Value
public import proofs.«01_k».proof.Proof.AttnRow
public import proofs.«01_k».proof.Proof.AttnWords
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.KernelIdeal.Row

open Cert.KernelIdeal Cert.KernelIdeal.Gen

/-- A row vector's numbers, stood up as a column. -/
theorem col_at (M : FVec Ideal S512 .f32) (r : Fin 512) : shapeCast S512x1 M shapeCasts_S512_S512x1 (ix2 r 0) = M (ix1 r) := by
  pointwise

/-- The largest entry of a row of the band's scores. -/
theorem pay12_at (mask : IVec S512x384 1) (Q : FVec Ideal S512x128 .bf16) (k1 k2 k3 : Vec Ideal S128x128 .bf16) (r : Fin 512) :
    k0_pay12 (F := Ideal) mask Q k1 k2 k3 (ix2 r 0) = Finset.univ.fold max Cert.Row.NEG fun k : Fin 384 => (k0_pay9 (F := Ideal) mask Q k1 k2 k3 (ix2 r k) : EReal) := by
  unfold k0_pay12
  refine (col_at _ r).trans ((Ideal.multiReduction_maximumf_single _ _ _ _ _ _).trans ?_)
  refine congrArg (Finset.univ.fold max Cert.Row.NEG) (funext fun k => ?_)
  exact congrArg (k0_pay9 (F := Ideal) mask Q k1 k2 k3) (funext fun a => Fin.ext (by match a with | ⟨0, _⟩ => rfl | ⟨1, _⟩ => rfl))

/-- The largest entry of a row of the context's scores. -/
theorem pay13_at (Q : FVec Ideal S512x128 .bf16) (K : Vec Ideal S256x128 .bf16) (r : Fin 512) :
    k0_pay13 (F := Ideal) Q K (ix2 r 0) = Finset.univ.fold max Cert.Row.NEG fun k : Fin 256 => (k0_pay10 (F := Ideal) Q K (ix2 r k) : EReal) := by
  unfold k0_pay13
  refine (col_at _ r).trans ((Ideal.multiReduction_maximumf_single _ _ _ _ _ _).trans ?_)
  refine congrArg (Finset.univ.fold max Cert.Row.NEG) (funext fun k => ?_)
  exact congrArg (k0_pay10 (F := Ideal) Q K) (funext fun a => Fin.ext (by match a with | ⟨0, _⟩ => rfl | ⟨1, _⟩ => rfl))

/-- A number below four is one of four. -/
theorem four (g : Fin 4) : g = 0 ∨ g = 1 ∨ g = 2 ∨ g = 3 := by revert g; decide

/-- The queries of four heads, stacked. -/
theorem pay7_row (q0 q1 q2 q3 : Vec Ideal S128x128 .bf16) (r : Fin 512) (e : Fin 128) :
    k0_pay7 (F := Ideal) q0 q1 q2 q3 (ix2 r e) = if h1 : r.val < 128 then q0 (ix2 ⟨r.val, h1⟩ e) else if h2 : r.val - 128 < 128 then q1 (ix2 ⟨r.val - 128, h2⟩ e)
      else if h3 : r.val - 128 - 128 < 128 then q2 (ix2 ⟨r.val - 128 - 128, h3⟩ e) else q3 (ix2 ⟨r.val - 128 - 128 - 128, by omega⟩ e) := by
  pointwise [k0_pay7]

/-- Row `128 g + a` of the stacked queries is row `a` of head `g`. -/
theorem pay7_at (q : Fin 4 → Vec Ideal S128x128 .bf16) (g : Fin 4) (a e : Fin 128) (r : Fin 512) (hr : r.val = g.val * 128 + a.val) :
    k0_pay7 (F := Ideal) (q 0) (q 1) (q 2) (q 3) (ix2 r e) = q g (ix2 a e) := by
  have row : ∀ (k : Fin 4) (r : ℕ) (hr : r < 128), g = k → r = a.val → q k (ix2 ⟨r, hr⟩ e) = q g (ix2 a e) := by
    rintro k r hr rfl rfl; rfl
  have ha := a.isLt
  rw [pay7_row]
  rcases four g with h | h | h | h
  · have hv : g.val = 0 := by rw [h]; rfl
    rw [dif_pos (by omega)]
    exact row 0 _ _ h (by omega)
  · have hv : g.val = 1 := by rw [h]; rfl
    rw [dif_neg (by omega), dif_pos (by omega)]
    exact row 1 _ _ h (by omega)
  · have hv : g.val = 2 := by rw [h]; rfl
    rw [dif_neg (by omega), dif_neg (by omega), dif_pos (by omega)]
    exact row 2 _ _ h (by omega)
  · have hv : g.val = 3 := by rw [h]; rfl
    rw [dif_neg (by omega), dif_neg (by omega), dif_neg (by omega)]
    exact row 3 _ _ h (by omega)

/-- The band: the block before, the block itself, the block after. -/
theorem pay8_at (k1 k2 k3 : Vec Ideal S128x128 .bf16) (k : Fin 384) (e : Fin 128) :
    k0_pay8 (F := Ideal) k1 k2 k3 (ix2 k e) = if h1 : k.val < 128 then k1 (ix2 ⟨k.val, h1⟩ e) else if h2 : k.val - 128 < 128 then k2 (ix2 ⟨k.val - 128, h2⟩ e) else k3 (ix2 ⟨k.val - 128 - 128, by omega⟩ e) := by
  pointwise [k0_pay8]

/-- The sinks of four heads, stacked. -/
theorem pay11_row (s0 s1 s2 s3 : Vec Ideal S1x1 .f32) (r : Fin 512) :
    k0_pay11 (F := Ideal) s0 s1 s2 s3 (ix2 r 0) = if h1 : r.val < 128 then s0 (ix2 0 0) else if h2 : r.val - 128 < 128 then s1 (ix2 0 0)
      else if h3 : r.val - 128 - 128 < 128 then s2 (ix2 0 0) else s3 (ix2 0 0) := by
  pointwise [k0_pay11]

/-- Row `128 g + a` of the stacked sinks is head `g`'s. -/
theorem pay11_at (s : Fin 4 → Vec Ideal S1x1 .f32) (g : Fin 4) (a : Fin 128) (r : Fin 512) (hr : r.val = g.val * 128 + a.val) :
    k0_pay11 (F := Ideal) (s 0) (s 1) (s 2) (s 3) (ix2 r 0) = s g (ix2 0 0) := by
  have ha := a.isLt
  rw [pay11_row]
  rcases four g with h | h | h | h
  · have hv : g.val = 0 := by rw [h]; rfl
    rw [dif_pos (by omega), h]
  · have hv : g.val = 1 := by rw [h]; rfl
    rw [dif_neg (by omega), dif_pos (by omega), h]
  · have hv : g.val = 2 := by rw [h]; rfl
    rw [dif_neg (by omega), dif_neg (by omega), dif_pos (by omega), h]
  · have hv : g.val = 3 := by rw [h]; rfl
    rw [dif_neg (by omega), dif_neg (by omega), dif_neg (by omega), h]

/-- A number below 128 has no sign to correct. -/
theorem word_sel (q : Fin 128) : IntOp.andi (IntOp.xori (IntOp.cmpi CmpIPredicate.slt (BitVec.ofNat 32 q.val) 0#32) (Scalar.cmpi CmpIPredicate.slt 128#32 0#32)) (IntOp.cmpi CmpIPredicate.ne (BitVec.ofNat 32 q.val) 0#32) = 0#1 := by
  revert q; decide +kernel

/-- The first row of the band that exists. -/
theorem word_lo (n : Fin 64) : Scalar.select (Scalar.cmpi CmpIPredicate.sgt (BitVec.ofNat 32 n.val) 0#32) 0#32 128#32 = BitVec.ofNat 32 (if 0 < n.val then 0 else 128) := by
  revert n; decide +kernel

/-- The last row of the band that exists. -/
theorem word_hi (n : Fin 64) : Scalar.select (Scalar.cmpi CmpIPredicate.slt (BitVec.ofNat 32 n.val) 63#32) 383#32 255#32 = BitVec.ofNat 32 (if n.val < 63 then 383 else 255) := by
  revert n; decide +kernel

/-- The kernel's mask says which positions of the band a query sees. -/
theorem pay6_at (i : grid0.Coords) (n : Fin 64) (hn : (i 1).val = n.val) (g : Fin 4) (q : Fin 128) (r : Fin 512) (hr : r.val = g.val * 128 + q.val) (k : Fin 384) :
    k0_pay6 i (ix2 r k) = BitVec.ofBool (decide (Cert.Row.Seen n q k)) := by
  have hk := k.isLt
  have hq := q.isLt
  have hn' := n.isLt
  pointwise [k0_pay6]
  rw [hn]
  have e1 : Scalar.select (Scalar.cmpi CmpIPredicate.eq 128#32 0#32) 1#32 128#32 = 128#32 := by decide
  have e2 := Cert.Row.rem_nat r
  rw [show r.val % 128 = q.val by omega] at e2
  simp only [e1, e2]
  have e3 := word_sel q
  have e4 := word_lo n
  have e5 := word_hi n
  have e6 : IntOp.addi (BitVec.ofNat 32 q.val) 256#32 = BitVec.ofNat 32 (q.val + 256) := by
    unfold IntOp.addi; rw [show (256#32 : BitVec 32) = BitVec.ofNat 32 256 from rfl, ← BitVec.ofNat_add]
  have e7 : Scalar.select 0#1 (IntOp.addi (BitVec.ofNat 32 q.val) 128#32) (BitVec.ofNat 32 q.val) = BitVec.ofNat 32 q.val := rfl
  rw [e3, e7, e4, e5, e6, Cert.Row.max_nat _ _ (by omega) (by split_ifs <;> omega), Cert.Row.min_nat _ _ (by omega) (by split_ifs <;> omega)]
  have e8 : ∀ x y : BitVec 32, IntOp.cmpi CmpIPredicate.sge x y = IntOp.cmpi CmpIPredicate.sle y x := fun _ _ => rfl
  rw [e8, Cert.Row.le_nat _ _ (by split_ifs <;> omega) (by omega), Cert.Row.le_nat _ _ (by omega) (by split_ifs <;> omega), Cert.Row.and_bool]
  refine congrArg BitVec.ofBool (decide_eq_decide.2 ?_)
  unfold Cert.Row.Seen
  split_ifs <;> omega

/-- The row the kernel computes from scores, maxima and values. -/
theorem pay14_at (V : FVec Ideal S384x128 .bf16) (S : FVec Ideal S512x384 .f32) (C : FVec Ideal S512x256 .f32) (Z M1 M2 : FVec Ideal S512x1 .f32) (W : Vec Ideal S256x128 .bf16) (r : Fin 512) (d : Fin 128)
    (s : Fin 384 → EReal) (c : Fin 256 → EReal) (z : EReal) (v : Fin 384 → EReal) (w : Fin 256 → EReal)
    (hS : ∀ k, S (ix2 r k) = s k) (hC : ∀ k, C (ix2 r k) = c k) (hZ : Z (ix2 r 0) = z) (h1 : M1 (ix2 r 0) = Finset.univ.fold max Cert.Row.NEG s) (h2 : M2 (ix2 r 0) = Finset.univ.fold max Cert.Row.NEG c)
    (hV : ∀ k, V (ix2 k d) = v k) (hW : ∀ k, W (ix2 k d) = w k) :
    k0_pay14 (F := Ideal) V S C Z M1 M2 W (ix2 r d) = Cert.Row.after s c z v w := by
  have e : Cert.Row.after s c z v w = Cert.Row.after (fun k => S (ix2 r k)) (fun k => C (ix2 r k)) (Z (ix2 r 0)) (fun k => V (ix2 k d)) (fun k => W (ix2 k d)) := by
    simp only [hS, hC, hZ, hV, hW]
  have et : max (max (M1 (ix2 r 0) : EReal) (M2 (ix2 r 0))) (Z (ix2 r 0)) = Cert.Row.top (fun k => S (ix2 r k)) (fun k => C (ix2 r k)) (Z (ix2 r 0)) := by
    unfold Cert.Row.top; simp only [hS, hC, hZ, h1, h2]
  rw [e]
  pointwise [k0_pay14]
  unfold Cert.Row.after Cert.Row.den
  rw [← et]

/-- The scores of the band: the product of query and key where the position is seen, minus infinity elsewhere. -/
theorem pay9_at (mask : IVec S512x384 1) (Q : FVec Ideal S512x128 .bf16) (k1 k2 k3 : Vec Ideal S128x128 .bf16) (r : Fin 512) (k : Fin 384) :
    k0_pay9 (F := Ideal) mask Q k1 k2 k3 (ix2 r k) = Scalar.select (mask (ix2 r k)) (∑ e : Fin 128, (Q (ix2 r e) : EReal) * k0_pay8 (F := Ideal) k1 k2 k3 (ix2 k e)) Cert.Row.NEG := by
  have e : k0_pay9 (F := Ideal) mask Q k1 k2 k3 = select mask (matmul (F := Ideal) dot_S512x128_S384x128_S512x384_1_1_0_0_n_n none Q (k0_pay8 (F := Ideal) k1 k2 k3) (constant S512x384 .f32 0x00000000#32)) (broadcast S512x384 (Scalar.ofBits (F := Ideal) .f32 0xFF800000#32)) := rfl
  rw [e]
  generalize k0_pay8 (F := Ideal) k1 k2 k3 = K
  pointwise

/-- The scores of the context. -/
theorem pay10_at (Q : FVec Ideal S512x128 .bf16) (K : Vec Ideal S256x128 .bf16) (r : Fin 512) (k : Fin 256) :
    k0_pay10 (F := Ideal) Q K (ix2 r k) = ∑ e : Fin 128, (Q (ix2 r e) : EReal) * K (ix2 k e) := by
  pointwise [k0_pay10]

/-- The sinks' update has one axis, and it runs along the row. -/
theorem sink_window (k : S16.Idx) : scatter_S1x128_S2_S16_0_0_01_0.window k 0 = 0 ∧ scatter_S1x128_S2_S16_0_0_01_0.window k 1 = (k 0).val :=
  ⟨rfl, rfl⟩

/-- The update starts at the row's first entry. -/
theorem sink_start (idx : IVec S2 32) (h0 : ∀ k, idx k = 0#32) (k : S16.Idx) (a : Fin 2) : scatter_S1x128_S2_S16_0_0_01_0.start k idx a = 0 := by
  unfold ScatterDims.start
  split
  · rw [h0]; rfl
  · rfl

/-- Writing sixteen numbers at the start of a row puts number `j` at entry `j`. -/
theorem sink_read (x0 : FVec Ideal S1x128 .f32) (idx : IVec S2 32) (h0 : ∀ k, idx k = 0#32) (u : FVec Ideal S16 .f32) (j : Fin 16) (j' : Fin 128) (e : j'.val = j.val) :
    Host.scatter scatter_S1x128_S2_S16_0_0_01_0 (fun _ b => b) x0 idx u (ix2 0 j') = u (ix1 j) := by
  have lands : ∀ k : S16.Idx, scatter_S1x128_S2_S16_0_0_01_0.resultIdx? k idx = some (ix2 0 j') ↔ (k 0).val = j.val := fun k => by
    rw [Routing.resultIdx?_eq_some]
    constructor
    · intro h
      have := h 1
      rw [sink_start idx h0, (sink_window k).2] at this
      change (0 : Int) + ((k 0).val : Int) = (j'.val : Int) at this
      omega
    · intro h a
      match a with
      | ⟨0, _⟩ => exact (congrArg₂ (· + ·) (sink_start idx h0 k 0) (congrArg Nat.cast (sink_window k).1)).trans rfl
      | ⟨1, _⟩ =>
        refine (congrArg₂ (· + ·) (sink_start idx h0 k 1) (congrArg Nat.cast (sink_window k).2)).trans ?_
        show (0 : Int) + ((k 0).val : Int) = (j'.val : Int)
        omega
  refine Routing.scatter_set_hit _ x0 idx u _ _ (fun k hk => ?_) (ix1 j) ((lands _).2 rfl)
  rw [eq_ix1 k]
  exact congrArg (fun t => u (ix1 t)) (Fin.ext ((lands k).1 hk))

variable (m : (ℓ : Loc nD τ sig) → Buf (Elt Ideal) ℓ)

/-- The two words that say where the update starts are zero. -/
theorem words_zero : ∀ k, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) k = 0#32 := by
  intro k
  obtain ⟨a, rfl⟩ : ∃ a : Fin 2, k = ix1 a := ⟨k 0, eq_ix1 k⟩
  pointwise
  split <;> rfl

/-- The sink row that the region finds. -/
theorem entry_sink (c : Dev nD) : V m c main_v4 = Host.scatter scatter_S1x128_S2_S16_0_0_01_0 (fun _ b => b) (broadcastInDim S1x128 ![] bcast_S_S1x128 (constant (F := Ideal) S_ .f32 0x00000000#32) : FVec Ideal S1x128 .f32)
    (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (m ((c : Thread nD τ).loc main_arg3) : FVec Ideal S16 .f32) := by
  unfold V
  after_results <;> rfl

/-- Entry `j` of the sink row is the `j`-th sink. -/
theorem sink_at (c : Dev nD) (j : Fin 16) (j' : Fin 128) (e : j'.val = j.val) : (V m c main_v4 : FVec Ideal S1x128 .f32) (ix2 0 j') = (m ((c : Thread nD τ).loc main_arg3) : FVec Ideal S16 .f32) (ix1 j) :=
  (congrFun (entry_sink m c) _).trans (sink_read _ _ words_zero _ j j' e)

end Cert.KernelIdeal.Row

end
-- ==== Proof.AttnOut.lean ====
/-
  The output block of one grid point of the attention: sixteen tiles, one per head, each cut from the rows of its group of
  four heads.
-/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Row

open Cert.KernelIdeal Cert.KernelIdeal.Gen

/-- What one group of four heads computes from its tiles. -/
def head (mask : IVec S512x384 1) (q0 q1 q2 q3 k1 k2 k3 v1 v2 v3 : Vec Ideal S128x128 .bf16) (kx vx : Vec Ideal S256x128 .bf16) (s0 s1 s2 s3 : Vec Ideal S1x1 .f32) : FVec Ideal S512x128 .f32 :=
  k0_pay14 (F := Ideal) (k0_pay8 (F := Ideal) v1 v2 v3) (k0_pay9 (F := Ideal) mask (k0_pay7 (F := Ideal) q0 q1 q2 q3) k1 k2 k3) (k0_pay10 (F := Ideal) (k0_pay7 (F := Ideal) q0 q1 q2 q3) kx) (k0_pay11 (F := Ideal) s0 s1 s2 s3)
    (k0_pay12 (F := Ideal) mask (k0_pay7 (F := Ideal) q0 q1 q2 q3) k1 k2 k3) (k0_pay13 (F := Ideal) (k0_pay7 (F := Ideal) q0 q1 q2 q3) kx) vx

/-- Columns `128 j … 128 j + 127` of a block of queries. -/
def qt (x : Vec Ideal S128x2048 .bf16) (j : Fin 16) : Vec Ideal S128x128 .bf16 := fun i => x (ix2 ⟨(i 0).val, (i 0).isLt⟩ ⟨j.val * 128 + (i 1).val, by have := (i 1).isLt; change _ < 128 at this; omega⟩)

/-- Columns `128 h … 128 h + 127` of a block of keys or values. -/
def kt (x : Vec Ideal S128x512 .bf16) (h : Fin 4) : Vec Ideal S128x128 .bf16 := fun i => x (ix2 ⟨(i 0).val, (i 0).isLt⟩ ⟨h.val * 128 + (i 1).val, by have := (i 1).isLt; change _ < 128 at this; omega⟩)

/-- Columns `128 h … 128 h + 127` of a block of the context. -/
def xt (x : Vec Ideal S256x512 .bf16) (h : Fin 4) : Vec Ideal S256x128 .bf16 := fun i => x (ix2 ⟨(i 0).val, (i 0).isLt⟩ ⟨h.val * 128 + (i 1).val, by have := (i 1).isLt; change _ < 128 at this; omega⟩)

/-- Entry `j` of the sink row. -/
def st (x : Vec Ideal S1x128 .f32) (j : Fin 16) : Vec Ideal S1x1 .f32 := fun i => x (ix2 0 ⟨j.val + (i 1).val, by have := (i 1).isLt; change _ < 1 at this; omega⟩)

/-- Head `g` of group `h`. -/
def hd (h g : Fin 4) : Fin 16 := ⟨h.val * 4 + g.val, by omega⟩

/-- What grid point `i` computes for heads `4 h … 4 h + 3` from its blocks. -/
def group (i : grid0.Coords) (x0 : Vec Ideal S128x2048 .bf16) (x1 x2 x3 x4 x5 x6 : Vec Ideal S128x512 .bf16) (x7 x8 : Vec Ideal S256x512 .bf16) (x9 : Vec Ideal S1x128 .f32) (h : Fin 4) : FVec Ideal S512x128 .f32 :=
  head (k0_pay6 i) (qt x0 (hd h 0)) (qt x0 (hd h 1)) (qt x0 (hd h 2)) (qt x0 (hd h 3))
    (kt x1 h) (kt x2 h) (kt x3 h) (kt x4 h) (kt x5 h) (kt x6 h) (xt x7 h) (xt x8 h)
    (st x9 (hd h 0)) (st x9 (hd h 1)) (st x9 (hd h 2)) (st x9 (hd h 3))

/-- The kernel's load of a head's queries. -/
theorem ldq (x : Vec Ideal S128x2048 .bf16) (j : Fin 16) (inb : ∀ a, (![0, j.val * 128] : Fin 2 → ℕ) a + S128x128.size a ≤ S128x2048.size a) :
    View.ld x (Rect.unit (s := S128x2048) ![0, j.val * 128] S128x128.size inb) = qt x j := by
  funext i; pointwise [qt]

/-- The kernel's load of a head's keys or values. -/
theorem ldk (x : Vec Ideal S128x512 .bf16) (j : Fin 4) (inb : ∀ a, (![0, j.val * 128] : Fin 2 → ℕ) a + S128x128.size a ≤ S128x512.size a) :
    View.ld x (Rect.unit (s := S128x512) ![0, j.val * 128] S128x128.size inb) = kt x j := by
  funext i; pointwise [kt]

/-- The kernel's load of a head's context. -/
theorem ldx (x : Vec Ideal S256x512 .bf16) (j : Fin 4) (inb : ∀ a, (![0, j.val * 128] : Fin 2 → ℕ) a + S256x128.size a ≤ S256x512.size a) :
    View.ld x (Rect.unit (s := S256x512) ![0, j.val * 128] S256x128.size inb) = xt x j := by
  funext i; pointwise [xt]

/-- The kernel's load of a head's sink. -/
theorem lds (x : Vec Ideal S1x128 .f32) (j : Fin 16) (inb : ∀ a, (![0, j.val] : Fin 2 → ℕ) a + S1x1.size a ≤ S1x128.size a) :
    View.ld x (Rect.unit (s := S1x128) ![0, j.val] S1x1.size inb) = st x j := by
  funext i; pointwise [st]

/-- Four heads' tile of the output. -/
def tile (Y : FVec Ideal S512x128 .f32) (o : ℕ) (h : Shape.Slices S512x128 ![o, 0] S128x128) : FVec Ideal S128x128 .bf16 :=
  truncf .bf16 (extractStridedSlice S128x128 ![o, 0] Y h) bitsLt_bf16_f32

variable (i : grid0.Coords) (x0 : Vec Ideal S128x2048 .bf16) (x1 x2 x3 x4 x5 x6 : Vec Ideal S128x512 .bf16) (x7 x8 : Vec Ideal S256x512 .bf16) (x9 : Vec Ideal S1x128 .f32)

/-- The group computed from the kernel's loads. -/
theorem group_eq (h : Fin 4) (iq0 iq1 iq2 iq3 ik ix js0 js1 js2 js3) :
    head (k0_pay6 i) (View.ld x0 (Rect.unit (s := S128x2048) ![0, (hd h 0).val * 128] S128x128.size iq0))
      (View.ld x0 (Rect.unit (s := S128x2048) ![0, (hd h 1).val * 128] S128x128.size iq1))
      (View.ld x0 (Rect.unit (s := S128x2048) ![0, (hd h 2).val * 128] S128x128.size iq2))
      (View.ld x0 (Rect.unit (s := S128x2048) ![0, (hd h 3).val * 128] S128x128.size iq3))
      (View.ld x1 (Rect.unit (s := S128x512) ![0, h.val * 128] S128x128.size ik)) (View.ld x2 (Rect.unit (s := S128x512) ![0, h.val * 128] S128x128.size ik)) (View.ld x3 (Rect.unit (s := S128x512) ![0, h.val * 128] S128x128.size ik))
      (View.ld x4 (Rect.unit (s := S128x512) ![0, h.val * 128] S128x128.size ik)) (View.ld x5 (Rect.unit (s := S128x512) ![0, h.val * 128] S128x128.size ik)) (View.ld x6 (Rect.unit (s := S128x512) ![0, h.val * 128] S128x128.size ik))
      (View.ld x7 (Rect.unit (s := S256x512) ![0, h.val * 128] S256x128.size ix)) (View.ld x8 (Rect.unit (s := S256x512) ![0, h.val * 128] S256x128.size ix))
      (View.ld x9 (Rect.unit (s := S1x128) ![0, (hd h 0).val] S1x1.size js0)) (View.ld x9 (Rect.unit (s := S1x128) ![0, (hd h 1).val] S1x1.size js1))
      (View.ld x9 (Rect.unit (s := S1x128) ![0, (hd h 2).val] S1x1.size js2)) (View.ld x9 (Rect.unit (s := S1x128) ![0, (hd h 3).val] S1x1.size js3))
      = group i x0 x1 x2 x3 x4 x5 x6 x7 x8 x9 h := by
  unfold group
  rw [ldq, ldq, ldq, ldq, ldk, ldk, ldk, ldk, ldk, ldk, ldx, ldx, lds, lds, lds, lds]

/-- The kernel's text for heads 12 to 15. -/
theorem group3 : k0_pay1 (k0_pay73 i x0 x1 x2 x3 x4 x5 x6 x7 x8 x9) (k0_pay74 i x0 x1 x2 x3 x4 x5 x6 x7 x8 x9) (k0_pay75 i x0 x1 x2 x3 x4 x5 x6 x7 x8 x9) = group i x0 x1 x2 x3 x4 x5 x6 x7 x8 x9 3 :=
  group_eq i x0 x1 x2 x3 x4 x5 x6 x7 x8 x9 3 inb_S128x2048_S128x128_0_1536 inb_S128x2048_S128x128_0_1664 inb_S128x2048_S128x128_0_1792 inb_S128x2048_S128x128_0_1920 inb_S128x512_S128x128_0_384 inb_S256x512_S256x128_0_384 inb_S1x128_S1x1_0_12 inb_S1x128_S1x1_0_13 inb_S1x128_S1x1_0_14 inb_S1x128_S1x1_0_15

/-- The kernel's text for heads 8 to 11. -/
theorem group2 : k0_pay70 i x0 x1 x2 x3 x4 x5 x6 x7 x8 x9 = group i x0 x1 x2 x3 x4 x5 x6 x7 x8 x9 2 :=
  group_eq i x0 x1 x2 x3 x4 x5 x6 x7 x8 x9 2 inb_S128x2048_S128x128_0_1024 inb_S128x2048_S128x128_0_1152 inb_S128x2048_S128x128_0_1280 inb_S128x2048_S128x128_0_1408 inb_S128x512_S128x128_0_256 inb_S256x512_S256x128_0_256 inb_S1x128_S1x1_0_8 inb_S1x128_S1x1_0_9 inb_S1x128_S1x1_0_10 inb_S1x128_S1x1_0_11

/-- The kernel's text for heads 4 to 7. -/
theorem group1 : k0_pay26 (k0_pay60 i x0 x1 x2 x3 x4 x5 x6 x7 x8 x9) (k0_pay61 i x0 x1 x2 x3 x4 x5 x6 x7 x8 x9) (k0_pay62 i x0 x1 x2 x3 x4 x5 x6 x7 x8 x9) (k0_pay63 i x0 x1 x2 x3 x4 x5 x6 x7 x8 x9) (k0_pay64 i x0 x1 x2 x3 x4 x5 x6 x7 x8 x9) (k0_pay65 i x0 x1 x2 x3 x4 x5 x6 x7 x8 x9) (View.ld x9 r0_19) (View.ld x8 r0_15) = group i x0 x1 x2 x3 x4 x5 x6 x7 x8 x9 1 :=
  group_eq i x0 x1 x2 x3 x4 x5 x6 x7 x8 x9 1 inb_S128x2048_S128x128_0_512 inb_S128x2048_S128x128_0_640 inb_S128x2048_S128x128_0_768 inb_S128x2048_S128x128_0_896 inb_S128x512_S128x128_0_128 inb_S256x512_S256x128_0_128 inb_S1x128_S1x1_0_4 inb_S1x128_S1x1_0_5 inb_S1x128_S1x1_0_6 inb_S1x128_S1x1_0_7

/-- The kernel's text for heads 0 to 3. -/
theorem group0 : k0_pay14 (k0_pay54 i x0 x1 x2 x3 x4 x5 x6 x7 x8 x9) (k0_pay55 i x0 x1 x2 x3 x4 x5 x6 x7 x8 x9) (k0_pay56 i x0 x1 x2 x3 x4 x5 x6 x7 x8 x9) (k0_pay57 i x0 x1 x2 x3 x4 x5 x6 x7 x8 x9) (k0_pay58 i x0 x1 x2 x3 x4 x5 x6 x7 x8 x9) (k0_pay59 i x0 x1 x2 x3 x4 x5 x6 x7 x8 x9) (View.ld x8 r0_5) = group i x0 x1 x2 x3 x4 x5 x6 x7 x8 x9 0 :=
  group_eq i x0 x1 x2 x3 x4 x5 x6 x7 x8 x9 0 inb_S128x2048_S128x128_0_0 inb_S128x2048_S128x128_0_128 inb_S128x2048_S128x128_0_256 inb_S128x2048_S128x128_0_384 inb_S128x512_S128x128_0_0 inb_S256x512_S256x128_0_0 inb_S1x128_S1x1_0_0 inb_S1x128_S1x1_0_1 inb_S1x128_S1x1_0_2 inb_S1x128_S1x1_0_3

/-- The output block: sixteen tiles, four from each group. -/
theorem out_pieces : out0_10 (F := Ideal) i x0 x1 x2 x3 x4 x5 x6 x7 x8 x9 = View.canon [⟨r0_33, tile (group i x0 x1 x2 x3 x4 x5 x6 x7 x8 x9 3) 384 slices_S512x128_o384_0_S128x128⟩,
    ⟨r0_32, tile (group i x0 x1 x2 x3 x4 x5 x6 x7 x8 x9 3) 256 slices_S512x128_o256_0_S128x128⟩,
    ⟨r0_31, tile (group i x0 x1 x2 x3 x4 x5 x6 x7 x8 x9 3) 128 slices_S512x128_o128_0_S128x128⟩,
    ⟨r0_30, tile (group i x0 x1 x2 x3 x4 x5 x6 x7 x8 x9 3) 0 slices_S512x128_o0_0_S128x128⟩,
    ⟨r0_23, tile (group i x0 x1 x2 x3 x4 x5 x6 x7 x8 x9 2) 384 slices_S512x128_o384_0_S128x128⟩,
    ⟨r0_22, tile (group i x0 x1 x2 x3 x4 x5 x6 x7 x8 x9 2) 256 slices_S512x128_o256_0_S128x128⟩,
    ⟨r0_21, tile (group i x0 x1 x2 x3 x4 x5 x6 x7 x8 x9 2) 128 slices_S512x128_o128_0_S128x128⟩,
    ⟨r0_20, tile (group i x0 x1 x2 x3 x4 x5 x6 x7 x8 x9 2) 0 slices_S512x128_o0_0_S128x128⟩,
    ⟨r0_13, tile (group i x0 x1 x2 x3 x4 x5 x6 x7 x8 x9 1) 384 slices_S512x128_o384_0_S128x128⟩,
    ⟨r0_12, tile (group i x0 x1 x2 x3 x4 x5 x6 x7 x8 x9 1) 256 slices_S512x128_o256_0_S128x128⟩,
    ⟨r0_11, tile (group i x0 x1 x2 x3 x4 x5 x6 x7 x8 x9 1) 128 slices_S512x128_o128_0_S128x128⟩,
    ⟨r0_10, tile (group i x0 x1 x2 x3 x4 x5 x6 x7 x8 x9 1) 0 slices_S512x128_o0_0_S128x128⟩,
    ⟨r0_3, tile (group i x0 x1 x2 x3 x4 x5 x6 x7 x8 x9 0) 384 slices_S512x128_o384_0_S128x128⟩,
    ⟨r0_2, tile (group i x0 x1 x2 x3 x4 x5 x6 x7 x8 x9 0) 256 slices_S512x128_o256_0_S128x128⟩,
    ⟨r0_1, tile (group i x0 x1 x2 x3 x4 x5 x6 x7 x8 x9 0) 128 slices_S512x128_o128_0_S128x128⟩,
    ⟨r0_0, tile (group i x0 x1 x2 x3 x4 x5 x6 x7 x8 x9 0) 0 slices_S512x128_o0_0_S128x128⟩] := by
  rw [← group3, ← group2, ← group1, ← group0]
  rfl

/-- The tile of heads `4 h … 4 h + 3` and offset `g` reads the rows of group `h`. -/
theorem tile_at (Y : FVec Ideal S512x128 .f32) (o : ℕ) (h : Shape.Slices S512x128 ![o, 0] S128x128) (a d : Fin 128) (ho : o + a.val < 512) :
    tile Y o h (ix2 a d) = Y (ix2 ⟨o + a.val, ho⟩ d) := by
  pointwise [tile]

/-- A tile of the output at a position of the block: the row of its own heads. -/
theorem piece_at (K : Fin 4) (o : ℕ) (hs : Shape.Slices S512x128 ![o, 0] S128x128) (y : S128x2048.Idx) (x : S128x128.Idx) (h g : Fin 4) (a d : Fin 128)
    (h0 : (y 0).val = a.val) (h1 : (y 1).val = (h.val * 4 + g.val) * 128 + d.val) (hx0 : (y 0).val = (x 0).val) (hx1 : (y 1).val = K.val * 512 + o + (x 1).val)
    (lt : (x 1).val < 128) (ho : o % 128 = 0 ∧ o < 512) :
    tile (group i x0 x1 x2 x3 x4 x5 x6 x7 x8 x9 K) o hs x = group i x0 x1 x2 x3 x4 x5 x6 x7 x8 x9 h (ix2 ⟨g.val * 128 + a.val, by omega⟩ d) := by
  obtain rfl : K = h := Fin.ext (by omega)
  have e : x = ix2 a d := (eq_ix2 x).trans ((ix2_inj ..).2 ⟨Fin.ext (by omega), Fin.ext (by omega)⟩)
  refine (congrArg _ e).trans ((tile_at _ _ _ _ _ (by omega)).trans ?_)
  exact congrArg (fun r => group i x0 x1 x2 x3 x4 x5 x6 x7 x8 x9 K (ix2 r d)) (Fin.ext (by show o + a.val = g.val * 128 + a.val; omega))

set_option maxHeartbeats 8000000 in
/-- The output block at one position: the row of its own head. -/
theorem out_eq (y : S128x2048.Idx) (h g : Fin 4) (a d : Fin 128) (h0 : (y 0).val = a.val) (h1 : (y 1).val = (h.val * 4 + g.val) * 128 + d.val) :
    out0_10 (F := Ideal) i x0 x1 x2 x3 x4 x5 x6 x7 x8 x9 y = group i x0 x1 x2 x3 x4 x5 x6 x7 x8 x9 h (ix2 ⟨g.val * 128 + a.val, by omega⟩ d) := by
  rw [out_pieces]
  canon_tiles y yy
  all_goals exact piece_at _ _ _ _ _ _ _ _ _ _ _ _ _ _ _ _ _ _ _ _ h0 h1 yy0 (by omega) y1_lt (by decide)

end Cert.KernelIdeal.Row

end
-- ==== Proof.AttnValue.lean ====
/-
  The attention. Grid point `t` takes block `t` of 128 queries of all sixteen heads, the keys and values of that block, of the
  one before and of the one after, the context of its half and the sinks. This file shows that the whole result array is the
  reference's.
-/
module

public import proofs.«01_k».proof.Proof.AttnRef
public import proofs.«01_k».proof.Proof.AttnTile
public import proofs.«01_k».proof.Proof.AttnOut
public import Idealize.ShloMosaic.Lib.Pipeline.ValueKit
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Row

open Cert.KernelIdeal Cert.KernelIdeal.Gen
open Cert.Row (Seen NEG after before)
open Cert.ReferenceIdeal.Row (band ctx query scores ctxScores)

/-- What a group of heads computes, at head `g`, query `a` and column `d`: the row of scores and weights. -/
theorem group_at (i : grid0.Coords) (n : Fin 64) (hn : (i 1).val = n.val) (x0 : Vec Ideal S128x2048 .bf16) (x1 x2 x3 x4 x5 x6 : Vec Ideal S128x512 .bf16) (x7 x8 : Vec Ideal S256x512 .bf16) (x9 : Vec Ideal S1x128 .f32)
    (h g : Fin 4) (a d : Fin 128) :
    group i x0 x1 x2 x3 x4 x5 x6 x7 x8 x9 h (ix2 ⟨g.val * 128 + a.val, by omega⟩ d)
      = after (fun k => Scalar.select (BitVec.ofBool (decide (Seen n a k))) (∑ e : Fin 128, (qt x0 (hd h g) (ix2 a e) : EReal) * k0_pay8 (F := Ideal) (kt x1 h) (kt x2 h) (kt x3 h) (ix2 k e)) NEG)
          (fun k => ∑ e : Fin 128, (qt x0 (hd h g) (ix2 a e) : EReal) * xt x7 h (ix2 k e)) (st x9 (hd h g) (ix2 0 0))
          (fun k => k0_pay8 (F := Ideal) (kt x4 h) (kt x5 h) (kt x6 h) (ix2 k d)) (fun k => xt x8 h (ix2 k d)) := by
  have hq : ∀ e, k0_pay7 (F := Ideal) (qt x0 (hd h 0)) (qt x0 (hd h 1)) (qt x0 (hd h 2)) (qt x0 (hd h 3)) (ix2 ⟨g.val * 128 + a.val, by omega⟩ e) = qt x0 (hd h g) (ix2 a e) :=
    fun e => pay7_at (fun g => qt x0 (hd h g)) g a e _ rfl
  have hS : ∀ k, k0_pay9 (F := Ideal) (k0_pay6 i) (k0_pay7 (F := Ideal) (qt x0 (hd h 0)) (qt x0 (hd h 1)) (qt x0 (hd h 2)) (qt x0 (hd h 3))) (kt x1 h) (kt x2 h) (kt x3 h) (ix2 ⟨g.val * 128 + a.val, by omega⟩ k)
      = Scalar.select (BitVec.ofBool (decide (Seen n a k))) (∑ e : Fin 128, (qt x0 (hd h g) (ix2 a e) : EReal) * k0_pay8 (F := Ideal) (kt x1 h) (kt x2 h) (kt x3 h) (ix2 k e)) NEG := fun k => by
    rw [pay9_at, pay6_at i n hn g a _ rfl k]
    exact congrArg (fun t => Scalar.select _ t NEG) (Finset.sum_congr rfl fun e _ => by rw [hq])
  have hC : ∀ k, k0_pay10 (F := Ideal) (k0_pay7 (F := Ideal) (qt x0 (hd h 0)) (qt x0 (hd h 1)) (qt x0 (hd h 2)) (qt x0 (hd h 3))) (xt x7 h) (ix2 ⟨g.val * 128 + a.val, by omega⟩ k)
      = ∑ e : Fin 128, (qt x0 (hd h g) (ix2 a e) : EReal) * xt x7 h (ix2 k e) := fun k => by
    rw [pay10_at]
    exact Finset.sum_congr rfl fun e _ => by rw [hq]
  unfold group head
  refine pay14_at _ _ _ _ _ _ _ _ _ _ _ _ _ _ hS hC (pay11_at (fun g => st x9 (hd h g)) g a _ rfl) ?_ ?_ (fun _ => rfl) (fun _ => rfl)
  · exact (pay12_at _ _ _ _ _ _).trans (congrArg (Finset.univ.fold max NEG) (funext hS))
  · exact (pay13_at _ _ _).trans (congrArg (Finset.univ.fold max NEG) (funext hC))

variable (m : (ℓ : Loc nD τ sig) → Buf (Elt Ideal) ℓ)

/-- Which block of its array each window holds at point `t`: `t / 64` is the half, `t % 64` the block in it. -/
theorem idx : ∀ t : Fin cfg0.N, win0_0.index t = ![t.val, 0]
    ∧ win0_1.index t = ![t.val / 64 * 64 + (t.val % 64 - 1), 0] ∧ win0_2.index t = ![t.val, 0] ∧ win0_3.index t = ![t.val / 64 * 64 + min (t.val % 64 + 1) 63, 0]
    ∧ win0_4.index t = ![t.val / 64 * 64 + (t.val % 64 - 1), 0] ∧ win0_5.index t = ![t.val, 0] ∧ win0_6.index t = ![t.val / 64 * 64 + min (t.val % 64 + 1) 63, 0]
    ∧ win0_7.index t = ![64 + t.val / 64, 0] ∧ win0_8.index t = ![64 + t.val / 64, 0] ∧ win0_9.index t = ![0, 0] ∧ win0_10.index t = ![t.val, 0]
    ∧ (grid0.coords t 1).val = t.val % 64 :=
  (by decide +kernel : ∀ t : Fin grid0.N, _)

/-- Two reads of the queries agree when row and column are the same numbers. -/
theorem read_q (x : FVec Ideal S16384x2048 .bf16) (r r' : Fin 16384) (j j' : Fin 2048) (h0 : r.val = r'.val) (h1 : j.val = j'.val) : x (ix2 r j) = x (ix2 r' j') := by
  rw [Fin.ext h0, Fin.ext h1]

/-- Two reads of the keys agree when row and column are the same numbers. -/
theorem read_k (x : FVec Ideal S16896x512 .bf16) (r r' : Fin 16896) (j j' : Fin 512) (h0 : r.val = r'.val) (h1 : j.val = j'.val) : x (ix2 r j) = x (ix2 r' j') := by
  rw [Fin.ext h0, Fin.ext h1]

/-- There are 128 grid points. -/
theorem lt_N (t : Fin cfg0.N) : t.val < 128 := lt_of_lt_of_eq t.isLt (by decide)

/-- The half of a grid point. -/
def bt (t : Fin cfg0.N) : Fin 2 := ⟨t.val / 64, by have := lt_N t; omega⟩

/-- The block of a grid point in its half. -/
def nt (t : Fin cfg0.N) : Fin 64 := ⟨t.val % 64, by omega⟩

/-- The queries of a grid point's block. -/
theorem q_at (c : Dev nD) (t : Fin cfg0.N) (h g : Fin 4) (a e : Fin 128) :
    qt (iblk m c 0 t) (hd h g) (ix2 a e) = query (m ((c : Thread nD τ).loc main_arg0)) (bt t) (nt t) a h g e := by
  have ht := lt_N t
  refine Eq.trans (b := (m ((c : Thread nD τ).loc main_arg0) : FVec Ideal S16384x2048 .bf16) (ix2 ⟨t.val * 128 + a.val, by omega⟩ ⟨(hd h g).val * 128 + e.val, by have := (hd h g).isLt; omega⟩)) ?_ ?_
  · blk_ext [qt, iblk, V_main_arg0, idx t]
  · exact read_q _ _ _ _ _ (by show t.val * 128 + a.val = (t.val / 64 * 64 + t.val % 64) * 128 + a.val; omega) rfl

/-- The keys of the block before. -/
theorem kp_at (c : Dev nD) (t : Fin cfg0.N) (h : Fin 4) (a : Fin 128) (e : Fin 128) :
    kt (iblk m c 1 t) h (ix2 a e) = (m ((c : Thread nD τ).loc main_arg1) : FVec Ideal S16896x512 .bf16) (ix2 ⟨(t.val / 64 * 64 + (t.val % 64 - 1)) * 128 + a.val, by have := lt_N t; omega⟩ ⟨h.val * 128 + e.val, by omega⟩) := by
  blk_ext [kt, iblk, V_main_arg1, idx t]

/-- The keys of the block itself. -/
theorem kc_at (c : Dev nD) (t : Fin cfg0.N) (h : Fin 4) (a : Fin 128) (e : Fin 128) :
    kt (iblk m c 2 t) h (ix2 a e) = (m ((c : Thread nD τ).loc main_arg1) : FVec Ideal S16896x512 .bf16) (ix2 ⟨t.val * 128 + a.val, by have := lt_N t; omega⟩ ⟨h.val * 128 + e.val, by omega⟩) := by
  blk_ext [kt, iblk, V_main_arg1, idx t]

/-- The keys of the block after. -/
theorem kn_at (c : Dev nD) (t : Fin cfg0.N) (h : Fin 4) (a : Fin 128) (e : Fin 128) :
    kt (iblk m c 3 t) h (ix2 a e) = (m ((c : Thread nD τ).loc main_arg1) : FVec Ideal S16896x512 .bf16) (ix2 ⟨(t.val / 64 * 64 + min (t.val % 64 + 1) 63) * 128 + a.val, by have := lt_N t; omega⟩ ⟨h.val * 128 + e.val, by omega⟩) := by
  blk_ext [kt, iblk, V_main_arg1, idx t]

/-- The context's keys. -/
theorem kx_at (c : Dev nD) (t : Fin cfg0.N) (h : Fin 4) (a : Fin 256) (e : Fin 128) :
    xt (iblk m c 7 t) h (ix2 a e) = (m ((c : Thread nD τ).loc main_arg1) : FVec Ideal S16896x512 .bf16) (ix2 ⟨(64 + t.val / 64) * 256 + a.val, by have := lt_N t; omega⟩ ⟨h.val * 128 + e.val, by omega⟩) := by
  blk_ext [xt, iblk, V_main_arg1, idx t]

/-- The values of the block before. -/
theorem vp_at (c : Dev nD) (t : Fin cfg0.N) (h : Fin 4) (a : Fin 128) (e : Fin 128) :
    kt (iblk m c 4 t) h (ix2 a e) = (m ((c : Thread nD τ).loc main_arg2) : FVec Ideal S16896x512 .bf16) (ix2 ⟨(t.val / 64 * 64 + (t.val % 64 - 1)) * 128 + a.val, by have := lt_N t; omega⟩ ⟨h.val * 128 + e.val, by omega⟩) := by
  blk_ext [kt, iblk, V_main_arg2, idx t]

/-- The values of the block itself. -/
theorem vc_at (c : Dev nD) (t : Fin cfg0.N) (h : Fin 4) (a : Fin 128) (e : Fin 128) :
    kt (iblk m c 5 t) h (ix2 a e) = (m ((c : Thread nD τ).loc main_arg2) : FVec Ideal S16896x512 .bf16) (ix2 ⟨t.val * 128 + a.val, by have := lt_N t; omega⟩ ⟨h.val * 128 + e.val, by omega⟩) := by
  blk_ext [kt, iblk, V_main_arg2, idx t]

/-- The values of the block after. -/
theorem vn_at (c : Dev nD) (t : Fin cfg0.N) (h : Fin 4) (a : Fin 128) (e : Fin 128) :
    kt (iblk m c 6 t) h (ix2 a e) = (m ((c : Thread nD τ).loc main_arg2) : FVec Ideal S16896x512 .bf16) (ix2 ⟨(t.val / 64 * 64 + min (t.val % 64 + 1) 63) * 128 + a.val, by have := lt_N t; omega⟩ ⟨h.val * 128 + e.val, by omega⟩) := by
  blk_ext [kt, iblk, V_main_arg2, idx t]

/-- The context's values. -/
theorem vx_at (c : Dev nD) (t : Fin cfg0.N) (h : Fin 4) (a : Fin 256) (e : Fin 128) :
    xt (iblk m c 8 t) h (ix2 a e) = (m ((c : Thread nD τ).loc main_arg2) : FVec Ideal S16896x512 .bf16) (ix2 ⟨(64 + t.val / 64) * 256 + a.val, by have := lt_N t; omega⟩ ⟨h.val * 128 + e.val, by omega⟩) := by
  blk_ext [xt, iblk, V_main_arg2, idx t]

/-- The row of the keys or values at a position of the band, from the three blocks. -/
theorem band_of (x : FVec Ideal S16896x512 .bf16) (t : Fin cfg0.N) (h : Fin 4) (k1 k2 k3 : Vec Ideal S128x128 .bf16)
    (h1 : ∀ a e, k1 (ix2 a e) = x (ix2 ⟨(t.val / 64 * 64 + (t.val % 64 - 1)) * 128 + a.val, by have := lt_N t; omega⟩ ⟨h.val * 128 + e.val, by omega⟩))
    (h2 : ∀ a e, k2 (ix2 a e) = x (ix2 ⟨t.val * 128 + a.val, by have := lt_N t; omega⟩ ⟨h.val * 128 + e.val, by omega⟩))
    (h3 : ∀ a e, k3 (ix2 a e) = x (ix2 ⟨(t.val / 64 * 64 + min (t.val % 64 + 1) 63) * 128 + a.val, by have := lt_N t; omega⟩ ⟨h.val * 128 + e.val, by omega⟩))
    (q : Fin 128) (k : Fin 384) (e : Fin 128) (hk : Seen (nt t) q k) : k0_pay8 (F := Ideal) k1 k2 k3 (ix2 k e) = band x (bt t) (nt t) k h e := by
  have ht := lt_N t
  have hk' : 128 ≤ t.val % 64 * 128 + k.val ∧ t.val % 64 * 128 + k.val < 8320 := hk.2
  rw [pay8_at]
  unfold band
  rw [dif_pos hk.2]
  split_ifs with g1 g2
  · exact (h1 _ _).trans (read_k _ _ _ _ _ (by show (t.val / 64 * 64 + (t.val % 64 - 1)) * 128 + k.val = t.val / 64 * 8192 + (t.val % 64 * 128 + k.val - 128); omega) rfl)
  · exact (h2 _ _).trans (read_k _ _ _ _ _ (by show t.val * 128 + (k.val - 128) = t.val / 64 * 8192 + (t.val % 64 * 128 + k.val - 128); omega) rfl)
  · exact (h3 _ _).trans (read_k _ _ _ _ _ (by show (t.val / 64 * 64 + min (t.val % 64 + 1) 63) * 128 + (k.val - 128 - 128) = t.val / 64 * 8192 + (t.val % 64 * 128 + k.val - 128); omega) rfl)

/-- The sink of a head. -/
theorem s_at (c : Dev nD) (t : Fin cfg0.N) (h g : Fin 4) :
    st (iblk m c 9 t) (hd h g) (ix2 0 0) = (m ((c : Thread nD τ).loc main_arg3) : FVec Ideal S16 .f32) (ix1 ⟨h.val * 4 + g.val, by omega⟩) := by
  refine Eq.trans ?_ (sink_at m c ⟨h.val * 4 + g.val, by omega⟩ ⟨h.val * 4 + g.val, by omega⟩ rfl)
  blk_ext [st, hd, iblk, idx t]

/-- A choice depends on its first branch only where the condition holds. -/
theorem select_congr (p : Prop) [Decidable p] (x x' y : EReal) (h : p → x = x') :
    Scalar.select (BitVec.ofBool (decide p)) x y = Scalar.select (BitVec.ofBool (decide p)) x' y := by
  by_cases hp : p
  · rw [h hp]
  · simp [hp, Scalar.select]

/-- The score of a position that is not seen. -/
theorem select_neg (p : Prop) [Decidable p] (x y : EReal) (h : ¬ p) : Scalar.select (BitVec.ofBool (decide p)) x y = y := by
  simp [h, Scalar.select]

/-- What grid point `t` computes for a head at one row and column is the reference's result there. -/
theorem row_eq (c : Dev nD) (t : Fin cfg0.N) (h g : Fin 4) (a d : Fin 128) (r : Fin 16384) (j : Fin 2048) (hr : r.val = t.val * 128 + a.val) (hj : j.val = (h.val * 4 + g.val) * 128 + d.val) :
    group (grid0.coords t) (iblk m c 0 t) (iblk m c 1 t) (iblk m c 2 t) (iblk m c 3 t) (iblk m c 4 t) (iblk m c 5 t) (iblk m c 6 t) (iblk m c 7 t) (iblk m c 8 t) (iblk m c 9 t) h (ix2 ⟨g.val * 128 + a.val, by omega⟩ d)
      = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (ix2 r j) := by
  have ht := lt_N t
  rw [group_at _ (nt t) (idx t).2.2.2.2.2.2.2.2.2.2.2,
    Cert.ReferenceIdeal.Row.ref_at _ _ _ _ (bt t) (nt t) a h g d r j (by show r.val = (t.val / 64 * 64 + t.val % 64) * 128 + a.val; omega) hj]
  have hs : (fun k => Scalar.select (BitVec.ofBool (decide (Seen (nt t) a k))) (∑ e : Fin 128, (qt (iblk m c 0 t) (hd h g) (ix2 a e) : EReal) * k0_pay8 (F := Ideal) (kt (iblk m c 1 t) h) (kt (iblk m c 2 t) h) (kt (iblk m c 3 t) h) (ix2 k e)) NEG)
      = scores (m ((c : Thread nD τ).loc main_arg0)) (m ((c : Thread nD τ).loc main_arg1)) (bt t) (nt t) a h g := funext fun k => by
    refine select_congr _ _ _ _ fun hk => Finset.sum_congr rfl fun e _ => ?_
    rw [q_at, band_of _ t h _ _ _ (kp_at m c t h) (kc_at m c t h) (kn_at m c t h) a k e hk, mul_comm]
  have hc : (fun k => ∑ e : Fin 128, (qt (iblk m c 0 t) (hd h g) (ix2 a e) : EReal) * xt (iblk m c 7 t) h (ix2 k e))
      = ctxScores (m ((c : Thread nD τ).loc main_arg0)) (m ((c : Thread nD τ).loc main_arg1)) (bt t) (nt t) a h g := funext fun k => by
    refine Finset.sum_congr rfl fun e _ => ?_
    rw [q_at, kx_at, mul_comm]
    exact congrArg (· * query _ _ _ _ _ _ _) (read_k _ _ _ _ _ (by show (64 + t.val / 64) * 256 + k.val = 16384 + (t.val / 64 * 256 + k.val); omega) rfl)
  have hw : (fun k => xt (iblk m c 8 t) h (ix2 k d)) = fun k => ctx (m ((c : Thread nD τ).loc main_arg2)) (bt t) k h d := funext fun k => by
    rw [vx_at]
    exact read_k _ _ _ _ _ (by show (64 + t.val / 64) * 256 + k.val = 16384 + (t.val / 64 * 256 + k.val); omega) rfl
  rw [hs, hc, hw, s_at]
  refine Cert.Row.after_eq_before _ _ _ _ _ _ fun k => ?_
  by_cases hk : Seen (nt t) a k
  · exact .inr (band_of _ t h _ _ _ (vp_at m c t h) (vc_at m c t h) (vn_at m c t h) a k d hk)
  · exact .inl ((select_neg _ _ _ hk).trans Cert.Row.neg_eq)

/-- What the body stores at position `y` of its block is the reference's term at the array position `y` sits at. -/
theorem point (c : Dev nD) (t : Fin cfg0.N) (y : S128x2048.Idx) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) y
      = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (((cfg0.win 10).blk t).view.emb y) := by
  have h0 : (y 0).val < 128 := (y 0).isLt
  have h1 : (y 1).val < 2048 := (y 1).isLt
  have ht := lt_N t
  have e : (((cfg0.win 10).blk t).view.emb y : S16384x2048.Idx) = ix2 ⟨t.val * 128 + (y 0).val, by omega⟩ ⟨(y 1).val, h1⟩ := by
    blk_ext [idx t]
  rw [e]
  refine (out_eq _ _ _ _ _ _ _ _ _ _ _ y ⟨(y 1).val / 512, by omega⟩ ⟨(y 1).val / 128 % 4, by omega⟩ ⟨(y 0).val, h0⟩ ⟨(y 1).val % 128, by omega⟩ rfl ?_).trans ?_
  · show (y 1).val = ((y 1).val / 512 * 4 + (y 1).val / 128 % 4) * 128 + (y 1).val % 128
    omega
  · refine row_eq m c t _ _ _ _ _ _ rfl ?_
    show (y 1).val = ((y 1).val / 512 * 4 + (y 1).val / 128 % 4) * 128 + (y 1).val % 128
    omega

/-- The result array after the run is the reference's term of the arguments. -/
theorem final (c : Dev nD) : (dats m 0 c).arrAt 10 (cfgs 0).N
    = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  exact point m c t y

end Cert.KernelIdeal.Row

end
-- ==== Proof.lean ====
/-
  The claims of this directory, put together: what each program's run leaves (the generated modules), what the result
  arrays hold (the modules under Proof/), and that these are the references' results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.DtProj
public import proofs.«01_k».proof.Proof.Gen.DtProj.Skeleton
public import proofs.«01_k».proof.Proof.Gen.DtProj.Launch
public import proofs.«01_k».proof.Proof.Gen.DtProj.Points
public import proofs.«01_k».proof.Proof.Gen.DtProj.Frame
public import proofs.«01_k».proof.Proof.Gen.DtProjIdeal
public import proofs.«01_k».proof.Proof.Gen.DtProjIdeal.Skeleton
public import proofs.«01_k».proof.Proof.Gen.DtProjIdeal.Launch
public import proofs.«01_k».proof.Proof.Gen.DtProjIdeal.Points
public import proofs.«01_k».proof.Proof.Gen.DtProjIdeal.Frame
public import proofs.«01_k».proof.Proof.Gen.DtProjRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.VCast
public import proofs.«01_k».proof.Proof.Gen.VCast.Skeleton
public import proofs.«01_k».proof.Proof.Gen.VCast.Launch
public import proofs.«01_k».proof.Proof.Gen.VCast.Points
public import proofs.«01_k».proof.Proof.Gen.VCast.Frame
public import proofs.«01_k».proof.Proof.Gen.VCastIdeal
public import proofs.«01_k».proof.Proof.Gen.VCastIdeal.Skeleton
public import proofs.«01_k».proof.Proof.Gen.VCastIdeal.Launch
public import proofs.«01_k».proof.Proof.Gen.VCastIdeal.Points
public import proofs.«01_k».proof.Proof.Gen.VCastIdeal.Frame
public import proofs.«01_k».proof.Proof.Gen.VCastRefIdeal
public import proofs.«01_k».proof.Proof.Gen.GateNorm
public import proofs.«01_k».proof.Proof.Gen.GateNorm.Skeleton
public import proofs.«01_k».proof.Proof.Gen.GateNorm.Launch
public import proofs.«01_k».proof.Proof.Gen.GateNorm.Points
public import proofs.«01_k».proof.Proof.Gen.GateNorm.Frame
public import proofs.«01_k».proof.Proof.Gen.GateNormIdeal
public import proofs.«01_k».proof.Proof.Gen.GateNormIdeal.Skeleton
public import proofs.«01_k».proof.Proof.Gen.GateNormIdeal.Launch
public import proofs.«01_k».proof.Proof.Gen.GateNormIdeal.Points
public import proofs.«01_k».proof.Proof.Gen.GateNormIdeal.Frame
public import proofs.«01_k».proof.Proof.Gen.GateNormRefIdeal
public import proofs.«01_k».proof.Proof.Gen.KPrep
public import proofs.«01_k».proof.Proof.Gen.KPrep.Skeleton
public import proofs.«01_k».proof.Proof.Gen.KPrep.Launch
public import proofs.«01_k».proof.Proof.Gen.KPrep.Points
public import proofs.«01_k».proof.Proof.Gen.KPrep.Frame
public import proofs.«01_k».proof.Proof.Gen.KPrepIdeal
public import proofs.«01_k».proof.Proof.Gen.KPrepIdeal.Skeleton
public import proofs.«01_k».proof.Proof.Gen.KPrepIdeal.Launch
public import proofs.«01_k».proof.Proof.Gen.KPrepIdeal.Points
public import proofs.«01_k».proof.Proof.Gen.KPrepIdeal.Frame
public import proofs.«01_k».proof.Proof.Gen.KPrepRefIdeal
public import proofs.«01_k».proof.Proof.Gen.KPrepIdeal.Value
public import proofs.«01_k».proof.Proof.Gen.KPrepRefIdeal.Run
public import proofs.«01_k».proof.Proof.Gen.KPrepRefIdeal.Read
public import proofs.«01_k».proof.Proof.Gen.QPrep
public import proofs.«01_k».proof.Proof.Gen.QPrep.Skeleton
public import proofs.«01_k».proof.Proof.Gen.QPrep.Launch
public import proofs.«01_k».proof.Proof.Gen.QPrep.Points
public import proofs.«01_k».proof.Proof.Gen.QPrep.Frame
public import proofs.«01_k».proof.Proof.Gen.QPrepIdeal
public import proofs.«01_k».proof.Proof.Gen.QPrepIdeal.Skeleton
public import proofs.«01_k».proof.Proof.Gen.QPrepIdeal.Launch
public import proofs.«01_k».proof.Proof.Gen.QPrepIdeal.Points
public import proofs.«01_k».proof.Proof.Gen.QPrepIdeal.Frame
public import proofs.«01_k».proof.Proof.Gen.QPrepRefIdeal
public import proofs.«01_k».proof.Proof.Gen.QPrepIdeal.Value
public import proofs.«01_k».proof.Proof.Gen.QPrepRefIdeal.Run
public import proofs.«01_k».proof.Proof.Gen.QPrepRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pre_up_experts_named
public import proofs.«01_k».proof.Proof.Gen.Pre_down_experts_named
public import proofs.«01_k».proof.Proof.Gen.KernelIdeal.Value
public import proofs.«01_k».proof.Proof.Gen.InProjIdeal.Value
public import proofs.«01_k».proof.Proof.Gen.MergeIdeal.Value
public import proofs.«01_k».proof.Proof.Gen.OutProjIdeal.Value
public import proofs.«01_k».proof.Proof.Gen.DtProjIdeal.Value
public import proofs.«01_k».proof.Proof.Gen.NormIdeal.Value
public import proofs.«01_k».proof.Proof.Gen.VCastIdeal.Value
public import proofs.«01_k».proof.Proof.Gen.GateNormIdeal.Value
public import proofs.«01_k».proof.Proof.Gen.ReferenceIdeal.Run
public import proofs.«01_k».proof.Proof.Gen.ReferenceIdeal.Read
public import proofs.«01_k».proof.Proof.Gen.InProjRefIdeal.Run
public import proofs.«01_k».proof.Proof.Gen.InProjRefIdeal.Read
public import proofs.«01_k».proof.Proof.Gen.MergeRefIdeal.Run
public import proofs.«01_k».proof.Proof.Gen.MergeRefIdeal.Read
public import proofs.«01_k».proof.Proof.Gen.OutProjRefIdeal.Run
public import proofs.«01_k».proof.Proof.Gen.OutProjRefIdeal.Read
public import proofs.«01_k».proof.Proof.Gen.DtProjRefIdeal.Run
public import proofs.«01_k».proof.Proof.Gen.DtProjRefIdeal.Read
public import proofs.«01_k».proof.Proof.Gen.NormRefIdeal.Run
public import proofs.«01_k».proof.Proof.Gen.NormRefIdeal.Read
public import proofs.«01_k».proof.Proof.Gen.VCastRefIdeal.Run
public import proofs.«01_k».proof.Proof.Gen.VCastRefIdeal.Read
public import proofs.«01_k».proof.Proof.Gen.GateNormRefIdeal.Run
public import proofs.«01_k».proof.Proof.Gen.GateNormRefIdeal.Read
public import proofs.«01_k».proof.Proof.Gen.UpRefIdeal.Run
public import proofs.«01_k».proof.Proof.Gen.UpRefIdeal.Read
public import proofs.«01_k».proof.Proof.Gen.DownRefIdeal.Run
public import proofs.«01_k».proof.Proof.Gen.DownRefIdeal.Read
public import proofs.«01_k».proof.Proof.InProjValue
public import proofs.«01_k».proof.Proof.MergeValue
public import proofs.«01_k».proof.Proof.OutProjValue
public import proofs.«01_k».proof.Proof.DtProjValue
public import proofs.«01_k».proof.Proof.NormValue
public import proofs.«01_k».proof.Proof.VCastValue
public import proofs.«01_k».proof.Proof.GateNormValue
public import proofs.«01_k».proof.Proof.KPrepValue
public import proofs.«01_k».proof.Proof.QPrepValue
public import proofs.«01_k».proof.Proof.UpValue
public import proofs.«01_k».proof.Proof.DownValue
public import proofs.«01_k».proof.Proof.AttnValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference `Reference` runs and leaves its arguments alone; it declares no semaphore. -/
theorem frame_ReferenceIdeal : Cert.quiescent_ReferenceIdeal := fun m ρ _ =>
  (θ_run (Cert.ReferenceIdeal.defs (F := Ideal)) _ _).mono (fun r h => ⟨fun c => (h c).2, Idealize.ShloMosaic.sem_eq_zero_of_no_sems (by decide) r.2⟩)
    (Cert.ReferenceIdeal.Value.run m ρ)
/-- The reference `InProjRef` runs and leaves its arguments alone; it declares no semaphore. -/
theorem frame_InProjRefIdeal : Cert.quiescent_InProjRefIdeal := fun m ρ _ =>
  (θ_run (Cert.InProjRefIdeal.defs (F := Ideal)) _ _).mono (fun r h => ⟨fun c => (h c).2, Idealize.ShloMosaic.sem_eq_zero_of_no_sems (by decide) r.2⟩)
    (Cert.InProjRefIdeal.Value.run m ρ)
/-- The reference `MergeRef` runs and leaves its arguments alone; it declares no semaphore. -/
theorem frame_MergeRefIdeal : Cert.quiescent_MergeRefIdeal := fun m ρ _ =>
  (θ_run (Cert.MergeRefIdeal.defs (F := Ideal)) _ _).mono (fun r h => ⟨fun c => (h c).2, Idealize.ShloMosaic.sem_eq_zero_of_no_sems (by decide) r.2⟩)
    (Cert.MergeRefIdeal.Value.run m ρ)
/-- The reference `OutProjRef` runs and leaves its arguments alone; it declares no semaphore. -/
theorem frame_OutProjRefIdeal : Cert.quiescent_OutProjRefIdeal := fun m ρ _ =>
  (θ_run (Cert.OutProjRefIdeal.defs (F := Ideal)) _ _).mono (fun r h => ⟨fun c => (h c).2.2, Idealize.ShloMosaic.sem_eq_zero_of_no_sems (by decide) r.2⟩)
    (Cert.OutProjRefIdeal.Value.run m ρ)
/-- The reference `DtProjRef` runs and leaves its arguments alone; it declares no semaphore. -/
theorem frame_DtProjRefIdeal : Cert.quiescent_DtProjRefIdeal := fun m ρ _ =>
  (θ_run (Cert.DtProjRefIdeal.defs (F := Ideal)) _ _).mono (fun r h => ⟨fun c => (h c).2, Idealize.ShloMosaic.sem_eq_zero_of_no_sems (by decide) r.2⟩)
    (Cert.DtProjRefIdeal.Value.run m ρ)
/-- The reference `NormRef` runs and leaves its arguments alone; it declares no semaphore. -/
theorem frame_NormRefIdeal : Cert.quiescent_NormRefIdeal := fun m ρ _ =>
  (θ_run (Cert.NormRefIdeal.defs (F := Ideal)) _ _).mono (fun r h => ⟨fun c => (h c).2, Idealize.ShloMosaic.sem_eq_zero_of_no_sems (by decide) r.2⟩)
    (Cert.NormRefIdeal.Value.run m ρ)
/-- The reference `VCastRef` runs and leaves its arguments alone; it declares no semaphore. -/
theorem frame_VCastRefIdeal : Cert.quiescent_VCastRefIdeal := fun m ρ _ =>
  (θ_run (Cert.VCastRefIdeal.defs (F := Ideal)) _ _).mono (fun r h => ⟨fun c => (h c).2, Idealize.ShloMosaic.sem_eq_zero_of_no_sems (by decide) r.2⟩)
    (Cert.VCastRefIdeal.Value.run m ρ)
/-- The reference `GateNormRef` runs and leaves its arguments alone; it declares no semaphore. -/
theorem frame_GateNormRefIdeal : Cert.quiescent_GateNormRefIdeal := fun m ρ _ =>
  (θ_run (Cert.GateNormRefIdeal.defs (F := Ideal)) _ _).mono (fun r h => ⟨fun c => (h c).2, Idealize.ShloMosaic.sem_eq_zero_of_no_sems (by decide) r.2⟩)
    (Cert.GateNormRefIdeal.Value.run m ρ)
/-- The reference `KPrepRef` runs and leaves its arguments alone; it declares no semaphore. -/
theorem frame_KPrepRefIdeal : Cert.quiescent_KPrepRefIdeal := fun m ρ _ =>
  (θ_run (Cert.KPrepRefIdeal.defs (F := Ideal)) _ _).mono (fun r h => ⟨fun c => (h c).2, Idealize.ShloMosaic.sem_eq_zero_of_no_sems (by decide) r.2⟩)
    (Cert.KPrepRefIdeal.Value.run m ρ)
/-- The reference `QPrepRef` runs and leaves its arguments alone; it declares no semaphore. -/
theorem frame_QPrepRefIdeal : Cert.quiescent_QPrepRefIdeal := fun m ρ _ =>
  (θ_run (Cert.QPrepRefIdeal.defs (F := Ideal)) _ _).mono (fun r h => ⟨fun c => (h c).2, Idealize.ShloMosaic.sem_eq_zero_of_no_sems (by decide) r.2⟩)
    (Cert.QPrepRefIdeal.Value.run m ρ)
/-- The reference `UpRef` runs and leaves its arguments alone; it declares no semaphore. -/
theorem frame_UpRefIdeal : Cert.quiescent_UpRefIdeal := fun m ρ _ =>
  (θ_run (Cert.UpRefIdeal.defs (F := Ideal)) _ _).mono (fun r h => ⟨fun c => (h c).2, Idealize.ShloMosaic.sem_eq_zero_of_no_sems (by decide) r.2⟩)
    (Cert.UpRefIdeal.Value.run m ρ)
/-- The reference `UpRef` runs and leaves its arguments alone; it declares no semaphore. -/
theorem frame_UpRefIdeal_pre_up_experts_named : Cert.quiescent_UpRefIdeal_pre_up_experts_named := fun m ρ _ =>
  (θ_run (Cert.UpRefIdeal.defs (F := Ideal)) _ _).mono (fun r h => ⟨fun c => (h c).2, Idealize.ShloMosaic.sem_eq_zero_of_no_sems (by decide) r.2⟩)
    (Cert.UpRefIdeal.Value.run m ρ)
/-- The reference `DownRef` runs and leaves its arguments alone; it declares no semaphore. -/
theorem frame_DownRefIdeal : Cert.quiescent_DownRefIdeal := fun m ρ _ =>
  (θ_run (Cert.DownRefIdeal.defs (F := Ideal)) _ _).mono (fun r h => ⟨fun c => (h c).2, Idealize.ShloMosaic.sem_eq_zero_of_no_sems (by decide) r.2⟩)
    (Cert.DownRefIdeal.Value.run m ρ)
/-- The reference `DownRef` runs and leaves its arguments alone; it declares no semaphore. -/
theorem frame_DownRefIdeal_pre_down_experts_named : Cert.quiescent_DownRefIdeal_pre_down_experts_named := fun m ρ _ =>
  (θ_run (Cert.DownRefIdeal.defs (F := Ideal)) _ _).mono (fun r h => ⟨fun c => (h c).2, Idealize.ShloMosaic.sem_eq_zero_of_no_sems (by decide) r.2⟩)
    (Cert.DownRefIdeal.Value.run m ρ)

/-- The projections: the kernel's result array is the reference's. -/
theorem algebraic_InProj : Cert.algebraic_InProjIdeal_InProjRefIdeal := by
  pair_intro
  · run_from Cert.InProjIdeal.Gen.run_main m g
  · run_from Cert.InProjRefIdeal.Value.run m' g'
    exact (Cert.InProjIdeal.Tile.final m c).symm

/-- The merge: the kernel's result array is the reference's. -/
theorem algebraic_Merge : Cert.algebraic_MergeIdeal_MergeRefIdeal := by
  pair_intro
  · run_from Cert.MergeIdeal.Gen.run_main m g
  · run_from Cert.MergeRefIdeal.Value.run m' g'
    exact (Cert.MergeIdeal.Tile.final m c).symm

/-- The output projection: the kernel's two result arrays are the reference's. -/
theorem algebraic_OutProj : Cert.algebraic_OutProjIdeal_OutProjRefIdeal := by
  pair_intro
  · run_from Cert.OutProjIdeal.Value.run_blocks m g
  · run_from Cert.OutProjRefIdeal.Value.run m' g'
    · exact (Cert.OutProjIdeal.Tile.final7 m c).symm
    · exact (Cert.OutProjIdeal.Tile.final8 m c).symm

/-- The step sizes' projection: the kernel's result array is the reference's. -/
theorem algebraic_DtProj : Cert.algebraic_DtProjIdeal_DtProjRefIdeal := by
  pair_intro
  · run_from Cert.DtProjIdeal.Value.run_blocks m g
  · run_from Cert.DtProjRefIdeal.Value.run m' g'
    exact (Cert.DtProjIdeal.Tile.final m c).symm

/-- The first norm: the kernel's result array is the reference's. -/
theorem algebraic_Norm : Cert.algebraic_NormIdeal_NormRefIdeal := by
  pair_intro
  · run_from Cert.NormIdeal.Value.run_blocks m g
  · run_from Cert.NormRefIdeal.Value.run m' g'
    rw [(hagree c).2.2]
    exact (Cert.NormIdeal.Tile.final m c).symm

/-- The values' cast: the kernel's result array is the reference's. -/
theorem algebraic_VCast : Cert.algebraic_VCastIdeal_VCastRefIdeal := by
  pair_intro
  · run_from Cert.VCastIdeal.Value.run_blocks m g
  · run_from Cert.VCastRefIdeal.Value.run m' g'
    exact (Cert.VCastIdeal.Tile.final m c).symm

/-- The gated norm: the kernel's result array is the reference's. -/
theorem algebraic_GateNorm : Cert.algebraic_GateNormIdeal_GateNormRefIdeal := by
  pair_intro
  · run_from Cert.GateNormIdeal.Value.run_blocks m g
  · run_from Cert.GateNormRefIdeal.Value.run m' g'
    exact (Cert.GateNormIdeal.Tile.final m c).symm

/-- The keys' norm and rotation: the kernel's result array is the reference's. -/
theorem algebraic_KPrep : Cert.algebraic_KPrepIdeal_KPrepRefIdeal := by
  pair_intro
  · run_from Cert.KPrepIdeal.Value.run_blocks m g
  · run_from Cert.KPrepRefIdeal.Value.run m' g'
    refine (Cert.KPrepRefIdeal.Read.val_main_v79_eq _ _).trans (Eq.trans ?_ (Cert.KPrepIdeal.Tile.final m c).symm)
    exact congrArg₂ (Cert.KPrepRefIdeal.Read.val_main_v79 (F := Ideal)) (hagree c).1 (hagree c).2

/-- The queries' norm and rotation: the kernel's result array is the reference's. -/
theorem algebraic_QPrep : Cert.algebraic_QPrepIdeal_QPrepRefIdeal := by
  pair_intro
  · run_from Cert.QPrepIdeal.Value.run_blocks m g
  · run_from Cert.QPrepRefIdeal.Value.run m' g'
    refine (Cert.QPrepRefIdeal.Read.val_main_v63_eq _ _).trans (Eq.trans ?_ (Cert.QPrepIdeal.Tile.final m c).symm)
    exact congrArg₂ (Cert.QPrepRefIdeal.Read.val_main_v63 (F := Ideal)) (hagree c).1 (hagree c).2

/-- The experts' first product: the result array is the reference's term, where the table names experts. -/
theorem value_Up (m : (ℓ : Loc Cert.UpIdeal.nD Cert.UpIdeal.τ Cert.UpIdeal.sig) → Buf (Elt Ideal) ℓ) (hpre : Cert.Pre_UpIdeal m)
    (hO : Cert.UpIdeal.Gen.Ok m) (c : Dev Cert.UpIdeal.nD) :
    (Cert.UpIdeal.Gen.dats m hO 0 c).arrAt 5 (Cert.UpIdeal.Gen.cfgM m hO).N
      = Cert.UpRefIdeal.Read.val_main_v38 (F := Ideal) (m ((c : Thread Cert.UpIdeal.nD Cert.UpIdeal.τ).loc Cert.UpIdeal.main_arg0))
          (m ((c : Thread Cert.UpIdeal.nD Cert.UpIdeal.τ).loc Cert.UpIdeal.main_arg1))
          (m ((c : Thread Cert.UpIdeal.nD Cert.UpIdeal.τ).loc Cert.UpIdeal.main_arg2))
          (m ((c : Thread Cert.UpIdeal.nD Cert.UpIdeal.τ).loc Cert.UpIdeal.main_arg3)) := by
  have e : Cert.UpIdeal.Gen.tbl m 0 = m (((0 : Dev Cert.UpIdeal.nD) : Thread Cert.UpIdeal.nD Cert.UpIdeal.τ).loc Cert.UpIdeal.main_arg0) :=
    Cert.UpIdeal.Gen.V_main_arg0 m 0
  obtain rfl : c = 0 := Subsingleton.elim _ _
  rw [← e]
  refine Cert.UpIdeal.Tile.final m hO (fun b => ?_) 0
  rw [e]
  exact Cert.UpIdeal.Table.range m hpre (ix1 b)

/-- The experts' first product: the kernel's result array is the reference's, where the table names experts. -/
theorem algebraic_Up : Cert.algebraic_UpIdeal_UpRefIdeal := by
  intro m g m' g' hpre hagree
  have hO := Cert.UpIdeal.Table.ok_of_pre m hpre
  refine ⟨fun c => (Cert.UpIdeal.Gen.dats m hO 0 c).arrAt 5 (Cert.UpIdeal.Gen.cfgM m hO).N, ?_, ?_⟩
  · exact θ_run_mono (θ_run_and (Cert.UpIdeal.Gen.run_main m g hO) (Cert.UpIdeal.Gen.unchanged m g hO))
      fun r hr c => ⟨(hr.1 c).1 5, hr.2 c⟩
  · refine θ_run_mono (Cert.UpRefIdeal.Value.run m' g') fun r hr c => ⟨(hr c).1.trans ?_, (hr c).2⟩
    refine (Cert.UpRefIdeal.Read.val_main_v38_eq m' c).trans (Eq.trans ?_ (value_Up m hpre hO c).symm)
    rw [(hagree c).1, (hagree c).2.1, (hagree c).2.2.1, (hagree c).2.2.2]

/-- The experts' second product: the result array is the reference's term, where the table names experts. -/
theorem value_Down (m : (ℓ : Loc Cert.DownIdeal.nD Cert.DownIdeal.τ Cert.DownIdeal.sig) → Buf (Elt Ideal) ℓ) (hpre : Cert.Pre_DownIdeal m)
    (hO : Cert.DownIdeal.Gen.Ok m) (c : Dev Cert.DownIdeal.nD) :
    (Cert.DownIdeal.Gen.dats m hO 0 c).arrAt 3 (Cert.DownIdeal.Gen.cfgM m hO).N
      = Cert.DownRefIdeal.Read.val_main_v20 (F := Ideal) (m ((c : Thread Cert.DownIdeal.nD Cert.DownIdeal.τ).loc Cert.DownIdeal.main_arg0))
          (m ((c : Thread Cert.DownIdeal.nD Cert.DownIdeal.τ).loc Cert.DownIdeal.main_arg1))
          (m ((c : Thread Cert.DownIdeal.nD Cert.DownIdeal.τ).loc Cert.DownIdeal.main_arg2))
          (m ((c : Thread Cert.DownIdeal.nD Cert.DownIdeal.τ).loc Cert.DownIdeal.main_arg3)) := by
  have e : Cert.DownIdeal.Gen.tbl m 0 = m (((0 : Dev Cert.DownIdeal.nD) : Thread Cert.DownIdeal.nD Cert.DownIdeal.τ).loc Cert.DownIdeal.main_arg0) :=
    Cert.DownIdeal.Gen.V_main_arg0 m 0
  obtain rfl : c = 0 := Subsingleton.elim _ _
  rw [← e]
  refine Cert.DownIdeal.Tile.final m hO (fun b => ?_) 0
  rw [e]
  exact Cert.DownIdeal.Table.range m hpre (ix1 b)

/-- The experts' second product: the kernel's result array is the reference's, where the table names experts. -/
theorem algebraic_Down : Cert.algebraic_DownIdeal_DownRefIdeal := by
  intro m g m' g' hpre hagree
  have hO := Cert.DownIdeal.Table.ok_of_pre m hpre
  refine ⟨fun c => (Cert.DownIdeal.Gen.dats m hO 0 c).arrAt 3 (Cert.DownIdeal.Gen.cfgM m hO).N, ?_, ?_⟩
  · exact θ_run_mono (θ_run_and (Cert.DownIdeal.Gen.run_main m g hO) (Cert.DownIdeal.Gen.unchanged m g hO))
      fun r hr c => ⟨(hr.1 c).1 3, hr.2 c⟩
  · refine θ_run_mono (Cert.DownRefIdeal.Value.run m' g') fun r hr c => ⟨(hr c).1.trans ?_, (hr c).2⟩
    refine (Cert.DownRefIdeal.Read.val_main_v20_eq _ _ _ _).trans (Eq.trans ?_ (value_Down m hpre hO c).symm)
    rw [(hagree c).1, (hagree c).2.1, (hagree c).2.2.1, (hagree c).2.2.2]

/-- The attention: the kernel's result array is the reference's. -/
theorem algebraic_Attention : Cert.algebraic_KernelIdeal_ReferenceIdeal := by
  pair_intro
  · run_from Cert.KernelIdeal.Gen.run_main m g
  · run_from Cert.ReferenceIdeal.Value.run m' g'
    refine (Cert.ReferenceIdeal.Read.val_main_v100_eq _ _).trans (Eq.trans ?_ (Cert.KernelIdeal.Row.final m c).symm)
    rw [(hagree c).1, (hagree c).2.1, (hagree c).2.2.1, (hagree c).2.2.2]

/-- Every claim of the directory. -/
theorem claim : Cert.Claim := ⟨Cert.Kernel.Gen.facts, Cert.KernelIdeal.Gen.facts, Cert.ReferenceIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.DtProj.Gen.facts, Cert.DtProjIdeal.Gen.facts, Cert.DtProjRefIdeal.Gen.facts, Cert.Norm.Gen.facts, Cert.NormIdeal.Gen.facts, Cert.NormRefIdeal.Gen.facts, Cert.VCast.Gen.facts, Cert.VCastIdeal.Gen.facts, Cert.VCastRefIdeal.Gen.facts, Cert.GateNorm.Gen.facts, Cert.GateNormIdeal.Gen.facts, Cert.GateNormRefIdeal.Gen.facts, Cert.KPrep.Gen.facts, Cert.KPrepIdeal.Gen.facts, Cert.KPrepRefIdeal.Gen.facts, Cert.QPrep.Gen.facts, Cert.QPrepIdeal.Gen.facts, Cert.QPrepRefIdeal.Gen.facts, Cert.Up.Gen.facts, Cert.UpIdeal.Gen.facts, Cert.UpRefIdeal.Gen.facts, Cert.Down.Gen.facts, Cert.DownIdeal.Gen.facts, Cert.DownRefIdeal.Gen.facts, Cert.Pre_up_experts_named.Gen.facts, Cert.Pre_down_experts_named.Gen.facts,
  fun m ρ _ => Cert.Kernel.Gen.frame m ρ,
  fun m ρ _ => Cert.KernelIdeal.Gen.frame m ρ,
  frame_ReferenceIdeal,
  fun m ρ _ => Cert.InProj.Gen.frame m ρ,
  fun m ρ _ => Cert.InProjIdeal.Gen.frame m ρ,
  frame_InProjRefIdeal,
  fun m ρ _ => Cert.Merge.Gen.frame m ρ,
  fun m ρ _ => Cert.MergeIdeal.Gen.frame m ρ,
  frame_MergeRefIdeal,
  fun m ρ _ => Cert.OutProj.Gen.frame m ρ,
  fun m ρ _ => Cert.OutProjIdeal.Gen.frame m ρ,
  frame_OutProjRefIdeal,
  fun m ρ _ => Cert.DtProj.Gen.frame m ρ,
  fun m ρ _ => Cert.DtProjIdeal.Gen.frame m ρ,
  frame_DtProjRefIdeal,
  fun m ρ _ => Cert.Norm.Gen.frame m ρ,
  fun m ρ _ => Cert.NormIdeal.Gen.frame m ρ,
  frame_NormRefIdeal,
  fun m ρ _ => Cert.VCast.Gen.frame m ρ,
  fun m ρ _ => Cert.VCastIdeal.Gen.frame m ρ,
  frame_VCastRefIdeal,
  fun m ρ _ => Cert.GateNorm.Gen.frame m ρ,
  fun m ρ _ => Cert.GateNormIdeal.Gen.frame m ρ,
  frame_GateNormRefIdeal,
  fun m ρ _ => Cert.KPrep.Gen.frame m ρ,
  fun m ρ _ => Cert.KPrepIdeal.Gen.frame m ρ,
  frame_KPrepRefIdeal,
  fun m ρ _ => Cert.QPrep.Gen.frame m ρ,
  fun m ρ _ => Cert.QPrepIdeal.Gen.frame m ρ,
  frame_QPrepRefIdeal,
  fun m ρ h => Cert.Up.Gen.frame m ρ (Cert.Up.Table.ok_of_pre m h),
  fun m ρ h => Cert.UpIdeal.Gen.frame m ρ (Cert.UpIdeal.Table.ok_of_pre m h),
  frame_UpRefIdeal,
  frame_UpRefIdeal_pre_up_experts_named,
  fun m ρ h => Cert.Down.Gen.frame m ρ (Cert.Down.Table.ok_of_pre m h),
  fun m ρ h => Cert.DownIdeal.Gen.frame m ρ (Cert.DownIdeal.Table.ok_of_pre m h),
  frame_DownRefIdeal,
  frame_DownRefIdeal_pre_down_experts_named,
  trivial,
  algebraic_Attention,
  trivial,
  algebraic_InProj,
  trivial,
  algebraic_Merge,
  trivial,
  algebraic_OutProj,
  trivial,
  algebraic_DtProj,
  trivial,
  algebraic_Norm,
  trivial,
  algebraic_VCast,
  trivial,
  algebraic_GateNorm,
  trivial,
  algebraic_KPrep,
  trivial,
  algebraic_QPrep,
  trivial,
  algebraic_Up,
  trivial,
  algebraic_Down⟩

end Cert.Proof

end
